-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)) (v5 : (c : Dev Cert.Kernel2Ideal.nD) → Buf (Elt Ideal) ((c.tc : Thread Cert.Kernel2Ideal.nD Cert.Kernel2Ideal.τ).loc Cert.Kernel2Ideal.main_v26_5)) (v6 : (c : Dev Cert.Kernel2Ideal.nD) → Buf (Elt Ideal) ((c.tc : Thread Cert.Kernel2Ideal.nD Cert.Kernel2Ideal.τ).loc Cert.Kernel2Ideal.main_v26_6)) (v7 : (c : Dev Cert.Kernel2Ideal.nD) → Buf (Elt Ideal) ((c.tc : Thread Cert.Kernel2Ideal.nD Cert.Kernel2Ideal.τ).loc Cert.Kernel2Ideal.main_v26_7)) (v8 : (c : Dev Cert.Kernel2Ideal.nD) → Buf (Elt Ideal) ((c.tc : Thread Cert.Kernel2Ideal.nD Cert.Kernel2Ideal.τ).loc Cert.Kernel2Ideal.main_v26_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_v26_5) = v5 c
          ∧ r.2.mem ((c.tc : Thread Cert.Kernel2Ideal.nD Cert.Kernel2Ideal.τ).loc Cert.Kernel2Ideal.main_v26_6) = v6 c
          ∧ r.2.mem ((c.tc : Thread Cert.Kernel2Ideal.nD Cert.Kernel2Ideal.τ).loc Cert.Kernel2Ideal.main_v26_7) = v7 c
          ∧ r.2.mem ((c.tc : Thread Cert.Kernel2Ideal.nD Cert.Kernel2Ideal.τ).loc Cert.Kernel2Ideal.main_v26_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v11) = v3 c
          ∧ r.2.mem ((c.tc : Thread Cert.Reference2Ideal.nD Cert.Reference2Ideal.τ).loc Cert.Reference2Ideal.main_v12) = v4 c
          ∧ r.2.mem ((c.tc : Thread Cert.Reference2Ideal.nD Cert.Reference2Ideal.τ).loc Cert.Reference2Ideal.main_v13) = v5 c
          ∧ r.2.mem ((c.tc : Thread Cert.Reference2Ideal.nD Cert.Reference2Ideal.τ).loc Cert.Reference2Ideal.main_v39) = v6 c
          ∧ r.2.mem ((c.tc : Thread Cert.Reference2Ideal.nD Cert.Reference2Ideal.τ).loc Cert.Reference2Ideal.main_v40) = v7 c
          ∧ r.2.mem ((c.tc : Thread Cert.Reference2Ideal.nD Cert.Reference2Ideal.τ).loc Cert.Reference2Ideal.main_v36) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.named_const.Statement Cert.Kernel3Ideal.κ "inv_dim" .f32 0x3AAAAAAB#32 ((1 / 768 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v121) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v33_0)) (v1 : (c : Dev Cert.Kernel4Ideal.nD) → Buf (Elt Ideal) ((c.tc : Thread Cert.Kernel4Ideal.nD Cert.Kernel4Ideal.τ).loc Cert.Kernel4Ideal.main_v33_1)) (v2 : (c : Dev Cert.Kernel4Ideal.nD) → Buf (Elt Ideal) ((c.tc : Thread Cert.Kernel4Ideal.nD Cert.Kernel4Ideal.τ).loc Cert.Kernel4Ideal.main_v33_2)) (v3 : (c : Dev Cert.Kernel4Ideal.nD) → Buf (Elt Ideal) ((c.tc : Thread Cert.Kernel4Ideal.nD Cert.Kernel4Ideal.τ).loc Cert.Kernel4Ideal.main_v33_3)) (v4 : (c : Dev Cert.Kernel4Ideal.nD) → Buf (Elt Ideal) ((c.tc : Thread Cert.Kernel4Ideal.nD Cert.Kernel4Ideal.τ).loc Cert.Kernel4Ideal.main_v33_4)) (v5 : (c : Dev Cert.Kernel4Ideal.nD) → Buf (Elt Ideal) ((c.tc : Thread Cert.Kernel4Ideal.nD Cert.Kernel4Ideal.τ).loc Cert.Kernel4Ideal.main_v33_5)) (v6 : (c : Dev Cert.Kernel4Ideal.nD) → Buf (Elt Ideal) ((c.tc : Thread Cert.Kernel4Ideal.nD Cert.Kernel4Ideal.τ).loc Cert.Kernel4Ideal.main_v33_6)) (v7 : (c : Dev Cert.Kernel4Ideal.nD) → Buf (Elt Ideal) ((c.tc : Thread Cert.Kernel4Ideal.nD Cert.Kernel4Ideal.τ).loc Cert.Kernel4Ideal.main_v33_7)) (v8 : (c : Dev Cert.Kernel4Ideal.nD) → Buf (Elt Ideal) ((c.tc : Thread Cert.Kernel4Ideal.nD Cert.Kernel4Ideal.τ).loc Cert.Kernel4Ideal.main_v33_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v33_0) = v0 c
          ∧ r.2.mem ((c.tc : Thread Cert.Kernel4Ideal.nD Cert.Kernel4Ideal.τ).loc Cert.Kernel4Ideal.main_v33_1) = v1 c
          ∧ r.2.mem ((c.tc : Thread Cert.Kernel4Ideal.nD Cert.Kernel4Ideal.τ).loc Cert.Kernel4Ideal.main_v33_2) = v2 c
          ∧ r.2.mem ((c.tc : Thread Cert.Kernel4Ideal.nD Cert.Kernel4Ideal.τ).loc Cert.Kernel4Ideal.main_v33_3) = v3 c
          ∧ r.2.mem ((c.tc : Thread Cert.Kernel4Ideal.nD Cert.Kernel4Ideal.τ).loc Cert.Kernel4Ideal.main_v33_4) = v4 c
          ∧ r.2.mem ((c.tc : Thread Cert.Kernel4Ideal.nD Cert.Kernel4Ideal.τ).loc Cert.Kernel4Ideal.main_v33_5) = v5 c
          ∧ r.2.mem ((c.tc : Thread Cert.Kernel4Ideal.nD Cert.Kernel4Ideal.τ).loc Cert.Kernel4Ideal.main_v33_6) = v6 c
          ∧ r.2.mem ((c.tc : Thread Cert.Kernel4Ideal.nD Cert.Kernel4Ideal.τ).loc Cert.Kernel4Ideal.main_v33_7) = v7 c
          ∧ r.2.mem ((c.tc : Thread Cert.Kernel4Ideal.nD Cert.Kernel4Ideal.τ).loc Cert.Kernel4Ideal.main_v33_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_v45) = v3 c
          ∧ r.2.mem ((c.tc : Thread Cert.Reference4Ideal.nD Cert.Reference4Ideal.τ).loc Cert.Reference4Ideal.main_v46) = v4 c
          ∧ r.2.mem ((c.tc : Thread Cert.Reference4Ideal.nD Cert.Reference4Ideal.τ).loc Cert.Reference4Ideal.main_v47) = v5 c
          ∧ r.2.mem ((c.tc : Thread Cert.Reference4Ideal.nD Cert.Reference4Ideal.τ).loc Cert.Reference4Ideal.main_v48) = v6 c
          ∧ r.2.mem ((c.tc : Thread Cert.Reference4Ideal.nD Cert.Reference4Ideal.τ).loc Cert.Reference4Ideal.main_v49) = v7 c
          ∧ r.2.mem ((c.tc : Thread Cert.Reference4Ideal.nD Cert.Reference4Ideal.τ).loc Cert.Reference4Ideal.main_v50) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "inv_dim" .f32 0x3AAAAAAB#32 ((1 / 768 : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)) →
    ∃ (v0 : (c : Dev Cert.Kernel5Ideal.nD) → Buf (Elt Ideal) ((c.tc : Thread Cert.Kernel5Ideal.nD Cert.Kernel5Ideal.τ).loc Cert.Kernel5Ideal.main_v50)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v50) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v126) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v25)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v25) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8x2048x1536 : Shape := ⟨3, ![8, 2048, 1536]⟩
abbrev S8x2048x256 : Shape := ⟨3, ![8, 2048, 256]⟩
abbrev S8x128x256 : Shape := ⟨3, ![8, 128, 256]⟩
abbrev S8x2048x128 : Shape := ⟨3, ![8, 2048, 128]⟩
abbrev S4 : Shape := ⟨1, ![4]⟩
abbrev S4x1x1 : Shape := ⟨3, ![4, 1, 1]⟩
abbrev S128 : Shape := ⟨1, ![128]⟩
abbrev S1x128x1 : Shape := ⟨3, ![1, 128, 1]⟩
abbrev S512 : Shape := ⟨1, ![512]⟩
abbrev S1x1x512 : Shape := ⟨3, ![1, 1, 512]⟩
abbrev S_ : Shape := ⟨0, ![]⟩
abbrev S4x1x512 : Shape := ⟨3, ![4, 1, 512]⟩
abbrev S4x128x512 : Shape := ⟨3, ![4, 128, 512]⟩
abbrev S8x2048x768 : Shape := ⟨3, ![8, 2048, 768]⟩
abbrev S1x128x1536 : Shape := ⟨3, ![1, 128, 1536]⟩
abbrev S1x2048x256 : Shape := ⟨3, ![1, 2048, 256]⟩
abbrev S1x128x256 : Shape := ⟨3, ![1, 128, 256]⟩
abbrev S1x128x128 : Shape := ⟨3, ![1, 128, 128]⟩
abbrev S1x128x768 : Shape := ⟨3, ![1, 128, 768]⟩
abbrev S2x4x768x512 : Shape := ⟨4, ![2, 4, 768, 512]⟩
abbrev S2x768x512 : Shape := ⟨3, ![2, 768, 512]⟩
abbrev S2x768x640 : Shape := ⟨3, ![2, 768, 640]⟩
abbrev S2x768x128 : Shape := ⟨3, ![2, 768, 128]⟩
abbrev S128x1 : Shape := ⟨2, ![128, 1]⟩
abbrev S128x128 : Shape := ⟨2, ![128, 128]⟩
abbrev S768x128 : Shape := ⟨2, ![768, 128]⟩
abbrev S6x128x128 : Shape := ⟨3, ![6, 128, 128]⟩
abbrev S6x128 : Shape := ⟨2, ![6, 128]⟩
abbrev S6x128x1 : Shape := ⟨3, ![6, 128, 1]⟩
abbrev S32x128 : Shape := ⟨2, ![32, 128]⟩
abbrev S1x128 : Shape := ⟨2, ![1, 128]⟩
abbrev S96x128 : Shape := ⟨2, ![96, 128]⟩
abbrev S1x640 : Shape := ⟨2, ![1, 640]⟩
abbrev S128x640 : Shape := ⟨2, ![128, 640]⟩
abbrev S1x640x128 : Shape := ⟨3, ![1, 640, 128]⟩
abbrev S640x128 : Shape := ⟨2, ![640, 128]⟩
abbrev S768x640 : Shape := ⟨2, ![768, 640]⟩
abbrev S1x128x640 : Shape := ⟨3, ![1, 128, 640]⟩
abbrev S1x768x640 : Shape := ⟨3, ![1, 768, 640]⟩
abbrev S1x512 : Shape := ⟨2, ![1, 512]⟩
abbrev S128x512 : Shape := ⟨2, ![128, 512]⟩
abbrev S1x512x128 : Shape := ⟨3, ![1, 512, 128]⟩
abbrev S512x128 : Shape := ⟨2, ![512, 128]⟩
abbrev S768x512 : Shape := ⟨2, ![768, 512]⟩
abbrev S1x128x512 : Shape := ⟨3, ![1, 128, 512]⟩
abbrev S1x1x128x512 : Shape := ⟨4, ![1, 1, 128, 512]⟩
abbrev S2x768 : Shape := ⟨2, ![2, 768]⟩
abbrev S2x768x1 : Shape := ⟨3, ![2, 768, 1]⟩
abbrev S1x768x128 : Shape := ⟨3, ![1, 768, 128]⟩
abbrev S1x768x512 : Shape := ⟨3, ![1, 768, 512]⟩

abbrev nBuf : Space → Nat
  | .hbm => 40
  | .vmem => 19
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x256, .bf16⟩
  | .hbm, ⟨2, _⟩ => ⟨S8x2048x256, .bf16⟩
  | .hbm, ⟨3, _⟩ => ⟨S8x128x256, .bf16⟩
  | .hbm, ⟨4, _⟩ => ⟨S8x2048x128, .f32⟩
  | .hbm, ⟨5, _⟩ => ⟨S4, .i32⟩
  | .hbm, ⟨6, _⟩ => ⟨S4x1x1, .i32⟩
  | .hbm, ⟨7, _⟩ => ⟨S128, .i32⟩
  | .hbm, ⟨8, _⟩ => ⟨S1x128x1, .i32⟩
  | .hbm, ⟨9, _⟩ => ⟨S512, .i32⟩
  | .hbm, ⟨10, _⟩ => ⟨S1x1x512, .i32⟩
  | .hbm, ⟨11, _⟩ => ⟨S_, .i32⟩
  | .hbm, ⟨12, _⟩ => ⟨S4x1x1, .i32⟩
  | .hbm, ⟨13, _⟩ => ⟨S4x1x1, .i32⟩
  | .hbm, ⟨14, _⟩ => ⟨S4x1x512, .i32⟩
  | .hbm, ⟨15, _⟩ => ⟨S4x1x512, .i32⟩
  | .hbm, ⟨16, _⟩ => ⟨S4x1x512, .i32⟩
  | .hbm, ⟨17, _⟩ => ⟨S_, .i32⟩
  | .hbm, ⟨18, _⟩ => ⟨S_, .i32⟩
  | .hbm, ⟨19, _⟩ => ⟨S4x1x512, .i32⟩
  | .hbm, ⟨20, _⟩ => ⟨S4x1x512, .i32⟩
  | .hbm, ⟨21, _⟩ => ⟨S4x1x512, .i32⟩
  | .hbm, ⟨22, _⟩ => ⟨S_, .i32⟩
  | .hbm, ⟨23, _⟩ => ⟨S4x1x512, .i32⟩
  | .hbm, ⟨24, _⟩ => ⟨S4x1x512, .i1⟩
  | .hbm, ⟨25, _⟩ => ⟨S4x1x512, .i32⟩
  | .hbm, ⟨26, _⟩ => ⟨S4x1x512, .i32⟩
  | .hbm, ⟨27, _⟩ => ⟨S_, .i32⟩
  | .hbm, ⟨28, _⟩ => ⟨S4x1x512, .i32⟩
  | .hbm, ⟨29, _⟩ => ⟨S4x1x512, .i1⟩
  | .hbm, ⟨30, _⟩ => ⟨S4x1x512, .i1⟩
  | .hbm, ⟨31, _⟩ => ⟨S_, .i32⟩
  | .hbm, ⟨32, _⟩ => ⟨S4x1x512, .i32⟩
  | .hbm, ⟨33, _⟩ => ⟨S4x1x512, .i32⟩
  | .hbm, ⟨34, _⟩ => ⟨S4x1x512, .i32⟩
  | .hbm, ⟨35, _⟩ => ⟨S4x128x512, .i32⟩
  | .hbm, ⟨36, _⟩ => ⟨S4x128x512, .i32⟩
  | .hbm, ⟨37, _⟩ => ⟨S4x128x512, .i1⟩
  | .hbm, ⟨38, _⟩ => ⟨S4x128x512, .bf16⟩
  | .hbm, ⟨39, _⟩ => ⟨S8x2048x768, .f32⟩
  | .local _ .vmem, ⟨0, _⟩ => ⟨S1x128x1536, .bf16⟩
  | .local _ .vmem, ⟨1, _⟩ => ⟨S1x128x1536, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x128, .f32⟩
  | .local _ .vmem, ⟨9, _⟩ => ⟨S1x128x128, .f32⟩
  | .local _ .vmem, ⟨10, _⟩ => ⟨S4x128x512, .bf16⟩
  | .local _ .vmem, ⟨11, _⟩ => ⟨S1x128x768, .f32⟩
  | .local _ .vmem, ⟨12, _⟩ => ⟨S1x128x768, .f32⟩
  | .local _ .vmem, ⟨13, _⟩ => ⟨S2x4x768x512, .f32⟩
  | .local _ .vmem, ⟨14, _⟩ => ⟨S2x768x512, .bf16⟩
  | .local _ .vmem, ⟨15, _⟩ => ⟨S2x768x640, .bf16⟩
  | .local _ .vmem, ⟨16, _⟩ => ⟨S2x768x128, .f32⟩
  | .local _ .vmem, ⟨17, _⟩ => ⟨S2x768x128, .f32⟩
  | .local _ .vmem, ⟨18, _⟩ => ⟨S2x768x128, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32_267 : BitVec 32 := 512#32
  let v1088 : BitVec 32 := Scalar.subi v0 c512_i32_267
  let c0_i32_268 : BitVec 32 := 0#32
  let v1089 : BitVec 32 := Scalar.maxsi v1088 c0_i32_268
  v1089
def k0_off1 (i : grid0.Coords) : Fin 3 → Nat :=
  let c0_288 : Index := 0#32
  let arg1 : BitVec 32 := BitVec.ofNat 32 (i 1).val
  let c128_i32 : BitVec 32 := 128#32
  let v0 : BitVec 32 := Scalar.muli arg1 c128_i32
  let c512_i32_267 : BitVec 32 := 512#32
  let v1088 : BitVec 32 := Scalar.subi v0 c512_i32_267
  let c0_i32_268 : BitVec 32 := 0#32
  let v1089 : BitVec 32 := Scalar.maxsi v1088 c0_i32_268
  let v1090 : BitVec 32 := v1089
  let v1116 : Index := Scalar.indexCast v1090
  let c0_289 : Index := 0#32
  ![0, v1116.toNat, 0]
def k0_off2 (i : grid0.Coords) : Fin 3 → Nat :=
  let c0_324 : Index := 0#32
  let arg1 : BitVec 32 := BitVec.ofNat 32 (i 1).val
  let c128_i32 : BitVec 32 := 128#32
  let v0 : BitVec 32 := Scalar.muli arg1 c128_i32
  let c512_i32_267 : BitVec 32 := 512#32
  let v1088 : BitVec 32 := Scalar.subi v0 c512_i32_267
  let c0_i32_268 : BitVec 32 := 0#32
  let v1089 : BitVec 32 := Scalar.maxsi v1088 c0_i32_268
  let v1090 : BitVec 32 := v1089
  let v1248 : Index := Scalar.indexCast v1090
  let c128_325 : Index := 128#32
  ![0, v1248.toNat, 128]
@[reducible] def k0_t1_loop (i : grid0.Coords) : Scf.Loop 32 :=
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_436 : BitVec 32 := 1#32
  ⟨c0_i32_433, v1579, c1_i32_436⟩
def k0_mult2 (i : grid0.Coords) (k0_t1 : Fin (k0_t1_loop i).trips) : BitVec 32 :=
  let c0_i32_433 : BitVec 32 := 0#32
  let c1_i32_436 : BitVec 32 := 1#32
  let arg15 : BitVec 32 := Scf.iv c0_i32_433 c1_i32_436 k0_t1
  let c512_i32_525 : BitVec 32 := 512#32
  let v1736 : BitVec 32 := Scalar.muli arg15 c512_i32_525
  v1736
def k0_off3 (i : grid0.Coords) (k0_t1 : Fin (k0_t1_loop i).trips) : Fin 3 → Nat :=
  let c0_544 : Index := 0#32
  let c0_i32_433 : BitVec 32 := 0#32
  let c1_i32_436 : BitVec 32 := 1#32
  let arg15 : BitVec 32 := Scf.iv c0_i32_433 c1_i32_436 k0_t1
  let c512_i32_525 : BitVec 32 := 512#32
  let v1736 : BitVec 32 := Scalar.muli arg15 c512_i32_525
  let v1737 : BitVec 32 := v1736
  let v1757 : Index := Scalar.indexCast v1737
  let c0_545 : Index := 0#32
  ![0, v1757.toNat, 0]
def k0_off4 (i : grid0.Coords) (k0_t1 : Fin (k0_t1_loop i).trips) : Fin 3 → Nat :=
  let c0_i32_433 : BitVec 32 := 0#32
  let c1_i32_436 : BitVec 32 := 1#32
  let arg15 : BitVec 32 := Scf.iv c0_i32_433 c1_i32_436 k0_t1
  let v1761 : Index := Scalar.indexCast arg15
  let c0_547 : Index := 0#32
  let c0_548 : Index := 0#32
  ![v1761.toNat, 0, 0]
def k0_off5 (i : grid0.Coords) (k0_t1 : Fin (k0_t1_loop i).trips) : Fin 4 → Nat :=
  let c0_552 : Index := 0#32
  let c0_i32_433 : BitVec 32 := 0#32
  let c1_i32_436 : BitVec 32 := 1#32
  let arg15 : BitVec 32 := Scf.iv c0_i32_433 c1_i32_436 k0_t1
  let v1771 : Index := Scalar.indexCast arg15
  let c0_553 : Index := 0#32
  let c0_554 : Index := 0#32
  ![0, v1771.toNat, 0, 0]
def k0_off6 (i : grid0.Coords) (k0_t1 : Fin (k0_t1_loop i).trips) : Fin 4 → Nat :=
  let c0_562 : Index := 0#32
  let c0_i32_433 : BitVec 32 := 0#32
  let c1_i32_436 : BitVec 32 := 1#32
  let arg15 : BitVec 32 := Scf.iv c0_i32_433 c1_i32_436 k0_t1
  let v1791 : Index := Scalar.indexCast arg15
  let c128_563 : Index := 128#32
  let c0_564 : Index := 0#32
  ![0, v1791.toNat, 128, 0]
def k0_off7 (i : grid0.Coords) (k0_t1 : Fin (k0_t1_loop i).trips) : Fin 4 → Nat :=
  let c0_572 : Index := 0#32
  let c0_i32_433 : BitVec 32 := 0#32
  let c1_i32_436 : BitVec 32 := 1#32
  let arg15 : BitVec 32 := Scf.iv c0_i32_433 c1_i32_436 k0_t1
  let v1811 : Index := Scalar.indexCast arg15
  let c256_573 : Index := 256#32
  let c0_574 : Index := 0#32
  ![0, v1811.toNat, 256, 0]
def k0_off8 (i : grid0.Coords) (k0_t1 : Fin (k0_t1_loop i).trips) : Fin 4 → Nat :=
  let c0_582 : Index := 0#32
  let c0_i32_433 : BitVec 32 := 0#32
  let c1_i32_436 : BitVec 32 := 1#32
  let arg15 : BitVec 32 := Scf.iv c0_i32_433 c1_i32_436 k0_t1
  let v1831 : Index := Scalar.indexCast arg15
  let c384_583 : Index := 384#32
  let c0_584 : Index := 0#32
  ![0, v1831.toNat, 384, 0]
def k0_off9 (i : grid0.Coords) (k0_t1 : Fin (k0_t1_loop i).trips) : Fin 4 → Nat :=
  let c0_592 : Index := 0#32
  let c0_i32_433 : BitVec 32 := 0#32
  let c1_i32_436 : BitVec 32 := 1#32
  let arg15 : BitVec 32 := Scf.iv c0_i32_433 c1_i32_436 k0_t1
  let v1851 : Index := Scalar.indexCast arg15
  let c512_593 : Index := 512#32
  let c0_594 : Index := 0#32
  ![0, v1851.toNat, 512, 0]
def k0_off10 (i : grid0.Coords) (k0_t1 : Fin (k0_t1_loop i).trips) : Fin 4 → Nat :=
  let c0_602 : Index := 0#32
  let c0_i32_433 : BitVec 32 := 0#32
  let c1_i32_436 : BitVec 32 := 1#32
  let arg15 : BitVec 32 := Scf.iv c0_i32_433 c1_i32_436 k0_t1
  let v1871 : Index := Scalar.indexCast arg15
  let c640_603 : Index := 640#32
  let c0_604 : Index := 0#32
  ![0, v1871.toNat, 640, 0]
def k0_off11 (i : grid0.Coords) (k0_t1 : Fin (k0_t1_loop i).trips) : Fin 4 → Nat :=
  let c1_637 : Index := 1#32
  let c0_i32_433 : BitVec 32 := 0#32
  let c1_i32_436 : BitVec 32 := 1#32
  let arg15 : BitVec 32 := Scf.iv c0_i32_433 c1_i32_436 k0_t1
  let v1915 : Index := Scalar.indexCast arg15
  let c0_638 : Index := 0#32
  let c0_639 : Index := 0#32
  ![1, v1915.toNat, 0, 0]
def k0_off12 (i : grid0.Coords) (k0_t1 : Fin (k0_t1_loop i).trips) : Fin 4 → Nat :=
  let c1_647 : Index := 1#32
  let c0_i32_433 : BitVec 32 := 0#32
  let c1_i32_436 : BitVec 32 := 1#32
  let arg15 : BitVec 32 := Scf.iv c0_i32_433 c1_i32_436 k0_t1
  let v1935 : Index := Scalar.indexCast arg15
  let c128_648 : Index := 128#32
  let c0_649 : Index := 0#32
  ![1, v1935.toNat, 128, 0]
def k0_off13 (i : grid0.Coords) (k0_t1 : Fin (k0_t1_loop i).trips) : Fin 4 → Nat :=
  let c1_657 : Index := 1#32
  let c0_i32_433 : BitVec 32 := 0#32
  let c1_i32_436 : BitVec 32 := 1#32
  let arg15 : BitVec 32 := Scf.iv c0_i32_433 c1_i32_436 k0_t1
  let v1955 : Index := Scalar.indexCast arg15
  let c256_658 : Index := 256#32
  let c0_659 : Index := 0#32
  ![1, v1955.toNat, 256, 0]
def k0_off14 (i : grid0.Coords) (k0_t1 : Fin (k0_t1_loop i).trips) : Fin 4 → Nat :=
  let c1_667 : Index := 1#32
  let c0_i32_433 : BitVec 32 := 0#32
  let c1_i32_436 : BitVec 32 := 1#32
  let arg15 : BitVec 32 := Scf.iv c0_i32_433 c1_i32_436 k0_t1
  let v1975 : Index := Scalar.indexCast arg15
  let c384_668 : Index := 384#32
  let c0_669 : Index := 0#32
  ![1, v1975.toNat, 384, 0]
def k0_off15 (i : grid0.Coords) (k0_t1 : Fin (k0_t1_loop i).trips) : Fin 4 → Nat :=
  let c1_677 : Index := 1#32
  let c0_i32_433 : BitVec 32 := 0#32
  let c1_i32_436 : BitVec 32 := 1#32
  let arg15 : BitVec 32 := Scf.iv c0_i32_433 c1_i32_436 k0_t1
  let v1995 : Index := Scalar.indexCast arg15
  let c512_678 : Index := 512#32
  let c0_679 : Index := 0#32
  ![1, v1995.toNat, 512, 0]
def k0_off16 (i : grid0.Coords) (k0_t1 : Fin (k0_t1_loop i).trips) : Fin 4 → Nat :=
  let c1_687 : Index := 1#32
  let c0_i32_433 : BitVec 32 := 0#32
  let c1_i32_436 : BitVec 32 := 1#32
  let arg15 : BitVec 32 := Scf.iv c0_i32_433 c1_i32_436 k0_t1
  let v2015 : Index := Scalar.indexCast arg15
  let c640_688 : Index := 640#32
  let c0_689 : Index := 0#32
  ![1, v2015.toNat, 640, 0]
@[reducible] def k0_t2_loop (i : grid0.Coords) : Scf.Loop 32 :=
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let v1576 : BitVec 32 := Scalar.addi c0_i32_433 v1575
  let c1_i32_437 : BitVec 32 := 1#32
  ⟨v1579, v1576, c1_i32_437⟩
def k0_mult3 (i : grid0.Coords) (k0_t2 : Fin (k0_t2_loop i).trips) : BitVec 32 :=
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let c512_i32_525 : BitVec 32 := 512#32
  let v1736 : BitVec 32 := Scalar.muli arg15 c512_i32_525
  v1736
def k0_off17 (i : grid0.Coords) (k0_t2 : Fin (k0_t2_loop i).trips) : Fin 3 → Nat :=
  let c0_544 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let c512_i32_525 : BitVec 32 := 512#32
  let v1736 : BitVec 32 := Scalar.muli arg15 c512_i32_525
  let v1737 : BitVec 32 := v1736
  let v1757 : Index := Scalar.indexCast v1737
  let c0_545 : Index := 0#32
  ![0, v1757.toNat, 0]
def k0_off18 (i : grid0.Coords) (k0_t2 : Fin (k0_t2_loop i).trips) : Fin 3 → Nat :=
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1761 : Index := Scalar.indexCast arg15
  let c0_547 : Index := 0#32
  let c0_548 : Index := 0#32
  ![v1761.toNat, 0, 0]
def k0_off19 (i : grid0.Coords) (k0_t2 : Fin (k0_t2_loop i).trips) : Fin 4 → Nat :=
  let c0_552 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1771 : Index := Scalar.indexCast arg15
  let c0_553 : Index := 0#32
  let c0_554 : Index := 0#32
  ![0, v1771.toNat, 0, 0]
def k0_off20 (i : grid0.Coords) (k0_t2 : Fin (k0_t2_loop i).trips) : Fin 4 → Nat :=
  let c0_562 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1791 : Index := Scalar.indexCast arg15
  let c128_563 : Index := 128#32
  let c0_564 : Index := 0#32
  ![0, v1791.toNat, 128, 0]
def k0_off21 (i : grid0.Coords) (k0_t2 : Fin (k0_t2_loop i).trips) : Fin 4 → Nat :=
  let c0_572 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1811 : Index := Scalar.indexCast arg15
  let c256_573 : Index := 256#32
  let c0_574 : Index := 0#32
  ![0, v1811.toNat, 256, 0]
def k0_off22 (i : grid0.Coords) (k0_t2 : Fin (k0_t2_loop i).trips) : Fin 4 → Nat :=
  let c0_582 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1831 : Index := Scalar.indexCast arg15
  let c384_583 : Index := 384#32
  let c0_584 : Index := 0#32
  ![0, v1831.toNat, 384, 0]
def k0_off23 (i : grid0.Coords) (k0_t2 : Fin (k0_t2_loop i).trips) : Fin 4 → Nat :=
  let c0_592 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1851 : Index := Scalar.indexCast arg15
  let c512_593 : Index := 512#32
  let c0_594 : Index := 0#32
  ![0, v1851.toNat, 512, 0]
def k0_off24 (i : grid0.Coords) (k0_t2 : Fin (k0_t2_loop i).trips) : Fin 4 → Nat :=
  let c0_602 : Index := 0#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1871 : Index := Scalar.indexCast arg15
  let c640_603 : Index := 640#32
  let c0_604 : Index := 0#32
  ![0, v1871.toNat, 640, 0]
def k0_off25 (i : grid0.Coords) (k0_t2 : Fin (k0_t2_loop i).trips) : Fin 4 → Nat :=
  let c1_637 : Index := 1#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1915 : Index := Scalar.indexCast arg15
  let c0_638 : Index := 0#32
  let c0_639 : Index := 0#32
  ![1, v1915.toNat, 0, 0]
def k0_off26 (i : grid0.Coords) (k0_t2 : Fin (k0_t2_loop i).trips) : Fin 4 → Nat :=
  let c1_647 : Index := 1#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1935 : Index := Scalar.indexCast arg15
  let c128_648 : Index := 128#32
  let c0_649 : Index := 0#32
  ![1, v1935.toNat, 128, 0]
def k0_off27 (i : grid0.Coords) (k0_t2 : Fin (k0_t2_loop i).trips) : Fin 4 → Nat :=
  let c1_657 : Index := 1#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1955 : Index := Scalar.indexCast arg15
  let c256_658 : Index := 256#32
  let c0_659 : Index := 0#32
  ![1, v1955.toNat, 256, 0]
def k0_off28 (i : grid0.Coords) (k0_t2 : Fin (k0_t2_loop i).trips) : Fin 4 → Nat :=
  let c1_667 : Index := 1#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1975 : Index := Scalar.indexCast arg15
  let c384_668 : Index := 384#32
  let c0_669 : Index := 0#32
  ![1, v1975.toNat, 384, 0]
def k0_off29 (i : grid0.Coords) (k0_t2 : Fin (k0_t2_loop i).trips) : Fin 4 → Nat :=
  let c1_677 : Index := 1#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v1995 : Index := Scalar.indexCast arg15
  let c512_678 : Index := 512#32
  let c0_679 : Index := 0#32
  ![1, v1995.toNat, 512, 0]
def k0_off30 (i : grid0.Coords) (k0_t2 : Fin (k0_t2_loop i).trips) : Fin 4 → Nat :=
  let c1_687 : Index := 1#32
  let c0_i32_433 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1575 : BitVec 32 := Scalar.subi v25 c0_i32_433
  let c1_i32_435 : BitVec 32 := 1#32
  let v1577 : BitVec 32 := Scalar.divsi v1575 c1_i32_435
  let v1578 : BitVec 32 := Scalar.muli v1577 c1_i32_435
  let v1579 : BitVec 32 := Scalar.addi c0_i32_433 v1578
  let c1_i32_437 : BitVec 32 := 1#32
  let arg15 : BitVec 32 := Scf.iv v1579 c1_i32_437 k0_t2
  let v2015 : Index := Scalar.indexCast arg15
  let c640_688 : Index := 640#32
  let c0_689 : Index := 0#32
  ![1, v2015.toNat, 640, 0]
@[reducible] def k0_t3_loop (i : grid0.Coords) : Scf.Loop 32 :=
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_452 : BitVec 32 := 1#32
  ⟨c0_i32_449, v1598, c1_i32_452⟩
def k0_mult4 (i : grid0.Coords) (k0_t3 : Fin (k0_t3_loop i).trips) : BitVec 32 :=
  let c0_i32_449 : BitVec 32 := 0#32
  let c1_i32_452 : BitVec 32 := 1#32
  let arg15 : BitVec 32 := Scf.iv c0_i32_449 c1_i32_452 k0_t3
  let c512_i32_525 : BitVec 32 := 512#32
  let v1736 : BitVec 32 := Scalar.muli arg15 c512_i32_525
  v1736
def k0_off31 (i : grid0.Coords) (k0_t3 : Fin (k0_t3_loop i).trips) : Fin 4 → Nat :=
  let c0_526 : Index := 0#32
  let c0_i32_449 : BitVec 32 := 0#32
  let c1_i32_452 : BitVec 32 := 1#32
  let arg15 : BitVec 32 := Scf.iv c0_i32_449 c1_i32_452 k0_t3
  let v1738 : Index := Scalar.indexCast arg15
  let c0_527 : Index := 0#32
  let c0_528 : Index := 0#32
  ![0, v1738.toNat, 0, 0]
def k0_off32 (i : grid0.Coords) (k0_t3 : Fin (k0_t3_loop i).trips) : Fin 4 → Nat :=
  let c0_535 : Index := 0#32
  let c0_i32_449 : BitVec 32 := 0#32
  let c1_i32_452 : BitVec 32 := 1#32
  let arg15 : BitVec 32 := Scf.iv c0_i32_449 c1_i32_452 k0_t3
  let v1750 : Index := Scalar.indexCast arg15
  let c128_536 : Index := 128#32
  let c0_537 : Index := 0#32
  ![0, v1750.toNat, 128, 0]
def k0_off33 (i : grid0.Coords) (k0_t3 : Fin (k0_t3_loop i).trips) : Fin 4 → Nat :=
  let c0_544 : Index := 0#32
  let c0_i32_449 : BitVec 32 := 0#32
  let c1_i32_452 : BitVec 32 := 1#32
  let arg15 : BitVec 32 := Scf.iv c0_i32_449 c1_i32_452 k0_t3
  let v1762 : Index := Scalar.indexCast arg15
  let c256_545 : Index := 256#32
  let c0_546 : Index := 0#32
  ![0, v1762.toNat, 256, 0]
def k0_off34 (i : grid0.Coords) (k0_t3 : Fin (k0_t3_loop i).trips) : Fin 4 → Nat :=
  let c0_553 : Index := 0#32
  let c0_i32_449 : BitVec 32 := 0#32
  let c1_i32_452 : BitVec 32 := 1#32
  let arg15 : BitVec 32 := Scf.iv c0_i32_449 c1_i32_452 k0_t3
  let v1774 : Index := Scalar.indexCast arg15
  let c384_554 : Index := 384#32
  let c0_555 : Index := 0#32
  ![0, v1774.toNat, 384, 0]
def k0_off35 (i : grid0.Coords) (k0_t3 : Fin (k0_t3_loop i).trips) : Fin 4 → Nat :=
  let c0_562 : Index := 0#32
  let c0_i32_449 : BitVec 32 := 0#32
  let c1_i32_452 : BitVec 32 := 1#32
  let arg15 : BitVec 32 := Scf.iv c0_i32_449 c1_i32_452 k0_t3
  let v1786 : Index := Scalar.indexCast arg15
  let c512_563 : Index := 512#32
  let c0_564 : Index := 0#32
  ![0, v1786.toNat, 512, 0]
def k0_off36 (i : grid0.Coords) (k0_t3 : Fin (k0_t3_loop i).trips) : Fin 4 → Nat :=
  let c0_571 : Index := 0#32
  let c0_i32_449 : BitVec 32 := 0#32
  let c1_i32_452 : BitVec 32 := 1#32
  let arg15 : BitVec 32 := Scf.iv c0_i32_449 c1_i32_452 k0_t3
  let v1798 : Index := Scalar.indexCast arg15
  let c640_572 : Index := 640#32
  let c0_573 : Index := 0#32
  ![0, v1798.toNat, 640, 0]
def k0_off37 (i : grid0.Coords) (k0_t3 : Fin (k0_t3_loop i).trips) : Fin 3 → Nat :=
  let c0_580 : Index := 0#32
  let c0_i32_449 : BitVec 32 := 0#32
  let c1_i32_452 : BitVec 32 := 1#32
  let arg15 : BitVec 32 := Scf.iv c0_i32_449 c1_i32_452 k0_t3
  let c512_i32_525 : BitVec 32 := 512#32
  let v1736 : BitVec 32 := Scalar.muli arg15 c512_i32_525
  let v1737 : BitVec 32 := v1736
  let v1810 : Index := Scalar.indexCast v1737
  let c128_581 : Index := 128#32
  ![0, v1810.toNat, 128]
def k0_off38 (i : grid0.Coords) (k0_t3 : Fin (k0_t3_loop i).trips) : Fin 4 → Nat :=
  let c1_595 : Index := 1#32
  let c0_i32_449 : BitVec 32 := 0#32
  let c1_i32_452 : BitVec 32 := 1#32
  let arg15 : BitVec 32 := Scf.iv c0_i32_449 c1_i32_452 k0_t3
  let v1831 : Index := Scalar.indexCast arg15
  let c0_596 : Index := 0#32
  let c0_597 : Index := 0#32
  ![1, v1831.toNat, 0, 0]
def k0_off39 (i : grid0.Coords) (k0_t3 : Fin (k0_t3_loop i).trips) : Fin 4 → Nat :=
  let c1_604 : Index := 1#32
  let c0_i32_449 : BitVec 32 := 0#32
  let c1_i32_452 : BitVec 32 := 1#32
  let arg15 : BitVec 32 := Scf.iv c0_i32_449 c1_i32_452 k0_t3
  let v1843 : Index := Scalar.indexCast arg15
  let c128_605 : Index := 128#32
  let c0_606 : Index := 0#32
  ![1, v1843.toNat, 128, 0]
def k0_off40 (i : grid0.Coords) (k0_t3 : Fin (k0_t3_loop i).trips) : Fin 4 → Nat :=
  let c1_613 : Index := 1#32
  let c0_i32_449 : BitVec 32 := 0#32
  let c1_i32_452 : BitVec 32 := 1#32
  let arg15 : BitVec 32 := Scf.iv c0_i32_449 c1_i32_452 k0_t3
  let v1855 : Index := Scalar.indexCast arg15
  let c256_614 : Index := 256#32
  let c0_615 : Index := 0#32
  ![1, v1855.toNat, 256, 0]
def k0_off41 (i : grid0.Coords) (k0_t3 : Fin (k0_t3_loop i).trips) : Fin 4 → Nat :=
  let c1_622 : Index := 1#32
  let c0_i32_449 : BitVec 32 := 0#32
  let c1_i32_452 : BitVec 32 := 1#32
  let arg15 : BitVec 32 := Scf.iv c0_i32_449 c1_i32_452 k0_t3
  let v1867 : Index := Scalar.indexCast arg15
  let c384_623 : Index := 384#32
  let c0_624 : Index := 0#32
  ![1, v1867.toNat, 384, 0]
def k0_off42 (i : grid0.Coords) (k0_t3 : Fin (k0_t3_loop i).trips) : Fin 4 → Nat :=
  let c1_631 : Index := 1#32
  let c0_i32_449 : BitVec 32 := 0#32
  let c1_i32_452 : BitVec 32 := 1#32
  let arg15 : BitVec 32 := Scf.iv c0_i32_449 c1_i32_452 k0_t3
  let v1879 : Index := Scalar.indexCast arg15
  let c512_632 : Index := 512#32
  let c0_633 : Index := 0#32
  ![1, v1879.toNat, 512, 0]
def k0_off43 (i : grid0.Coords) (k0_t3 : Fin (k0_t3_loop i).trips) : Fin 4 → Nat :=
  let c1_640 : Index := 1#32
  let c0_i32_449 : BitVec 32 := 0#32
  let c1_i32_452 : BitVec 32 := 1#32
  let arg15 : BitVec 32 := Scf.iv c0_i32_449 c1_i32_452 k0_t3
  let v1891 : Index := Scalar.indexCast arg15
  let c640_641 : Index := 640#32
  let c0_642 : Index := 0#32
  ![1, v1891.toNat, 640, 0]
@[reducible] def k0_t4_loop (i : grid0.Coords) : Scf.Loop 32 :=
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let v1595 : BitVec 32 := Scalar.addi c0_i32_449 v1594
  let c1_i32_453 : BitVec 32 := 1#32
  ⟨v1598, v1595, c1_i32_453⟩
def k0_mult5 (i : grid0.Coords) (k0_t4 : Fin (k0_t4_loop i).trips) : BitVec 32 :=
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let c512_i32_525 : BitVec 32 := 512#32
  let v1736 : BitVec 32 := Scalar.muli arg15 c512_i32_525
  v1736
def k0_off44 (i : grid0.Coords) (k0_t4 : Fin (k0_t4_loop i).trips) : Fin 4 → Nat :=
  let c0_526 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1738 : Index := Scalar.indexCast arg15
  let c0_527 : Index := 0#32
  let c0_528 : Index := 0#32
  ![0, v1738.toNat, 0, 0]
def k0_off45 (i : grid0.Coords) (k0_t4 : Fin (k0_t4_loop i).trips) : Fin 4 → Nat :=
  let c0_535 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1750 : Index := Scalar.indexCast arg15
  let c128_536 : Index := 128#32
  let c0_537 : Index := 0#32
  ![0, v1750.toNat, 128, 0]
def k0_off46 (i : grid0.Coords) (k0_t4 : Fin (k0_t4_loop i).trips) : Fin 4 → Nat :=
  let c0_544 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1762 : Index := Scalar.indexCast arg15
  let c256_545 : Index := 256#32
  let c0_546 : Index := 0#32
  ![0, v1762.toNat, 256, 0]
def k0_off47 (i : grid0.Coords) (k0_t4 : Fin (k0_t4_loop i).trips) : Fin 4 → Nat :=
  let c0_553 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1774 : Index := Scalar.indexCast arg15
  let c384_554 : Index := 384#32
  let c0_555 : Index := 0#32
  ![0, v1774.toNat, 384, 0]
def k0_off48 (i : grid0.Coords) (k0_t4 : Fin (k0_t4_loop i).trips) : Fin 4 → Nat :=
  let c0_562 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1786 : Index := Scalar.indexCast arg15
  let c512_563 : Index := 512#32
  let c0_564 : Index := 0#32
  ![0, v1786.toNat, 512, 0]
def k0_off49 (i : grid0.Coords) (k0_t4 : Fin (k0_t4_loop i).trips) : Fin 4 → Nat :=
  let c0_571 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1798 : Index := Scalar.indexCast arg15
  let c640_572 : Index := 640#32
  let c0_573 : Index := 0#32
  ![0, v1798.toNat, 640, 0]
def k0_off50 (i : grid0.Coords) (k0_t4 : Fin (k0_t4_loop i).trips) : Fin 3 → Nat :=
  let c0_580 : Index := 0#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let c512_i32_525 : BitVec 32 := 512#32
  let v1736 : BitVec 32 := Scalar.muli arg15 c512_i32_525
  let v1737 : BitVec 32 := v1736
  let v1810 : Index := Scalar.indexCast v1737
  let c128_581 : Index := 128#32
  ![0, v1810.toNat, 128]
def k0_off51 (i : grid0.Coords) (k0_t4 : Fin (k0_t4_loop i).trips) : Fin 4 → Nat :=
  let c1_595 : Index := 1#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1831 : Index := Scalar.indexCast arg15
  let c0_596 : Index := 0#32
  let c0_597 : Index := 0#32
  ![1, v1831.toNat, 0, 0]
def k0_off52 (i : grid0.Coords) (k0_t4 : Fin (k0_t4_loop i).trips) : Fin 4 → Nat :=
  let c1_604 : Index := 1#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1843 : Index := Scalar.indexCast arg15
  let c128_605 : Index := 128#32
  let c0_606 : Index := 0#32
  ![1, v1843.toNat, 128, 0]
def k0_off53 (i : grid0.Coords) (k0_t4 : Fin (k0_t4_loop i).trips) : Fin 4 → Nat :=
  let c1_613 : Index := 1#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1855 : Index := Scalar.indexCast arg15
  let c256_614 : Index := 256#32
  let c0_615 : Index := 0#32
  ![1, v1855.toNat, 256, 0]
def k0_off54 (i : grid0.Coords) (k0_t4 : Fin (k0_t4_loop i).trips) : Fin 4 → Nat :=
  let c1_622 : Index := 1#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1867 : Index := Scalar.indexCast arg15
  let c384_623 : Index := 384#32
  let c0_624 : Index := 0#32
  ![1, v1867.toNat, 384, 0]
def k0_off55 (i : grid0.Coords) (k0_t4 : Fin (k0_t4_loop i).trips) : Fin 4 → Nat :=
  let c1_631 : Index := 1#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1879 : Index := Scalar.indexCast arg15
  let c512_632 : Index := 512#32
  let c0_633 : Index := 0#32
  ![1, v1879.toNat, 512, 0]
def k0_off56 (i : grid0.Coords) (k0_t4 : Fin (k0_t4_loop i).trips) : Fin 4 → Nat :=
  let c1_640 : Index := 1#32
  let c0_i32_449 : BitVec 32 := 0#32
  let arg1 : BitVec 32 := BitVec.ofNat 32 (i 1).val
  let c128_i32 : BitVec 32 := 128#32
  let v0 : BitVec 32 := Scalar.muli arg1 c128_i32
  let c128_i32_2 : BitVec 32 := 128#32
  let v6 : BitVec 32 := Scalar.addi v0 c128_i32_2
  let c512_i32 : BitVec 32 := 512#32
  let v7 : BitVec 32 := Scalar.addi v6 c512_i32
  let c1_i32 : BitVec 32 := 1#32
  let v8 : BitVec 32 := Scalar.subi v7 c1_i32
  let c0_i32 : BitVec 32 := 0#32
  let v10 : BitVec 1 := Scalar.cmpi .sgt v8 c0_i32
  let v11 : BitVec 32 := Scalar.extui v10
  let c0_i32_4 : BitVec 32 := 0#32
  let v12 : BitVec 1 := Scalar.cmpi .slt v8 c0_i32_4
  let v13 : BitVec 32 := Scalar.extui v12
  let v14 : BitVec 32 := Scalar.subi v11 v13
  let c512_i32_3 : BitVec 32 := 512#32
  let c0_i32_5 : BitVec 32 := 0#32
  let v15 : BitVec 1 := Scalar.cmpi .sgt c512_i32_3 c0_i32_5
  let v16 : BitVec 32 := Scalar.extui v15
  let c0_i32_6 : BitVec 32 := 0#32
  let v17 : BitVec 1 := Scalar.cmpi .slt c512_i32_3 c0_i32_6
  let v18 : BitVec 32 := Scalar.extui v17
  let v19 : BitVec 32 := Scalar.subi v16 v18
  let v20 : BitVec 1 := Scalar.cmpi .ne v14 v19
  let v21 : BitVec 32 := Scalar.remsi v8 c512_i32_3
  let c0_i32_7 : BitVec 32 := 0#32
  let v22 : BitVec 1 := Scalar.cmpi .ne v21 c0_i32_7
  let v23 : BitVec 1 := Scalar.andi v20 v22
  let v9 : BitVec 32 := Scalar.divsi v8 c512_i32_3
  let c1_i32_8 : BitVec 32 := 1#32
  let v24 : BitVec 32 := Scalar.subi v9 c1_i32_8
  let v25 : BitVec 32 := Scalar.select v23 v24 v9
  let v1594 : BitVec 32 := Scalar.subi v25 c0_i32_449
  let c1_i32_451 : BitVec 32 := 1#32
  let v1596 : BitVec 32 := Scalar.divsi v1594 c1_i32_451
  let v1597 : BitVec 32 := Scalar.muli v1596 c1_i32_451
  let v1598 : BitVec 32 := Scalar.addi c0_i32_449 v1597
  let c1_i32_453 : BitVec 32 := 1#32
  let arg15 : BitVec 32 := Scf.iv v1598 c1_i32_453 k0_t4
  let v1891 : Index := Scalar.indexCast arg15
  let c640_641 : Index := 640#32
  let c0_642 : Index := 0#32
  ![1, v1891.toNat, 640, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S8x2048x1024 : Shape := ⟨3, ![8, 2048, 1024]⟩
abbrev S8x1x1024 : Shape := ⟨3, ![8, 1, 1024]⟩
abbrev S1024x2340 : Shape := ⟨2, ![1024, 2340]⟩
abbrev S1024x256 : Shape := ⟨2, ![1024, 256]⟩
abbrev S1024x768 : Shape := ⟨2, ![1024, 768]⟩
abbrev S1024x36 : Shape := ⟨2, ![1024, 36]⟩
abbrev S1024x2x6x64 : Shape := ⟨4, ![1024, 2, 6, 64]⟩
abbrev S_ : Shape := ⟨0, ![]⟩
abbrev S1024x2x6x1x64 : Shape := ⟨5, ![1024, 2, 6, 1, 64]⟩
abbrev S2x2 : Shape := ⟨2, ![2, 2]⟩
abbrev S1x2x1x2x1 : Shape := ⟨5, ![1, 2, 1, 2, 1]⟩
abbrev S1024x2x6x2x64 : Shape := ⟨5, ![1024, 2, 6, 2, 64]⟩
abbrev S1024x1536 : Shape := ⟨2, ![1024, 1536]⟩
abbrev S1024x128 : Shape := ⟨2, ![1024, 128]⟩
abbrev S1024x3200 : Shape := ⟨2, ![1024, 3200]⟩
abbrev S8x2048x256 : Shape := ⟨3, ![8, 2048, 256]⟩
abbrev S8x2048x1536 : Shape := ⟨3, ![8, 2048, 1536]⟩
abbrev S8x2048x128 : Shape := ⟨3, ![8, 2048, 128]⟩
abbrev S1x512x1024 : Shape := ⟨3, ![1, 512, 1024]⟩
abbrev S1x1x1024 : Shape := ⟨3, ![1, 1, 1024]⟩
abbrev S1x512x256 : Shape := ⟨3, ![1, 512, 256]⟩
abbrev S1x512x1536 : Shape := ⟨3, ![1, 512, 1536]⟩
abbrev S1x512x128 : Shape := ⟨3, ![1, 512, 128]⟩
abbrev S512x1024 : Shape := ⟨2, ![512, 1024]⟩
abbrev S1x1024 : Shape := ⟨2, ![1, 1024]⟩
abbrev S512x256 : Shape := ⟨2, ![512, 256]⟩
abbrev S512x1536 : Shape := ⟨2, ![512, 1536]⟩
abbrev S512x128 : Shape := ⟨2, ![512, 128]⟩

abbrev nBuf : Space → Nat
  | .hbm => 43
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x2340, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x768, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x36, .f32⟩
  | .hbm, ⟨12, _⟩ => ⟨S1024x2x6x64, .f32⟩
  | .hbm, ⟨13, _⟩ => ⟨S_, .f32⟩
  | .hbm, ⟨14, _⟩ => ⟨S1024x2x6x64, .f32⟩
  | .hbm, ⟨15, _⟩ => ⟨S1024x2x6x64, .f32⟩
  | .hbm, ⟨16, _⟩ => ⟨S1024x2x6x1x64, .f32⟩
  | .hbm, ⟨17, _⟩ => ⟨S2x2, .i32⟩
  | .hbm, ⟨18, _⟩ => ⟨S2x2, .i32⟩
  | .hbm, ⟨19, _⟩ => ⟨S_, .i32⟩
  | .hbm, ⟨20, _⟩ => ⟨S2x2, .i32⟩
  | .hbm, ⟨21, _⟩ => ⟨S2x2, .i32⟩
  | .hbm, ⟨22, _⟩ => ⟨S2x2, .i1⟩
  | .hbm, ⟨23, _⟩ => ⟨S2x2, .f32⟩
  | .hbm, ⟨24, _⟩ => ⟨S1x2x1x2x1, .f32⟩
  | .hbm, ⟨25, _⟩ => ⟨S1024x2x6x2x64, .f32⟩
  | .hbm, ⟨26, _⟩ => ⟨S1024x2x6x2x64, .f32⟩
  | .hbm, ⟨27, _⟩ => ⟨S1024x2x6x2x64, .f32⟩
  | .hbm, ⟨28, _⟩ => ⟨S1024x1536, .f32⟩
  | .hbm, ⟨29, _⟩ => ⟨S_, .i32⟩
  | .hbm, ⟨30, _⟩ => ⟨S_, .f32⟩
  | .hbm, ⟨31, _⟩ => ⟨S1024x128, .f32⟩
  | .hbm, ⟨32, _⟩ => ⟨S1024x3200, .f32⟩
  | .hbm, ⟨33, _⟩ => ⟨S1024x3200, .bf16⟩
  | .hbm, ⟨34, _⟩ => ⟨S8x2048x256, .f32⟩
  | .hbm, ⟨35, _⟩ => ⟨S8x2048x256, .f32⟩
  | .hbm, ⟨36, _⟩ => ⟨S8x2048x1536, .bf16⟩
  | .hbm, ⟨37, _⟩ => ⟨S8x2048x256, .f32⟩
  | .hbm, ⟨38, _⟩ => ⟨S8x2048x256, .f32⟩
  | .hbm, ⟨39, _⟩ => ⟨S8x2048x256, .f32⟩
  | .hbm, ⟨40, _⟩ => ⟨S8x2048x256, .bf16⟩
  | .hbm, ⟨41, _⟩ => ⟨S8x2048x256, .bf16⟩
  | .hbm, ⟨42, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3200, .bf16⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x1536, .bf16⟩
  | .local _ .vmem, ⟨12, _⟩ => ⟨S1x512x1536, .bf16⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x512x256, .bf16⟩
  | .local _ .vmem, ⟨23, _⟩ => ⟨S1x512x128, .f32⟩
  | .local _ .vmem, ⟨24, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_0 : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev main_v26_2 : Ref sig .tc := ⟨.hbm, 36, rfl⟩
abbrev main_v26_3 : Ref sig .tc := ⟨.hbm, 37, rfl⟩
abbrev main_v26_4 : Ref sig .tc := ⟨.hbm, 38, rfl⟩
abbrev main_v26_5 : Ref sig .tc := ⟨.hbm, 39, rfl⟩
abbrev main_v26_6 : Ref sig .tc := ⟨.hbm, 40, rfl⟩
abbrev main_v26_7 : Ref sig .tc := ⟨.hbm, 41, rfl⟩
abbrev main_v26_8 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S8x2048x1024 : Shape := ⟨3, ![8, 2048, 1024]⟩
abbrev S8x1x1024 : Shape := ⟨3, ![8, 1, 1024]⟩
abbrev S1024x2340 : Shape := ⟨2, ![1024, 2340]⟩
abbrev S_ : Shape := ⟨0, ![]⟩
abbrev S8x2048x2340 : Shape := ⟨3, ![8, 2048, 2340]⟩
abbrev S8x2048x256 : Shape := ⟨3, ![8, 2048, 256]⟩
abbrev S8x2048x768 : Shape := ⟨3, ![8, 2048, 768]⟩
abbrev S8x2048x36 : Shape := ⟨3, ![8, 2048, 36]⟩
abbrev S8x2048x2x6x64 : Shape := ⟨5, ![8, 2048, 2, 6, 64]⟩
abbrev S8x2048x2x6x1x64 : Shape := ⟨6, ![8, 2048, 2, 6, 1, 64]⟩
abbrev S2x2 : Shape := ⟨2, ![2, 2]⟩
abbrev S1x1x2x1x2x1 : Shape := ⟨6, ![1, 1, 2, 1, 2, 1]⟩
abbrev S8x2048x2x6x2x64 : Shape := ⟨6, ![8, 2048, 2, 6, 2, 64]⟩
abbrev S8x2048x1536 : Shape := ⟨3, ![8, 2048, 1536]⟩
abbrev S8x2048x128 : Shape := ⟨3, ![8, 2048, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1x1024, .f32⟩
  | .hbm, ⟨2, _⟩ => ⟨S8x1x1024, .f32⟩
  | .hbm, ⟨3, _⟩ => ⟨S1024x2340, .f32⟩
  | .hbm, ⟨4, _⟩ => ⟨S_, .f32⟩
  | .hbm, ⟨5, _⟩ => ⟨S8x1x1024, .f32⟩
  | .hbm, ⟨6, _⟩ => ⟨S8x1x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x2340, .f32⟩
  | .hbm, ⟨12, _⟩ => ⟨S8x2048x256, .f32⟩
  | .hbm, ⟨13, _⟩ => ⟨S8x2048x256, .f32⟩
  | .hbm, ⟨14, _⟩ => ⟨S8x2048x256, .f32⟩
  | .hbm, ⟨15, _⟩ => ⟨S8x2048x768, .f32⟩
  | .hbm, ⟨16, _⟩ => ⟨S8x2048x256, .f32⟩
  | .hbm, ⟨17, _⟩ => ⟨S8x2048x256, .f32⟩
  | .hbm, ⟨18, _⟩ => ⟨S8x2048x256, .f32⟩
  | .hbm, ⟨19, _⟩ => ⟨S8x2048x36, .f32⟩
  | .hbm, ⟨20, _⟩ => ⟨S8x2048x2x6x64, .f32⟩
  | .hbm, ⟨21, _⟩ => ⟨S_, .f32⟩
  | .hbm, ⟨22, _⟩ => ⟨S8x2048x2x6x64, .f32⟩
  | .hbm, ⟨23, _⟩ => ⟨S8x2048x2x6x64, .f32⟩
  | .hbm, ⟨24, _⟩ => ⟨S8x2048x2x6x1x64, .f32⟩
  | .hbm, ⟨25, _⟩ => ⟨S2x2, .i32⟩
  | .hbm, ⟨26, _⟩ => ⟨S2x2, .i32⟩
  | .hbm, ⟨27, _⟩ => ⟨S_, .i32⟩
  | .hbm, ⟨28, _⟩ => ⟨S2x2, .i32⟩
  | .hbm, ⟨29, _⟩ => ⟨S2x2, .i32⟩
  | .hbm, ⟨30, _⟩ => ⟨S2x2, .i1⟩
  | .hbm, ⟨31, _⟩ => ⟨S2x2, .f32⟩
  | .hbm, ⟨32, _⟩ => ⟨S1x1x2x1x2x1, .f32⟩
  | .hbm, ⟨33, _⟩ => ⟨S8x2048x2x6x2x64, .f32⟩
  | .hbm, ⟨34, _⟩ => ⟨S8x2048x2x6x2x64, .f32⟩
  | .hbm, ⟨35, _⟩ => ⟨S8x2048x2x6x2x64, .f32⟩
  | .hbm, ⟨36, _⟩ => ⟨S8x2048x1536, .f32⟩
  | .hbm, ⟨37, _⟩ => ⟨S_, .i32⟩
  | .hbm, ⟨38, _⟩ => ⟨S_, .f32⟩
  | .hbm, ⟨39, _⟩ => ⟨S8x2048x128, .f32⟩
  | .hbm, ⟨40, _⟩ => ⟨S8x2048x128, .f32⟩
  | .hbm, ⟨41, _⟩ => ⟨S8x2048x128, .f32⟩
  | .hbm, ⟨42, _⟩ => ⟨S_, .f32⟩
  | .hbm, ⟨43, _⟩ => ⟨S8x2048x128, .f32⟩
  | .hbm, ⟨44, _⟩ => ⟨S8x2048x128, .f32⟩
  | .hbm, ⟨45, _⟩ => ⟨S_, .f32⟩
  | .hbm, ⟨46, _⟩ => ⟨S8x2048x128, .f32⟩
  | .hbm, ⟨47, _⟩ => ⟨S8x2048x128, .f32⟩
  | .hbm, ⟨48, _⟩ => ⟨S8x2048x256, .f32⟩
  | .hbm, ⟨49, _⟩ => ⟨S8x2048x1536, .bf16⟩
  | .hbm, ⟨50, _⟩ => ⟨S8x2048x256, .bf16⟩
  | .hbm, ⟨51, _⟩ => ⟨S8x2048x256, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_call0_v0 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x768 : Shape := ⟨3, ![8, 2048, 768]⟩
abbrev S8x2048x256 : Shape := ⟨3, ![8, 2048, 256]⟩
abbrev S8x1x1024 : Shape := ⟨3, ![8, 1, 1024]⟩
abbrev S3x256 : Shape := ⟨2, ![3, 256]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x6x64 : Shape := ⟨3, ![2, 6, 64]⟩
abbrev S6x2x64 : Shape := ⟨3, ![6, 2, 64]⟩
abbrev S1x768 : Shape := ⟨2, ![1, 768]⟩
abbrev S768x1024 : Shape := ⟨2, ![768, 1024]⟩
abbrev S2x6x64x1024 : Shape := ⟨4, ![2, 6, 64, 1024]⟩
abbrev S6x2x64x1024 : Shape := ⟨4, ![6, 2, 64, 1024]⟩
abbrev S1x256 : Shape := ⟨2, ![1, 256]⟩
abbrev S256x1024 : Shape := ⟨2, ![256, 1024]⟩
abbrev S1x1024 : Shape := ⟨2, ![1, 1024]⟩
abbrev S_ : Shape := ⟨0, ![]⟩
abbrev S8x1x256 : Shape := ⟨3, ![8, 1, 256]⟩
abbrev S1x512x1024 : Shape := ⟨3, ![1, 512, 1024]⟩
abbrev S1x512x768 : Shape := ⟨3, ![1, 512, 768]⟩
abbrev S1x512x256 : Shape := ⟨3, ![1, 512, 256]⟩
abbrev S1x8x256 : Shape := ⟨3, ![1, 8, 256]⟩
abbrev S1x1x256 : Shape := ⟨3, ![1, 1, 256]⟩
abbrev S1x1x1024 : Shape := ⟨3, ![1, 1, 1024]⟩
abbrev S512x256 : Shape := ⟨2, ![512, 256]⟩
abbrev S8x256 : Shape := ⟨2, ![8, 256]⟩
abbrev S520x256 : Shape := ⟨2, ![520, 256]⟩
abbrev S512x1 : Shape := ⟨2, ![512, 1]⟩
abbrev S512 : Shape := ⟨1, ![512]⟩
abbrev S512x768 : Shape := ⟨2, ![512, 768]⟩
abbrev S512x1024 : Shape := ⟨2, ![512, 1024]⟩
abbrev S1024x256 : Shape := ⟨2, ![1024, 256]⟩

abbrev nBuf : Space → Nat
  | .hbm => 40
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S8x2048x768, .f32⟩
  | .hbm, ⟨2, _⟩ => ⟨S8x2048x256, .f32⟩
  | .hbm, ⟨3, _⟩ => ⟨S8x2048x256, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S3x256, .f32⟩
  | .hbm, ⟨9, _⟩ => ⟨S256, .f32⟩
  | .hbm, ⟨10, _⟩ => ⟨S768, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x2816, .f32⟩
  | .hbm, ⟨17, _⟩ => ⟨S1024x2816, .f32⟩
  | .hbm, ⟨18, _⟩ => ⟨S2816x1024, .f32⟩
  | .hbm, ⟨19, _⟩ => ⟨S2x6x64, .f32⟩
  | .hbm, ⟨20, _⟩ => ⟨S6x2x64, .f32⟩
  | .hbm, ⟨21, _⟩ => ⟨S1x768, .f32⟩
  | .hbm, ⟨22, _⟩ => ⟨S768x1024, .f32⟩
  | .hbm, ⟨23, _⟩ => ⟨S2x6x64x1024, .f32⟩
  | .hbm, ⟨24, _⟩ => ⟨S6x2x64x1024, .f32⟩
  | .hbm, ⟨25, _⟩ => ⟨S1x256, .f32⟩
  | .hbm, ⟨26, _⟩ => ⟨S256x1024, .f32⟩
  | .hbm, ⟨27, _⟩ => ⟨S256x1024, .bf16⟩
  | .hbm, ⟨28, _⟩ => ⟨S768x1024, .f32⟩
  | .hbm, ⟨29, _⟩ => ⟨S768x1024, .bf16⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1024x2816, .bf16⟩
  | .hbm, ⟨35, _⟩ => ⟨S1024x2816, .bf16⟩
  | .hbm, ⟨36, _⟩ => ⟨S2816x1024, .bf16⟩
  | .hbm, ⟨37, _⟩ => ⟨S_, .f32⟩
  | .hbm, ⟨38, _⟩ => ⟨S8x1x256, .f32⟩
  | .hbm, ⟨39, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x768, .f32⟩
  | .local _ .vmem, ⟨3, _⟩ => ⟨S1x512x768, .f32⟩
  | .local _ .vmem, ⟨4, _⟩ => ⟨S1x512x256, .f32⟩
  | .local _ .vmem, ⟨5, _⟩ => ⟨S1x512x256, .f32⟩
  | .local _ .vmem, ⟨6, _⟩ => ⟨S1x8x256, .f32⟩
  | .local _ .vmem, ⟨7, _⟩ => ⟨S1x8x256, .f32⟩
  | .local _ .vmem, ⟨8, _⟩ => ⟨S1x512x256, .f32⟩
  | .local _ .vmem, ⟨9, _⟩ => ⟨S1x512x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S3x256, .f32⟩
  | .local _ .vmem, ⟨23, _⟩ => ⟨S1x256, .f32⟩
  | .local _ .vmem, ⟨24, _⟩ => ⟨S1x768, .f32⟩
  | .local _ .vmem, ⟨25, _⟩ => ⟨S256x1024, .bf16⟩
  | .local _ .vmem, ⟨26, _⟩ => ⟨S768x1024, .bf16⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S1024x2816, .bf16⟩
  | .local _ .vmem, ⟨32, _⟩ => ⟨S1024x2816, .bf16⟩
  | .local _ .vmem, ⟨33, _⟩ => ⟨S2816x1024, .bf16⟩
  | .local _ .vmem, ⟨34, _⟩ => ⟨S1x512x1024, .f32⟩
  | .local _ .vmem, ⟨35, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg23_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33
abbrev cc0_sem23_0 : DmaSem sig := 34
abbrev cc0_sem23_1 : DmaSem sig := 35

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x2816 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== Kernel3Ideal.lean ====
variable {F : FTy → Type} [FloatOps F] [Named F]
def κ : String → Option EReal := fun
  | "inv_dim" => some ((1 / 768 : ℝ) : EReal)
  | _ => none
-- ==== Reference3Ideal.lean ====
abbrev S8x2048x1024 : Shape := ⟨3, ![8, 2048, 1024]⟩
abbrev S8x2048x768 : Shape := ⟨3, ![8, 2048, 768]⟩
abbrev S8x2048x256 : Shape := ⟨3, ![8, 2048, 256]⟩
abbrev S8x1x1024 : Shape := ⟨3, ![8, 1, 1024]⟩
abbrev S3x256 : Shape := ⟨2, ![3, 256]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S8x2048x6x2x64 : Shape := ⟨5, ![8, 2048, 6, 2, 64]⟩
abbrev S8x2048x2x6x64 : Shape := ⟨5, ![8, 2048, 2, 6, 64]⟩
abbrev S_ : Shape := ⟨0, ![]⟩
abbrev S8x2050x256 : Shape := ⟨3, ![8, 2050, 256]⟩
abbrev S1x256 : Shape := ⟨2, ![1, 256]⟩
abbrev S1x1x256 : Shape := ⟨3, ![1, 1, 256]⟩
abbrev S8x2048 : Shape := ⟨2, ![8, 2048]⟩
abbrev S8x2048x1 : Shape := ⟨3, ![8, 2048, 1]⟩
abbrev S1x1x768 : Shape := ⟨3, ![1, 1, 768]⟩
abbrev S1x1x1024 : Shape := ⟨3, ![1, 1, 1024]⟩
abbrev S8x2048x2816 : Shape := ⟨3, ![8, 2048, 2816]⟩

abbrev nBuf : Space → Nat
  | .hbm => 170
  | .vmem => 0
  | .smem => 0
  | _ => 0

abbrev hbmTy0_0 (i : Nat) : BufTy := match i % 128 with
  | 0 => ⟨S8x2048x1024, .f32⟩
  | 1 => ⟨S8x2048x768, .f32⟩
  | 2 => ⟨S8x2048x256, .f32⟩
  | 3 => ⟨S8x2048x256, .f32⟩
  | 4 => ⟨S8x1x1024, .f32⟩
  | 5 => ⟨S8x1x1024, .f32⟩
  | 6 => ⟨S8x1x1024, .f32⟩
  | 7 => ⟨S8x1x1024, .f32⟩
  | 8 => ⟨S3x256, .f32⟩
  | 9 => ⟨S256, .f32⟩
  | 10 => ⟨S768, .f32⟩
  | 11 => ⟨S1024x1024, .f32⟩
  | 12 => ⟨S1024, .f32⟩
  | 13 => ⟨S1024, .f32⟩
  | 14 => ⟨S1024, .f32⟩
  | 15 => ⟨S1024, .f32⟩
  | 16 => ⟨S1024x2816, .f32⟩
  | 17 => ⟨S1024x2816, .f32⟩
  | 18 => ⟨S2816x1024, .f32⟩
  | 19 => ⟨S8x2048x6x2x64, .f32⟩
  | 20 => ⟨S8x2048x2x6x64, .f32⟩
  | 21 => ⟨S8x2048x768, .f32⟩
  | 22 => ⟨S_, .i32⟩
  | 23 => ⟨S_, .f32⟩
  | 24 => ⟨S8x2050x256, .f32⟩
  | 25 => ⟨S1x256, .f32⟩
  | 26 => ⟨S256, .f32⟩
  | 27 => ⟨S8x2048x256, .f32⟩
  | 28 => ⟨S1x1x256, .f32⟩
  | 29 => ⟨S8x2048x256, .f32⟩
  | 30 => ⟨S8x2048x256, .f32⟩
  | 31 => ⟨S1x256, .f32⟩
  | 32 => ⟨S256, .f32⟩
  | 33 => ⟨S8x2048x256, .f32⟩
  | 34 => ⟨S1x1x256, .f32⟩
  | 35 => ⟨S8x2048x256, .f32⟩
  | 36 => ⟨S8x2048x256, .f32⟩
  | 37 => ⟨S8x2048x256, .f32⟩
  | 38 => ⟨S1x256, .f32⟩
  | 39 => ⟨S256, .f32⟩
  | 40 => ⟨S8x2048x256, .f32⟩
  | 41 => ⟨S1x1x256, .f32⟩
  | 42 => ⟨S8x2048x256, .f32⟩
  | 43 => ⟨S8x2048x256, .f32⟩
  | 44 => ⟨S8x2048x256, .f32⟩
  | 45 => ⟨S8x2048x256, .f32⟩
  | 46 => ⟨S8x2048x256, .f32⟩
  | 47 => ⟨S_, .f32⟩
  | 48 => ⟨S8x2048, .f32⟩
  | 49 => ⟨S8x2048x1, .f32⟩
  | 50 => ⟨S_, .f32⟩
  | 51 => ⟨S8x2048x1, .f32⟩
  | 52 => ⟨S8x2048x1, .f32⟩
  | 53 => ⟨S_, .f32⟩
  | 54 => ⟨S8x2048x1, .f32⟩
  | 55 => ⟨S8x2048x1, .f32⟩
  | 56 => ⟨S8x2048x1, .f32⟩
  | 57 => ⟨S8x2048x256, .f32⟩
  | 58 => ⟨S8x2048x256, .f32⟩
  | 59 => ⟨S1x1x256, .f32⟩
  | 60 => ⟨S8x2048x256, .f32⟩
  | 61 => ⟨S8x2048x256, .f32⟩
  | 62 => ⟨S8x2048x768, .f32⟩
  | 63 => ⟨S_, .f32⟩
  | 64 => ⟨S8x2048, .f32⟩
  | 65 => ⟨S8x2048x1, .f32⟩
  | 66 => ⟨S_, .f32⟩
  | 67 => ⟨S8x2048x1, .f32⟩
  | 68 => ⟨S8x2048x1, .f32⟩
  | 69 => ⟨S_, .f32⟩
  | 70 => ⟨S8x2048x1, .f32⟩
  | 71 => ⟨S8x2048x1, .f32⟩
  | 72 => ⟨S8x2048x1, .f32⟩
  | 73 => ⟨S8x2048x768, .f32⟩
  | 74 => ⟨S8x2048x768, .f32⟩
  | 75 => ⟨S1x1x768, .f32⟩
  | 76 => ⟨S8x2048x768, .f32⟩
  | 77 => ⟨S8x2048x768, .f32⟩
  | 78 => ⟨S8x2048x1024, .f32⟩
  | 79 => ⟨S8x2048x1024, .f32⟩
  | 80 => ⟨S_, .f32⟩
  | 81 => ⟨S8x2048x1024, .f32⟩
  | 82 => ⟨S8x2048x1024, .f32⟩
  | 83 => ⟨S8x2048x1024, .f32⟩
  | 84 => ⟨S8x2048x1024, .f32⟩
  | 85 => ⟨S8x2048x1024, .f32⟩
  | 86 => ⟨S_, .f32⟩
  | 87 => ⟨S8x2048, .f32⟩
  | 88 => ⟨S8x2048x1, .f32⟩
  | 89 => ⟨S_, .f32⟩
  | 90 => ⟨S8x2048x1, .f32⟩
  | 91 => ⟨S8x2048x1, .f32⟩
  | 92 => ⟨S8x2048x1024, .f32⟩
  | 93 => ⟨S8x2048x1024, .f32⟩
  | 94 => ⟨S8x2048x1024, .f32⟩
  | 95 => ⟨S_, .f32⟩
  | 96 => ⟨S8x2048, .f32⟩
  | 97 => ⟨S8x2048x1, .f32⟩
  | 98 => ⟨S_, .f32⟩
  | 99 => ⟨S8x2048x1, .f32⟩
  | 100 => ⟨S8x2048x1, .f32⟩
  | 101 => ⟨S8x2048x1024, .f32⟩
  | 102 => ⟨S8x2048x1024, .f32⟩
  | 103 => ⟨S_, .f32⟩
  | 104 => ⟨S8x2048x1, .f32⟩
  | 105 => ⟨S8x2048x1, .f32⟩
  | 106 => ⟨S8x2048x1, .f32⟩
  | 107 => ⟨S8x2048x1024, .f32⟩
  | 108 => ⟨S8x2048x1024, .f32⟩
  | 109 => ⟨S1x1x1024, .f32⟩
  | 110 => ⟨S8x2048x1024, .f32⟩
  | 111 => ⟨S8x2048x1024, .f32⟩
  | 112 => ⟨S1x1x1024, .f32⟩
  | 113 => ⟨S8x2048x1024, .f32⟩
  | 114 => ⟨S8x2048x1024, .f32⟩
  | 115 => ⟨S_, .f32⟩
  | 116 => ⟨S8x1x1024, .f32⟩
  | 117 => ⟨S8x1x1024, .f32⟩
  | 118 => ⟨S8x2048x1024, .f32⟩
  | 119 => ⟨S8x2048x1024, .f32⟩
  | 120 => ⟨S8x2048x1024, .f32⟩
  | 121 => ⟨S8x2048x1024, .f32⟩
  | 122 => ⟨S8x2048x2816, .f32⟩
  | 123 => ⟨S8x2048x2816, .f32⟩
  | 124 => ⟨S8x2048x2816, .f32⟩
  | 125 => ⟨S_, .f32⟩
  | 126 => ⟨S8x2048x2816, .f32⟩
  | 127 => ⟨S8x2048x2816, .f32⟩
  | _ => ⟨S8x2048x1024, .f32⟩

abbrev hbmTy0_1 (i : Nat) : BufTy := match i % 128 with
  | 0 => ⟨S_, .f32⟩
  | 1 => ⟨S8x2048x2816, .f32⟩
  | 2 => ⟨S8x2048x2816, .f32⟩
  | 3 => ⟨S8x2048x2816, .f32⟩
  | 4 => ⟨S8x2048x2816, .f32⟩
  | 5 => ⟨S8x2048x2816, .f32⟩
  | 6 => ⟨S8x2048x1024, .f32⟩
  | 7 => ⟨S_, .f32⟩
  | 8 => ⟨S8x2048x1024, .f32⟩
  | 9 => ⟨S8x2048x1024, .f32⟩
  | 10 => ⟨S8x2048x1024, .f32⟩
  | 11 => ⟨S8x2048x1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S8x2048x1024, .f32⟩
  | 20 => ⟨S8x2048x1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S8x2048x1024, .f32⟩
  | 29 => ⟨S8x2048x1024, .f32⟩
  | 30 => ⟨S_, .f32⟩
  | 31 => ⟨S8x2048x1, .f32⟩
  | 32 => ⟨S8x2048x1, .f32⟩
  | 33 => ⟨S8x2048x1, .f32⟩
  | 34 => ⟨S8x2048x1024, .f32⟩
  | 35 => ⟨S8x2048x1024, .f32⟩
  | 36 => ⟨S1x1x1024, .f32⟩
  | 37 => ⟨S8x2048x1024, .f32⟩
  | 38 => ⟨S8x2048x1024, .f32⟩
  | 39 => ⟨S1x1x1024, .f32⟩
  | 40 => ⟨S8x2048x1024, .f32⟩
  | 41 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_call0_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst : Ref sig .tc := ⟨.hbm, 47, rfl⟩
abbrev main_v26 : Ref sig .tc := ⟨.hbm, 48, rfl⟩
abbrev main_v27 : Ref sig .tc := ⟨.hbm, 49, rfl⟩
abbrev main_cst_0 : Ref sig .tc := ⟨.hbm, 50, rfl⟩
abbrev main_v28 : Ref sig .tc := ⟨.hbm, 51, rfl⟩
abbrev main_v29 : Ref sig .tc := ⟨.hbm, 52, rfl⟩
abbrev main_cst_1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_2 : Ref sig .tc := ⟨.hbm, 63, rfl⟩
abbrev main_v39 : Ref sig .tc := ⟨.hbm, 64, rfl⟩
abbrev main_v40 : Ref sig .tc := ⟨.hbm, 65, rfl⟩
abbrev main_cst_3 : Ref sig .tc := ⟨.hbm, 66, rfl⟩
abbrev main_v41 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_6 : Ref sig .tc := ⟨.hbm, 86, rfl⟩
abbrev main_v58 : Ref sig .tc := ⟨.hbm, 87, rfl⟩
abbrev main_v59 : Ref sig .tc := ⟨.hbm, 88, rfl⟩
abbrev main_cst_7 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_8 : Ref sig .tc := ⟨.hbm, 95, rfl⟩
abbrev main_v65 : Ref sig .tc := ⟨.hbm, 96, rfl⟩
abbrev main_v66 : Ref sig .tc := ⟨.hbm, 97, rfl⟩
abbrev main_cst_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_11 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_call1_v5 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_12 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_13 : Ref sig .tc := ⟨.hbm, 141, rfl⟩
abbrev main_v98 : Ref sig .tc := ⟨.hbm, 142, rfl⟩
abbrev main_v99 : Ref sig .tc := ⟨.hbm, 143, rfl⟩
abbrev main_cst_14 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_15 : Ref sig .tc := ⟨.hbm, 150, rfl⟩
abbrev main_v105 : Ref sig .tc := ⟨.hbm, 151, rfl⟩
abbrev main_v106 : Ref sig .tc := ⟨.hbm, 152, rfl⟩
abbrev main_cst_16 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_17 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩

abbrev nD : Nat := 1
abbrev τ : Topo := Topo.v7x

variable {F : FTy → Type} [FloatOps F]
-- ==== Kernel4.lean ====
abbrev S32x8x1024 : Shape := ⟨3, ![32, 8, 1024]⟩
abbrev S32x1024 : Shape := ⟨2, ![32, 1024]⟩
abbrev S1024x2340 : Shape := ⟨2, ![1024, 2340]⟩
abbrev S256x1024 : Shape := ⟨2, ![256, 1024]⟩
abbrev S1x256x1024 : Shape := ⟨3, ![1, 256, 1024]⟩
abbrev S1024x256 : Shape := ⟨2, ![1024, 256]⟩
abbrev S1024x768 : Shape := ⟨2, ![1024, 768]⟩
abbrev S1024x36 : Shape := ⟨2, ![1024, 36]⟩
abbrev S1024x2x6x64 : Shape := ⟨4, ![1024, 2, 6, 64]⟩
abbrev S_ : Shape := ⟨0, ![]⟩
abbrev S1024x2x6x1x64 : Shape := ⟨5, ![1024, 2, 6, 1, 64]⟩
abbrev S2x2 : Shape := ⟨2, ![2, 2]⟩
abbrev S1x2x1x2x1 : Shape := ⟨5, ![1, 2, 1, 2, 1]⟩
abbrev S1024x2x6x2x64 : Shape := ⟨5, ![1024, 2, 6, 2, 64]⟩
abbrev S1024x1536 : Shape := ⟨2, ![1024, 1536]⟩
abbrev S1024x128 : Shape := ⟨2, ![1024, 128]⟩
abbrev S1024x3200 : Shape := ⟨2, ![1024, 3200]⟩
abbrev S1x256x256 : Shape := ⟨3, ![1, 256, 256]⟩
abbrev S1x256x1536 : Shape := ⟨3, ![1, 256, 1536]⟩
abbrev S1x256x128 : Shape := ⟨3, ![1, 256, 128]⟩
abbrev S256x256 : Shape := ⟨2, ![256, 256]⟩
abbrev S256x1536 : Shape := ⟨2, ![256, 1536]⟩
abbrev S256x128 : Shape := ⟨2, ![256, 128]⟩

abbrev nBuf : Space → Nat
  | .hbm => 50
  | .vmem => 13
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024x2340, .f32⟩
  | .hbm, ⟨4, _⟩ => ⟨S32x8x1024, .f32⟩
  | .hbm, ⟨5, _⟩ => ⟨S256x1024, .f32⟩
  | .hbm, ⟨6, _⟩ => ⟨S1x256x1024, .f32⟩
  | .hbm, ⟨7, _⟩ => ⟨S32x8x1024, .f32⟩
  | .hbm, ⟨8, _⟩ => ⟨S256x1024, .f32⟩
  | .hbm, ⟨9, _⟩ => ⟨S1x256x1024, .f32⟩
  | .hbm, ⟨10, _⟩ => ⟨S1x256x1024, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x768, .f32⟩
  | .hbm, ⟨15, _⟩ => ⟨S1024x256, .f32⟩
  | .hbm, ⟨16, _⟩ => ⟨S1024x256, .f32⟩
  | .hbm, ⟨17, _⟩ => ⟨S1024x256, .f32⟩
  | .hbm, ⟨18, _⟩ => ⟨S1024x36, .f32⟩
  | .hbm, ⟨19, _⟩ => ⟨S1024x2x6x64, .f32⟩
  | .hbm, ⟨20, _⟩ => ⟨S_, .f32⟩
  | .hbm, ⟨21, _⟩ => ⟨S1024x2x6x64, .f32⟩
  | .hbm, ⟨22, _⟩ => ⟨S1024x2x6x64, .f32⟩
  | .hbm, ⟨23, _⟩ => ⟨S1024x2x6x1x64, .f32⟩
  | .hbm, ⟨24, _⟩ => ⟨S2x2, .i32⟩
  | .hbm, ⟨25, _⟩ => ⟨S2x2, .i32⟩
  | .hbm, ⟨26, _⟩ => ⟨S_, .i32⟩
  | .hbm, ⟨27, _⟩ => ⟨S2x2, .i32⟩
  | .hbm, ⟨28, _⟩ => ⟨S2x2, .i32⟩
  | .hbm, ⟨29, _⟩ => ⟨S2x2, .i1⟩
  | .hbm, ⟨30, _⟩ => ⟨S2x2, .f32⟩
  | .hbm, ⟨31, _⟩ => ⟨S1x2x1x2x1, .f32⟩
  | .hbm, ⟨32, _⟩ => ⟨S1024x2x6x2x64, .f32⟩
  | .hbm, ⟨33, _⟩ => ⟨S1024x2x6x2x64, .f32⟩
  | .hbm, ⟨34, _⟩ => ⟨S1024x2x6x2x64, .f32⟩
  | .hbm, ⟨35, _⟩ => ⟨S1024x1536, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x3200, .f32⟩
  | .hbm, ⟨40, _⟩ => ⟨S1024x3200, .bf16⟩
  | .hbm, ⟨41, _⟩ => ⟨S1x256x256, .f32⟩
  | .hbm, ⟨42, _⟩ => ⟨S1x256x256, .f32⟩
  | .hbm, ⟨43, _⟩ => ⟨S1x256x1536, .f32⟩
  | .hbm, ⟨44, _⟩ => ⟨S1x256x256, .f32⟩
  | .hbm, ⟨45, _⟩ => ⟨S1x256x256, .f32⟩
  | .hbm, ⟨46, _⟩ => ⟨S1x256x256, .f32⟩
  | .hbm, ⟨47, _⟩ => ⟨S1x256x256, .bf16⟩
  | .hbm, ⟨48, _⟩ => ⟨S1x256x256, .bf16⟩
  | .hbm, ⟨49, _⟩ => ⟨S1x256x128, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1024x3200, .bf16⟩
  | .local _ .vmem, ⟨4, _⟩ => ⟨S1x256x256, .f32⟩
  | .local _ .vmem, ⟨5, _⟩ => ⟨S1x256x256, .f32⟩
  | .local _ .vmem, ⟨6, _⟩ => ⟨S1x256x1536, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .bf16⟩
  | .local _ .vmem, ⟨11, _⟩ => ⟨S1x256x256, .bf16⟩
  | .local _ .vmem, ⟨12, _⟩ => ⟨S1x256x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_0 : Ref sig .tc := ⟨.hbm, 36, rfl⟩
abbrev main_call0_v0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33_0 : Ref sig .tc := ⟨.hbm, 41, rfl⟩
abbrev main_v33_1 : Ref sig .tc := ⟨.hbm, 42, rfl⟩
abbrev main_v33_2 : Ref sig .tc := ⟨.hbm, 43, rfl⟩
abbrev main_v33_3 : Ref sig .tc := ⟨.hbm, 44, rfl⟩
abbrev main_v33_4 : Ref sig .tc := ⟨.hbm, 45, rfl⟩
abbrev main_v33_5 : Ref sig .tc := ⟨.hbm, 46, rfl⟩
abbrev main_v33_6 : Ref sig .tc := ⟨.hbm, 47, rfl⟩
abbrev main_v33_7 : Ref sig .tc := ⟨.hbm, 48, rfl⟩
abbrev main_v33_8 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]
-- ==== Reference4Ideal.lean ====
abbrev S32x8x1024 : Shape := ⟨3, ![32, 8, 1024]⟩
abbrev S32x1024 : Shape := ⟨2, ![32, 1024]⟩
abbrev S1024x2340 : Shape := ⟨2, ![1024, 2340]⟩
abbrev S32x1x1024 : Shape := ⟨3, ![32, 1, 1024]⟩
abbrev S_ : Shape := ⟨0, ![]⟩
abbrev S32x8x2340 : Shape := ⟨3, ![32, 8, 2340]⟩
abbrev S32x8x256 : Shape := ⟨3, ![32, 8, 256]⟩
abbrev S32x8x768 : Shape := ⟨3, ![32, 8, 768]⟩
abbrev S32x8x36 : Shape := ⟨3, ![32, 8, 36]⟩
abbrev S32x8x2x6x64 : Shape := ⟨5, ![32, 8, 2, 6, 64]⟩
abbrev S32x8x2x6x1x64 : Shape := ⟨6, ![32, 8, 2, 6, 1, 64]⟩
abbrev S2x2 : Shape := ⟨2, ![2, 2]⟩
abbrev S1x1x2x1x2x1 : Shape := ⟨6, ![1, 1, 2, 1, 2, 1]⟩
abbrev S32x8x2x6x2x64 : Shape := ⟨6, ![32, 8, 2, 6, 2, 64]⟩
abbrev S32x8x1536 : Shape := ⟨3, ![32, 8, 1536]⟩
abbrev S32x8x128 : Shape := ⟨3, ![32, 8, 128]⟩
abbrev S1x256x256 : Shape := ⟨3, ![1, 256, 256]⟩
abbrev S1x256x1536 : Shape := ⟨3, ![1, 256, 1536]⟩
abbrev S1x256x128 : Shape := ⟨3, ![1, 256, 128]⟩

abbrev nBuf : Space → Nat
  | .hbm => 62
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x1024, .f32⟩
  | .hbm, ⟨2, _⟩ => ⟨S32x1024, .f32⟩
  | .hbm, ⟨3, _⟩ => ⟨S1024x2340, .f32⟩
  | .hbm, ⟨4, _⟩ => ⟨S32x1x1024, .f32⟩
  | .hbm, ⟨5, _⟩ => ⟨S_, .f32⟩
  | .hbm, ⟨6, _⟩ => ⟨S32x1x1024, .f32⟩
  | .hbm, ⟨7, _⟩ => ⟨S32x1x1024, .f32⟩
  | .hbm, ⟨8, _⟩ => ⟨S32x8x1024, .f32⟩
  | .hbm, ⟨9, _⟩ => ⟨S32x8x1024, .f32⟩
  | .hbm, ⟨10, _⟩ => ⟨S32x1x1024, .f32⟩
  | .hbm, ⟨11, _⟩ => ⟨S32x8x1024, .f32⟩
  | .hbm, ⟨12, _⟩ => ⟨S32x8x1024, .f32⟩
  | .hbm, ⟨13, _⟩ => ⟨S32x8x2340, .f32⟩
  | .hbm, ⟨14, _⟩ => ⟨S32x8x256, .f32⟩
  | .hbm, ⟨15, _⟩ => ⟨S32x8x256, .f32⟩
  | .hbm, ⟨16, _⟩ => ⟨S32x8x256, .f32⟩
  | .hbm, ⟨17, _⟩ => ⟨S32x8x768, .f32⟩
  | .hbm, ⟨18, _⟩ => ⟨S32x8x256, .f32⟩
  | .hbm, ⟨19, _⟩ => ⟨S32x8x256, .f32⟩
  | .hbm, ⟨20, _⟩ => ⟨S32x8x256, .f32⟩
  | .hbm, ⟨21, _⟩ => ⟨S32x8x36, .f32⟩
  | .hbm, ⟨22, _⟩ => ⟨S32x8x2x6x64, .f32⟩
  | .hbm, ⟨23, _⟩ => ⟨S_, .f32⟩
  | .hbm, ⟨24, _⟩ => ⟨S32x8x2x6x64, .f32⟩
  | .hbm, ⟨25, _⟩ => ⟨S32x8x2x6x64, .f32⟩
  | .hbm, ⟨26, _⟩ => ⟨S32x8x2x6x1x64, .f32⟩
  | .hbm, ⟨27, _⟩ => ⟨S2x2, .i32⟩
  | .hbm, ⟨28, _⟩ => ⟨S2x2, .i32⟩
  | .hbm, ⟨29, _⟩ => ⟨S_, .i32⟩
  | .hbm, ⟨30, _⟩ => ⟨S2x2, .i32⟩
  | .hbm, ⟨31, _⟩ => ⟨S2x2, .i32⟩
  | .hbm, ⟨32, _⟩ => ⟨S2x2, .i1⟩
  | .hbm, ⟨33, _⟩ => ⟨S2x2, .f32⟩
  | .hbm, ⟨34, _⟩ => ⟨S1x1x2x1x2x1, .f32⟩
  | .hbm, ⟨35, _⟩ => ⟨S32x8x2x6x2x64, .f32⟩
  | .hbm, ⟨36, _⟩ => ⟨S32x8x2x6x2x64, .f32⟩
  | .hbm, ⟨37, _⟩ => ⟨S32x8x2x6x2x64, .f32⟩
  | .hbm, ⟨38, _⟩ => ⟨S32x8x1536, .f32⟩
  | .hbm, ⟨39, _⟩ => ⟨S_, .i32⟩
  | .hbm, ⟨40, _⟩ => ⟨S_, .f32⟩
  | .hbm, ⟨41, _⟩ => ⟨S32x8x128, .f32⟩
  | .hbm, ⟨42, _⟩ => ⟨S32x8x128, .f32⟩
  | .hbm, ⟨43, _⟩ => ⟨S32x8x128, .f32⟩
  | .hbm, ⟨44, _⟩ => ⟨S_, .f32⟩
  | .hbm, ⟨45, _⟩ => ⟨S32x8x128, .f32⟩
  | .hbm, ⟨46, _⟩ => ⟨S32x8x128, .f32⟩
  | .hbm, ⟨47, _⟩ => ⟨S_, .f32⟩
  | .hbm, ⟨48, _⟩ => ⟨S32x8x128, .f32⟩
  | .hbm, ⟨49, _⟩ => ⟨S32x8x128, .f32⟩
  | .hbm, ⟨50, _⟩ => ⟨S32x8x256, .f32⟩
  | .hbm, ⟨51, _⟩ => ⟨S32x8x256, .bf16⟩
  | .hbm, ⟨52, _⟩ => ⟨S32x8x256, .bf16⟩
  | .hbm, ⟨53, _⟩ => ⟨S1x256x256, .f32⟩
  | .hbm, ⟨54, _⟩ => ⟨S1x256x256, .f32⟩
  | .hbm, ⟨55, _⟩ => ⟨S1x256x1536, .f32⟩
  | .hbm, ⟨56, _⟩ => ⟨S1x256x256, .f32⟩
  | .hbm, ⟨57, _⟩ => ⟨S1x256x256, .f32⟩
  | .hbm, ⟨58, _⟩ => ⟨S1x256x256, .f32⟩
  | .hbm, ⟨59, _⟩ => ⟨S1x256x256, .bf16⟩
  | .hbm, ⟨60, _⟩ => ⟨S1x256x256, .bf16⟩
  | .hbm, ⟨61, _⟩ => ⟨S1x256x128, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_call0_v0 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel5.lean ====
abbrev S32x8x1024 : Shape := ⟨3, ![32, 8, 1024]⟩
abbrev S32x8x768 : Shape := ⟨3, ![32, 8, 768]⟩
abbrev S32x8x256 : Shape := ⟨3, ![32, 8, 256]⟩
abbrev S32x2x256 : Shape := ⟨3, ![32, 2, 256]⟩
abbrev S32x1024 : Shape := ⟨2, ![32, 1024]⟩
abbrev S3x256 : Shape := ⟨2, ![3, 256]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S2x6x64 : Shape := ⟨3, ![2, 6, 64]⟩
abbrev S6x2x64 : Shape := ⟨3, ![6, 2, 64]⟩
abbrev S1x768 : Shape := ⟨2, ![1, 768]⟩
abbrev S768x1024 : Shape := ⟨2, ![768, 1024]⟩
abbrev S2x6x64x1024 : Shape := ⟨4, ![2, 6, 64, 1024]⟩
abbrev S6x2x64x1024 : Shape := ⟨4, ![6, 2, 64, 1024]⟩
abbrev S1x256 : Shape := ⟨2, ![1, 256]⟩
abbrev S256x1024 : Shape := ⟨2, ![256, 1024]⟩
abbrev S1x1024 : Shape := ⟨2, ![1, 1024]⟩
abbrev S1x256x1024 : Shape := ⟨3, ![1, 256, 1024]⟩
abbrev S8 : Shape := ⟨1, ![8]⟩
abbrev S1x8x1 : Shape := ⟨3, ![1, 8, 1]⟩
abbrev S_ : Shape := ⟨0, ![]⟩
abbrev S32x1x256 : Shape := ⟨3, ![32, 1, 256]⟩
abbrev S1x256x256 : Shape := ⟨3, ![1, 256, 256]⟩
abbrev S1x256x768 : Shape := ⟨3, ![1, 256, 768]⟩
abbrev S1x8x256 : Shape := ⟨3, ![1, 8, 256]⟩
abbrev S256x256 : Shape := ⟨2, ![256, 256]⟩
abbrev S8x256 : Shape := ⟨2, ![8, 256]⟩
abbrev S264x256 : Shape := ⟨2, ![264, 256]⟩
abbrev S256x1 : Shape := ⟨2, ![256, 1]⟩
abbrev S256x768 : Shape := ⟨2, ![256, 768]⟩
abbrev S1024x256 : Shape := ⟨2, ![1024, 256]⟩

abbrev nBuf : Space → Nat
  | .hbm => 86
  | .vmem => 24
  | .smem => 0
  | _ => 0

abbrev bufTy : (tb : Table) → Fin (tcTables nBuf tb) → BufTy
  | .hbm, ⟨0, _⟩ => ⟨S32x8x1024, .f32⟩
  | .hbm, ⟨1, _⟩ => ⟨S32x8x768, .f32⟩
  | .hbm, ⟨2, _⟩ => ⟨S32x8x256, .f32⟩
  | .hbm, ⟨3, _⟩ => ⟨S32x8x256, .f32⟩
  | .hbm, ⟨4, _⟩ => ⟨S32x2x256, .f32⟩
  | .hbm, ⟨5, _⟩ => ⟨S32x1024, .f32⟩
  | .hbm, ⟨6, _⟩ => ⟨S32x1024, .f32⟩
  | .hbm, ⟨7, _⟩ => ⟨S32x1024, .f32⟩
  | .hbm, ⟨8, _⟩ => ⟨S32x1024, .f32⟩
  | .hbm, ⟨9, _⟩ => ⟨S3x256, .f32⟩
  | .hbm, ⟨10, _⟩ => ⟨S256, .f32⟩
  | .hbm, ⟨11, _⟩ => ⟨S768, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024x2816, .f32⟩
  | .hbm, ⟨18, _⟩ => ⟨S1024x2816, .f32⟩
  | .hbm, ⟨19, _⟩ => ⟨S2816x1024, .f32⟩
  | .hbm, ⟨20, _⟩ => ⟨S2x6x64, .f32⟩
  | .hbm, ⟨21, _⟩ => ⟨S6x2x64, .f32⟩
  | .hbm, ⟨22, _⟩ => ⟨S1x768, .f32⟩
  | .hbm, ⟨23, _⟩ => ⟨S768x1024, .f32⟩
  | .hbm, ⟨24, _⟩ => ⟨S2x6x64x1024, .f32⟩
  | .hbm, ⟨25, _⟩ => ⟨S6x2x64x1024, .f32⟩
  | .hbm, ⟨26, _⟩ => ⟨S1x256, .f32⟩
  | .hbm, ⟨27, _⟩ => ⟨S256x1024, .f32⟩
  | .hbm, ⟨28, _⟩ => ⟨S256x1024, .bf16⟩
  | .hbm, ⟨29, _⟩ => ⟨S768x1024, .f32⟩
  | .hbm, ⟨30, _⟩ => ⟨S768x1024, .bf16⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1024x2816, .bf16⟩
  | .hbm, ⟨36, _⟩ => ⟨S1024x2816, .bf16⟩
  | .hbm, ⟨37, _⟩ => ⟨S2816x1024, .bf16⟩
  | .hbm, ⟨38, _⟩ => ⟨S32x8x1024, .f32⟩
  | .hbm, ⟨39, _⟩ => ⟨S256x1024, .f32⟩
  | .hbm, ⟨40, _⟩ => ⟨S1x256x1024, .f32⟩
  | .hbm, ⟨41, _⟩ => ⟨S32x8x1024, .f32⟩
  | .hbm, ⟨42, _⟩ => ⟨S256x1024, .f32⟩
  | .hbm, ⟨43, _⟩ => ⟨S1x256x1024, .f32⟩
  | .hbm, ⟨44, _⟩ => ⟨S32x8x1024, .f32⟩
  | .hbm, ⟨45, _⟩ => ⟨S256x1024, .f32⟩
  | .hbm, ⟨46, _⟩ => ⟨S1x256x1024, .f32⟩
  | .hbm, ⟨47, _⟩ => ⟨S32x8x1024, .f32⟩
  | .hbm, ⟨48, _⟩ => ⟨S256x1024, .f32⟩
  | .hbm, ⟨49, _⟩ => ⟨S1x256x1024, .f32⟩
  | .hbm, ⟨50, _⟩ => ⟨S8, .i32⟩
  | .hbm, ⟨51, _⟩ => ⟨S1x8x1, .i32⟩
  | .hbm, ⟨52, _⟩ => ⟨S_, .i32⟩
  | .hbm, ⟨53, _⟩ => ⟨S1x8x1, .i32⟩
  | .hbm, ⟨54, _⟩ => ⟨S1x8x1, .i1⟩
  | .hbm, ⟨55, _⟩ => ⟨S32x1x256, .f32⟩
  | .hbm, ⟨56, _⟩ => ⟨S_, .f32⟩
  | .hbm, ⟨57, _⟩ => ⟨S_, .f32⟩
  | .hbm, ⟨58, _⟩ => ⟨S32x8x256, .i1⟩
  | .hbm, ⟨59, _⟩ => ⟨S32x8x256, .f32⟩
  | .hbm, ⟨60, _⟩ => ⟨S32x8x256, .f32⟩
  | .hbm, ⟨61, _⟩ => ⟨S32x8x256, .f32⟩
  | .hbm, ⟨62, _⟩ => ⟨S1x256x256, .f32⟩
  | .hbm, ⟨63, _⟩ => ⟨S_, .i32⟩
  | .hbm, ⟨64, _⟩ => ⟨S1x8x1, .i32⟩
  | .hbm, ⟨65, _⟩ => ⟨S1x8x1, .i1⟩
  | .hbm, ⟨66, _⟩ => ⟨S32x1x256, .f32⟩
  | .hbm, ⟨67, _⟩ => ⟨S_, .i32⟩
  | .hbm, ⟨68, _⟩ => ⟨S1x8x1, .i32⟩
  | .hbm, ⟨69, _⟩ => ⟨S1x8x1, .i1⟩
  | .hbm, ⟨70, _⟩ => ⟨S32x1x256, .f32⟩
  | .hbm, ⟨71, _⟩ => ⟨S_, .f32⟩
  | .hbm, ⟨72, _⟩ => ⟨S_, .f32⟩
  | .hbm, ⟨73, _⟩ => ⟨S32x8x256, .i1⟩
  | .hbm, ⟨74, _⟩ => ⟨S32x8x256, .f32⟩
  | .hbm, ⟨75, _⟩ => ⟨S32x8x256, .f32⟩
  | .hbm, ⟨76, _⟩ => ⟨S32x8x256, .f32⟩
  | .hbm, ⟨77, _⟩ => ⟨S32x8x256, .i1⟩
  | .hbm, ⟨78, _⟩ => ⟨S32x8x256, .f32⟩
  | .hbm, ⟨79, _⟩ => ⟨S32x8x256, .f32⟩
  | .hbm, ⟨80, _⟩ => ⟨S1x256x256, .f32⟩
  | .hbm, ⟨81, _⟩ => ⟨S1x256x1024, .f32⟩
  | .hbm, ⟨82, _⟩ => ⟨S1x256x768, .f32⟩
  | .hbm, ⟨83, _⟩ => ⟨S1x256x256, .f32⟩
  | .hbm, ⟨84, _⟩ => ⟨S1x256x256, .f32⟩
  | .hbm, ⟨85, _⟩ => ⟨S1x256x1024, .f32⟩
  | .local _ .vmem, ⟨0, _⟩ => ⟨S1x256x1024, .f32⟩
  | .local _ .vmem, ⟨1, _⟩ => ⟨S1x256x768, .f32⟩
  | .local _ .vmem, ⟨2, _⟩ => ⟨S1x256x256, .f32⟩
  | .local _ .vmem, ⟨3, _⟩ => ⟨S1x8x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S3x256, .f32⟩
  | .local _ .vmem, ⟨12, _⟩ => ⟨S1x256, .f32⟩
  | .local _ .vmem, ⟨13, _⟩ => ⟨S1x768, .f32⟩
  | .local _ .vmem, ⟨14, _⟩ => ⟨S256x1024, .bf16⟩
  | .local _ .vmem, ⟨15, _⟩ => ⟨S768x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | .local _ .vmem, ⟨23, _⟩ => ⟨S1x256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_v35 : Ref sig .tc := ⟨.hbm, 61, rfl⟩
abbrev main_v36 : Ref sig .tc := ⟨.hbm, 62, rfl⟩
abbrev main_c_0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_2 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_v43 : Ref sig .tc := ⟨.hbm, 76, rfl⟩
abbrev main_call2_v0 : Ref sig .tc := ⟨.hbm, 77, rfl⟩
abbrev main_call2_v1 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S3x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x768 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1024x2816 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S2816x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true, true]
-- ==== Kernel5Ideal.lean ====
variable {F : FTy → Type} [FloatOps F] [Named F]
def κ : String → Option EReal := fun
  | "inv_dim" => some ((1 / 768 : ℝ) : EReal)
  | _ => none
-- ==== Reference5Ideal.lean ====
abbrev S32x8x1024 : Shape := ⟨3, ![32, 8, 1024]⟩
abbrev S32x8x768 : Shape := ⟨3, ![32, 8, 768]⟩
abbrev S32x8x256 : Shape := ⟨3, ![32, 8, 256]⟩
abbrev S32x2x256 : Shape := ⟨3, ![32, 2, 256]⟩
abbrev S32x1024 : Shape := ⟨2, ![32, 1024]⟩
abbrev S3x256 : Shape := ⟨2, ![3, 256]⟩
abbrev S256 : Shape := ⟨1, ![256]⟩
abbrev S768 : Shape := ⟨1, ![768]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32x8x6x2x64 : Shape := ⟨5, ![32, 8, 6, 2, 64]⟩
abbrev S32x8x2x6x64 : Shape := ⟨5, ![32, 8, 2, 6, 64]⟩
abbrev S32x10x256 : Shape := ⟨3, ![32, 10, 256]⟩
abbrev S1x256 : Shape := ⟨2, ![1, 256]⟩
abbrev S1x1x256 : Shape := ⟨3, ![1, 1, 256]⟩
abbrev S_ : Shape := ⟨0, ![]⟩
abbrev S32x8 : Shape := ⟨2, ![32, 8]⟩
abbrev S32x8x1 : Shape := ⟨3, ![32, 8, 1]⟩
abbrev S1x1x768 : Shape := ⟨3, ![1, 1, 768]⟩
abbrev S32x1x1024 : Shape := ⟨3, ![32, 1, 1024]⟩
abbrev S1x1x1024 : Shape := ⟨3, ![1, 1, 1024]⟩
abbrev S32x8x2816 : Shape := ⟨3, ![32, 8, 2816]⟩
abbrev S1x256x1024 : Shape := ⟨3, ![1, 256, 1024]⟩

abbrev nBuf : Space → Nat
  | .hbm => 174
  | .vmem => 0
  | .smem => 0
  | _ => 0

abbrev hbmTy0_0 (i : Nat) : BufTy := match i % 128 with
  | 0 => ⟨S32x8x1024, .f32⟩
  | 1 => ⟨S32x8x768, .f32⟩
  | 2 => ⟨S32x8x256, .f32⟩
  | 3 => ⟨S32x8x256, .f32⟩
  | 4 => ⟨S32x2x256, .f32⟩
  | 5 => ⟨S32x1024, .f32⟩
  | 6 => ⟨S32x1024, .f32⟩
  | 7 => ⟨S32x1024, .f32⟩
  | 8 => ⟨S32x1024, .f32⟩
  | 9 => ⟨S3x256, .f32⟩
  | 10 => ⟨S256, .f32⟩
  | 11 => ⟨S768, .f32⟩
  | 12 => ⟨S1024x1024, .f32⟩
  | 13 => ⟨S1024, .f32⟩
  | 14 => ⟨S1024, .f32⟩
  | 15 => ⟨S1024, .f32⟩
  | 16 => ⟨S1024, .f32⟩
  | 17 => ⟨S1024x2816, .f32⟩
  | 18 => ⟨S1024x2816, .f32⟩
  | 19 => ⟨S2816x1024, .f32⟩
  | 20 => ⟨S32x8x6x2x64, .f32⟩
  | 21 => ⟨S32x8x2x6x64, .f32⟩
  | 22 => ⟨S32x8x768, .f32⟩
  | 23 => ⟨S32x10x256, .f32⟩
  | 24 => ⟨S1x256, .f32⟩
  | 25 => ⟨S256, .f32⟩
  | 26 => ⟨S32x8x256, .f32⟩
  | 27 => ⟨S1x1x256, .f32⟩
  | 28 => ⟨S32x8x256, .f32⟩
  | 29 => ⟨S32x8x256, .f32⟩
  | 30 => ⟨S1x256, .f32⟩
  | 31 => ⟨S256, .f32⟩
  | 32 => ⟨S32x8x256, .f32⟩
  | 33 => ⟨S1x1x256, .f32⟩
  | 34 => ⟨S32x8x256, .f32⟩
  | 35 => ⟨S32x8x256, .f32⟩
  | 36 => ⟨S32x8x256, .f32⟩
  | 37 => ⟨S1x256, .f32⟩
  | 38 => ⟨S256, .f32⟩
  | 39 => ⟨S32x8x256, .f32⟩
  | 40 => ⟨S1x1x256, .f32⟩
  | 41 => ⟨S32x8x256, .f32⟩
  | 42 => ⟨S32x8x256, .f32⟩
  | 43 => ⟨S32x8x256, .f32⟩
  | 44 => ⟨S32x8x256, .f32⟩
  | 45 => ⟨S32x8x256, .f32⟩
  | 46 => ⟨S_, .f32⟩
  | 47 => ⟨S32x8, .f32⟩
  | 48 => ⟨S32x8x1, .f32⟩
  | 49 => ⟨S_, .f32⟩
  | 50 => ⟨S32x8x1, .f32⟩
  | 51 => ⟨S32x8x1, .f32⟩
  | 52 => ⟨S_, .f32⟩
  | 53 => ⟨S32x8x1, .f32⟩
  | 54 => ⟨S32x8x1, .f32⟩
  | 55 => ⟨S32x8x1, .f32⟩
  | 56 => ⟨S32x8x256, .f32⟩
  | 57 => ⟨S32x8x256, .f32⟩
  | 58 => ⟨S1x1x256, .f32⟩
  | 59 => ⟨S32x8x256, .f32⟩
  | 60 => ⟨S32x8x256, .f32⟩
  | 61 => ⟨S32x8x768, .f32⟩
  | 62 => ⟨S_, .f32⟩
  | 63 => ⟨S32x8, .f32⟩
  | 64 => ⟨S32x8x1, .f32⟩
  | 65 => ⟨S_, .f32⟩
  | 66 => ⟨S32x8x1, .f32⟩
  | 67 => ⟨S32x8x1, .f32⟩
  | 68 => ⟨S_, .f32⟩
  | 69 => ⟨S32x8x1, .f32⟩
  | 70 => ⟨S32x8x1, .f32⟩
  | 71 => ⟨S32x8x1, .f32⟩
  | 72 => ⟨S32x8x768, .f32⟩
  | 73 => ⟨S32x8x768, .f32⟩
  | 74 => ⟨S1x1x768, .f32⟩
  | 75 => ⟨S32x8x768, .f32⟩
  | 76 => ⟨S32x8x768, .f32⟩
  | 77 => ⟨S32x8x1024, .f32⟩
  | 78 => ⟨S32x8x1024, .f32⟩
  | 79 => ⟨S_, .f32⟩
  | 80 => ⟨S32x8x1024, .f32⟩
  | 81 => ⟨S32x8x1024, .f32⟩
  | 82 => ⟨S32x1x1024, .f32⟩
  | 83 => ⟨S32x8x1024, .f32⟩
  | 84 => ⟨S32x8x1024, .f32⟩
  | 85 => ⟨S32x8x1024, .f32⟩
  | 86 => ⟨S_, .f32⟩
  | 87 => ⟨S32x8, .f32⟩
  | 88 => ⟨S32x8x1, .f32⟩
  | 89 => ⟨S_, .f32⟩
  | 90 => ⟨S32x8x1, .f32⟩
  | 91 => ⟨S32x8x1, .f32⟩
  | 92 => ⟨S32x8x1024, .f32⟩
  | 93 => ⟨S32x8x1024, .f32⟩
  | 94 => ⟨S32x8x1024, .f32⟩
  | 95 => ⟨S_, .f32⟩
  | 96 => ⟨S32x8, .f32⟩
  | 97 => ⟨S32x8x1, .f32⟩
  | 98 => ⟨S_, .f32⟩
  | 99 => ⟨S32x8x1, .f32⟩
  | 100 => ⟨S32x8x1, .f32⟩
  | 101 => ⟨S32x8x1024, .f32⟩
  | 102 => ⟨S32x8x1024, .f32⟩
  | 103 => ⟨S_, .f32⟩
  | 104 => ⟨S32x8x1, .f32⟩
  | 105 => ⟨S32x8x1, .f32⟩
  | 106 => ⟨S32x8x1, .f32⟩
  | 107 => ⟨S32x8x1024, .f32⟩
  | 108 => ⟨S32x8x1024, .f32⟩
  | 109 => ⟨S1x1x1024, .f32⟩
  | 110 => ⟨S32x8x1024, .f32⟩
  | 111 => ⟨S32x8x1024, .f32⟩
  | 112 => ⟨S1x1x1024, .f32⟩
  | 113 => ⟨S32x8x1024, .f32⟩
  | 114 => ⟨S32x8x1024, .f32⟩
  | 115 => ⟨S32x1x1024, .f32⟩
  | 116 => ⟨S_, .f32⟩
  | 117 => ⟨S32x1x1024, .f32⟩
  | 118 => ⟨S32x1x1024, .f32⟩
  | 119 => ⟨S32x8x1024, .f32⟩
  | 120 => ⟨S32x8x1024, .f32⟩
  | 121 => ⟨S32x1x1024, .f32⟩
  | 122 => ⟨S32x8x1024, .f32⟩
  | 123 => ⟨S32x8x1024, .f32⟩
  | 124 => ⟨S32x8x2816, .f32⟩
  | 125 => ⟨S32x8x2816, .f32⟩
  | 126 => ⟨S32x8x2816, .f32⟩
  | 127 => ⟨S_, .f32⟩
  | _ => ⟨S32x8x1024, .f32⟩

abbrev hbmTy0_1 (i : Nat) : BufTy := match i % 128 with
  | 0 => ⟨S32x8x2816, .f32⟩
  | 1 => ⟨S32x8x2816, .f32⟩
  | 2 => ⟨S_, .f32⟩
  | 3 => ⟨S32x8x2816, .f32⟩
  | 4 => ⟨S32x8x2816, .f32⟩
  | 5 => ⟨S32x8x2816, .f32⟩
  | 6 => ⟨S32x8x2816, .f32⟩
  | 7 => ⟨S32x8x2816, .f32⟩
  | 8 => ⟨S32x8x1024, .f32⟩
  | 9 => ⟨S_, .f32⟩
  | 10 => ⟨S32x8x1024, .f32⟩
  | 11 => ⟨S32x8x1024, .f32⟩
  | 12 => ⟨S32x1x1024, .f32⟩
  | 13 => ⟨S32x8x1024, .f32⟩
  | 14 => ⟨S32x8x1024, .f32⟩
  | 15 => ⟨S32x8x1024, .f32⟩
  | 16 => ⟨S_, .f32⟩
  | 17 => ⟨S32x8, .f32⟩
  | 18 => ⟨S32x8x1, .f32⟩
  | 19 => ⟨S_, .f32⟩
  | 20 => ⟨S32x8x1, .f32⟩
  | 21 => ⟨S32x8x1, .f32⟩
  | 22 => ⟨S32x8x1024, .f32⟩
  | 23 => ⟨S32x8x1024, .f32⟩
  | 24 => ⟨S32x8x1024, .f32⟩
  | 25 => ⟨S_, .f32⟩
  | 26 => ⟨S32x8, .f32⟩
  | 27 => ⟨S32x8x1, .f32⟩
  | 28 => ⟨S_, .f32⟩
  | 29 => ⟨S32x8x1, .f32⟩
  | 30 => ⟨S32x8x1, .f32⟩
  | 31 => ⟨S32x8x1024, .f32⟩
  | 32 => ⟨S32x8x1024, .f32⟩
  | 33 => ⟨S_, .f32⟩
  | 34 => ⟨S32x8x1, .f32⟩
  | 35 => ⟨S32x8x1, .f32⟩
  | 36 => ⟨S32x8x1, .f32⟩
  | 37 => ⟨S32x8x1024, .f32⟩
  | 38 => ⟨S32x8x1024, .f32⟩
  | 39 => ⟨S1x1x1024, .f32⟩
  | 40 => ⟨S32x8x1024, .f32⟩
  | 41 => ⟨S32x8x1024, .f32⟩
  | 42 => ⟨S1x1x1024, .f32⟩
  | 43 => ⟨S32x8x1024, .f32⟩
  | 44 => ⟨S32x8x1024, .f32⟩
  | 45 => ⟨S1x256x1024, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst : Ref sig .tc := ⟨.hbm, 46, rfl⟩
abbrev main_v26 : Ref sig .tc := ⟨.hbm, 47, rfl⟩
abbrev main_v27 : Ref sig .tc := ⟨.hbm, 48, rfl⟩
abbrev main_cst_0 : Ref sig .tc := ⟨.hbm, 49, rfl⟩
abbrev main_v28 : Ref sig .tc := ⟨.hbm, 50, rfl⟩
abbrev main_v29 : Ref sig .tc := ⟨.hbm, 51, rfl⟩
abbrev main_cst_1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_cst_3 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_v66 : Ref sig .tc := ⟨.hbm, 96, rfl⟩
abbrev main_v67 : Ref sig .tc := ⟨.hbm, 97, rfl⟩
abbrev main_cst_9 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_10 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_12 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_13 : Ref sig .tc := ⟨.hbm, 144, rfl⟩
abbrev main_v102 : Ref sig .tc := ⟨.hbm, 145, rfl⟩
abbrev main_v103 : Ref sig .tc := ⟨.hbm, 146, rfl⟩
abbrev main_cst_14 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_15 : Ref sig .tc := ⟨.hbm, 153, rfl⟩
abbrev main_v109 : Ref sig .tc := ⟨.hbm, 154, rfl⟩
abbrev main_v110 : Ref sig .tc := ⟨.hbm, 155, rfl⟩
abbrev main_cst_16 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_cst_17 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩

abbrev nD : Nat := 1
abbrev τ : Topo := Topo.v7x

variable {F : FTy → Type} [FloatOps F]
-- ==== Kernel6.lean ====
abbrev S8x1024 : Shape := ⟨2, ![8, 1024]⟩
abbrev S32x1024 : Shape := ⟨2, ![32, 1024]⟩
abbrev S1024x6144 : Shape := ⟨2, ![1024, 6144]⟩
abbrev S6144 : Shape := ⟨1, ![6144]⟩
abbrev S40x1024 : Shape := ⟨2, ![40, 1024]⟩
abbrev S1x6144 : Shape := ⟨2, ![1, 6144]⟩
abbrev S40x6144 : Shape := ⟨2, ![40, 6144]⟩
abbrev S1024x512 : Shape := ⟨2, ![1024, 512]⟩
abbrev S1x512 : Shape := ⟨2, ![1, 512]⟩
abbrev S40x512 : Shape := ⟨2, ![40, 512]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S40x1024, .f32⟩
  | .hbm, ⟨5, _⟩ => ⟨S1x6144, .f32⟩
  | .hbm, ⟨6, _⟩ => ⟨S40x6144, .f32⟩
  | .local _ .vmem, ⟨0, _⟩ => ⟨S40x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x1024 : Shape := ⟨2, ![8, 1024]⟩
abbrev S32x1024 : Shape := ⟨2, ![32, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S32x6144 : Shape := ⟨2, ![32, 6144]⟩
abbrev S40x6144 : Shape := ⟨2, ![40, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S1024x6144, .f32⟩
  | .hbm, ⟨3, _⟩ => ⟨S6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x6144, .f32⟩
  | .hbm, ⟨14, _⟩ => ⟨S1x6144, .f32⟩
  | .hbm, ⟨15, _⟩ => ⟨S8x6144, .f32⟩
  | .hbm, ⟨16, _⟩ => ⟨S8x6144, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S32x6144, .f32⟩
  | .hbm, ⟨27, _⟩ => ⟨S1x6144, .f32⟩
  | .hbm, ⟨28, _⟩ => ⟨S32x6144, .f32⟩
  | .hbm, ⟨29, _⟩ => ⟨S32x6144, .f32⟩
  | .hbm, ⟨30, _⟩ => ⟨S40x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel7.lean ====
abbrev S8x2048x256 : Shape := ⟨3, ![8, 2048, 256]⟩
abbrev S2x32x64 : Shape := ⟨3, ![2, 32, 64]⟩
abbrev S2x32x64x128 : Shape := ⟨4, ![2, 32, 64, 128]⟩
abbrev S2x128 : Shape := ⟨2, ![2, 128]⟩
abbrev S2x128x64 : Shape := ⟨3, ![2, 128, 64]⟩
abbrev S2x2 : Shape := ⟨2, ![2, 2]⟩
abbrev S_ : Shape := ⟨0, ![]⟩
abbrev S2x2x8x2x64x128 : Shape := ⟨6, ![2, 2, 8, 2, 64, 128]⟩
abbrev S2x8x2x64x2x128 : Shape := ⟨6, ![2, 8, 2, 64, 2, 128]⟩
abbrev S2x8x2x1x64x2x1x128 : Shape := ⟨8, ![2, 8, 2, 1, 64, 2, 1, 128]⟩
abbrev S1x1x1x2x1x1x2x1 : Shape := ⟨8, ![1, 1, 1, 2, 1, 1, 2, 1]⟩
abbrev S2x8x2x2x64x2x2x128 : Shape := ⟨8, ![2, 8, 2, 2, 64, 2, 2, 128]⟩
abbrev S2x8x256x512 : Shape := ⟨4, ![2, 8, 256, 512]⟩
abbrev S2x1x128x1x64 : Shape := ⟨5, ![2, 1, 128, 1, 64]⟩
abbrev S1x2x1x2x1 : Shape := ⟨5, ![1, 2, 1, 2, 1]⟩
abbrev S2x2x128x2x64 : Shape := ⟨5, ![2, 2, 128, 2, 64]⟩
abbrev S2x256x128 : Shape := ⟨3, ![2, 256, 128]⟩
abbrev S2x2048 : Shape := ⟨2, ![2, 2048]⟩
abbrev S2x2048x128 : Shape := ⟨3, ![2, 2048, 128]⟩
abbrev S8x128x256 : Shape := ⟨3, ![8, 128, 256]⟩
abbrev S1x2048x256 : Shape := ⟨3, ![1, 2048, 256]⟩
abbrev S1x128x256 : Shape := ⟨3, ![1, 128, 256]⟩
abbrev S1x2048x128 : Shape := ⟨3, ![1, 2048, 128]⟩
abbrev S2048x128 : Shape := ⟨2, ![2048, 128]⟩
abbrev S1x128x128 : Shape := ⟨3, ![1, 128, 128]⟩
abbrev S128x128 : Shape := ⟨2, ![128, 128]⟩
abbrev S128x256 : Shape := ⟨2, ![128, 256]⟩
abbrev S1x1x256x512 : Shape := ⟨4, ![1, 1, 256, 512]⟩
abbrev S256x512 : Shape := ⟨2, ![256, 512]⟩
abbrev S128x512 : Shape := ⟨2, ![128, 512]⟩
abbrev S1x2048 : Shape := ⟨2, ![1, 2048]⟩
abbrev S8x2048 : Shape := ⟨2, ![8, 2048]⟩
abbrev S8x128 : Shape := ⟨2, ![8, 128]⟩
abbrev S1x128 : Shape := ⟨2, ![1, 128]⟩
abbrev S1x256 : Shape := ⟨2, ![1, 256]⟩
abbrev S1x256x128 : Shape := ⟨3, ![1, 256, 128]⟩
abbrev S256x128 : Shape := ⟨2, ![256, 128]⟩

abbrev nBuf : Space → Nat
  | .hbm => 32
  | .vmem => 10
  | .smem => 0
  | _ => 0

abbrev bufTy : (tb : Table) → Fin (tcTables nBuf tb) → BufTy
  | .hbm, ⟨0, _⟩ => ⟨S8x2048x256, .f32⟩
  | .hbm, ⟨1, _⟩ => ⟨S2x32x64, .f32⟩
  | .hbm, ⟨2, _⟩ => ⟨S2x32x64x128, .f32⟩
  | .hbm, ⟨3, _⟩ => ⟨S2x128, .f32⟩
  | .hbm, ⟨4, _⟩ => ⟨S2x128x64, .f32⟩
  | .hbm, ⟨5, _⟩ => ⟨S2x2, .i32⟩
  | .hbm, ⟨6, _⟩ => ⟨S2x2, .i32⟩
  | .hbm, ⟨7, _⟩ => ⟨S_, .i32⟩
  | .hbm, ⟨8, _⟩ => ⟨S2x2, .i32⟩
  | .hbm, ⟨9, _⟩ => ⟨S2x2, .i32⟩
  | .hbm, ⟨10, _⟩ => ⟨S2x2, .i1⟩
  | .hbm, ⟨11, _⟩ => ⟨S2x2, .f32⟩
  | .hbm, ⟨12, _⟩ => ⟨S2x2x8x2x64x128, .f32⟩
  | .hbm, ⟨13, _⟩ => ⟨S2x8x2x64x2x128, .f32⟩
  | .hbm, ⟨14, _⟩ => ⟨S2x8x2x1x64x2x1x128, .f32⟩
  | .hbm, ⟨15, _⟩ => ⟨S1x1x1x2x1x1x2x1, .f32⟩
  | .hbm, ⟨16, _⟩ => ⟨S2x8x2x2x64x2x2x128, .f32⟩
  | .hbm, ⟨17, _⟩ => ⟨S2x8x2x2x64x2x2x128, .f32⟩
  | .hbm, ⟨18, _⟩ => ⟨S2x8x2x2x64x2x2x128, .f32⟩
  | .hbm, ⟨19, _⟩ => ⟨S2x8x256x512, .f32⟩
  | .hbm, ⟨20, _⟩ => ⟨S2x8x256x512, .bf16⟩
  | .hbm, ⟨21, _⟩ => ⟨S2x1x128x1x64, .f32⟩
  | .hbm, ⟨22, _⟩ => ⟨S1x2x1x2x1, .f32⟩
  | .hbm, ⟨23, _⟩ => ⟨S2x2x128x2x64, .f32⟩
  | .hbm, ⟨24, _⟩ => ⟨S2x2x128x2x64, .f32⟩
  | .hbm, ⟨25, _⟩ => ⟨S2x2x128x2x64, .f32⟩
  | .hbm, ⟨26, _⟩ => ⟨S2x256x128, .f32⟩
  | .hbm, ⟨27, _⟩ => ⟨S2x256x128, .bf16⟩
  | .hbm, ⟨28, _⟩ => ⟨S2x2048, .f32⟩
  | .hbm, ⟨29, _⟩ => ⟨S2x2048x128, .f32⟩
  | .hbm, ⟨30, _⟩ => ⟨S2x2048x128, .bf16⟩
  | .hbm, ⟨31, _⟩ => ⟨S8x128x256, .bf16⟩
  | .local _ .vmem, ⟨0, _⟩ => ⟨S1x2048x256, .f32⟩
  | .local _ .vmem, ⟨1, _⟩ => ⟨S1x2048x256, .f32⟩
  | .local _ .vmem, ⟨2, _⟩ => ⟨S2x8x256x512, .bf16⟩
  | .local _ .vmem, ⟨3, _⟩ => ⟨S2x2048, .f32⟩
  | .local _ .vmem, ⟨4, _⟩ => ⟨S2x2048x128, .bf16⟩
  | .local _ .vmem, ⟨5, _⟩ => ⟨S2x128, .f32⟩
  | .local _ .vmem, ⟨6, _⟩ => ⟨S2x256x128, .bf16⟩
  | .local _ .vmem, ⟨7, _⟩ => ⟨S1x128x256, .bf16⟩
  | .local _ .vmem, ⟨8, _⟩ => ⟨S1x128x256, .bf16⟩
  | .local _ .vmem, ⟨9, _⟩ => ⟨S2x2048x128, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S8x2048x256 : Shape := ⟨3, ![8, 2048, 256]⟩
abbrev S2x32x64 : Shape := ⟨3, ![2, 32, 64]⟩
abbrev S2x32x64x128 : Shape := ⟨4, ![2, 32, 64, 128]⟩
abbrev S2x128 : Shape := ⟨2, ![2, 128]⟩
abbrev S2x128x64 : Shape := ⟨3, ![2, 128, 64]⟩
abbrev S8x128x16x2x2x64 : Shape := ⟨6, ![8, 128, 16, 2, 2, 64]⟩
abbrev S2x16x64x128 : Shape := ⟨4, ![2, 16, 64, 128]⟩
abbrev S2x128x8x128x2 : Shape := ⟨5, ![2, 128, 8, 128, 2]⟩
abbrev S8x128x2x2x128 : Shape := ⟨5, ![8, 128, 2, 2, 128]⟩
abbrev S8x127x2x2x128 : Shape := ⟨5, ![8, 127, 2, 2, 128]⟩
abbrev S8x1x2x2x128 : Shape := ⟨5, ![8, 1, 2, 2, 128]⟩
abbrev S2x1x128 : Shape := ⟨3, ![2, 1, 128]⟩
abbrev S1x1x2x1x128 : Shape := ⟨5, ![1, 1, 2, 1, 128]⟩
abbrev S_ : Shape := ⟨0, ![]⟩
abbrev S2x64x8x128x2 : Shape := ⟨5, ![2, 64, 8, 128, 2]⟩
abbrev S8x128x2x2x64 : Shape := ⟨5, ![8, 128, 2, 2, 64]⟩
abbrev S8x128x256 : Shape := ⟨3, ![8, 128, 256]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S2x32x64, .f32⟩
  | .hbm, ⟨2, _⟩ => ⟨S2x32x64x128, .f32⟩
  | .hbm, ⟨3, _⟩ => ⟨S2x128, .f32⟩
  | .hbm, ⟨4, _⟩ => ⟨S2x128x64, .f32⟩
  | .hbm, ⟨5, _⟩ => ⟨S8x128x16x2x2x64, .f32⟩
  | .hbm, ⟨6, _⟩ => ⟨S2x16x64x128, .f32⟩
  | .hbm, ⟨7, _⟩ => ⟨S2x128x8x128x2, .f32⟩
  | .hbm, ⟨8, _⟩ => ⟨S8x128x2x2x128, .f32⟩
  | .hbm, ⟨9, _⟩ => ⟨S2x16x64x128, .f32⟩
  | .hbm, ⟨10, _⟩ => ⟨S2x128x8x128x2, .f32⟩
  | .hbm, ⟨11, _⟩ => ⟨S8x128x2x2x128, .f32⟩
  | .hbm, ⟨12, _⟩ => ⟨S2x128, .f32⟩
  | .hbm, ⟨13, _⟩ => ⟨S2x128, .f32⟩
  | .hbm, ⟨14, _⟩ => ⟨S8x127x2x2x128, .f32⟩
  | .hbm, ⟨15, _⟩ => ⟨S8x1x2x2x128, .f32⟩
  | .hbm, ⟨16, _⟩ => ⟨S8x128x2x2x128, .f32⟩
  | .hbm, ⟨17, _⟩ => ⟨S8x128x2x2x128, .f32⟩
  | .hbm, ⟨18, _⟩ => ⟨S2x1x128, .f32⟩
  | .hbm, ⟨19, _⟩ => ⟨S1x1x2x1x128, .f32⟩
  | .hbm, ⟨20, _⟩ => ⟨S8x128x2x2x128, .f32⟩
  | .hbm, ⟨21, _⟩ => ⟨S8x128x2x2x128, .f32⟩
  | .hbm, ⟨22, _⟩ => ⟨S8x128x2x2x128, .f32⟩
  | .hbm, ⟨23, _⟩ => ⟨S8x128x2x2x128, .f32⟩
  | .hbm, ⟨24, _⟩ => ⟨S_, .f32⟩
  | .hbm, ⟨25, _⟩ => ⟨S8x128x2x2x128, .f32⟩
  | .hbm, ⟨26, _⟩ => ⟨S8x128x2x2x128, .f32⟩
  | .hbm, ⟨27, _⟩ => ⟨S8x128x2x2x128, .f32⟩
  | .hbm, ⟨28, _⟩ => ⟨S_, .f32⟩
  | .hbm, ⟨29, _⟩ => ⟨S8x128x2x2x128, .f32⟩
  | .hbm, ⟨30, _⟩ => ⟨S8x128x2x2x128, .f32⟩
  | .hbm, ⟨31, _⟩ => ⟨S8x128x2x2x128, .f32⟩
  | .hbm, ⟨32, _⟩ => ⟨S_, .f32⟩
  | .hbm, ⟨33, _⟩ => ⟨S8x128x2x2x128, .f32⟩
  | .hbm, ⟨34, _⟩ => ⟨S8x128x2x2x128, .f32⟩
  | .hbm, ⟨35, _⟩ => ⟨S_, .f32⟩
  | .hbm, ⟨36, _⟩ => ⟨S8x128x2x2x128, .f32⟩
  | .hbm, ⟨37, _⟩ => ⟨S8x128x2x2x128, .f32⟩
  | .hbm, ⟨38, _⟩ => ⟨S8x128x2x2x128, .f32⟩
  | .hbm, ⟨39, _⟩ => ⟨S2x64x8x128x2, .f32⟩
  | .hbm, ⟨40, _⟩ => ⟨S8x128x2x2x64, .f32⟩
  | .hbm, ⟨41, _⟩ => ⟨S8x128x256, .f32⟩
  | .hbm, ⟨42, _⟩ => ⟨S8x128x256, .bf16⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proof.Modul.lean ====
/- The modulation rows: the call's array is the reference's. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel6Ideal.Val

open Cert.Kernel6Ideal Cert.Kernel6Ideal.Gen

variable (m : (ℓ : Loc nD τ sig) → Buf (Elt Ideal) ℓ)

/-- The reference's rows: the prompts' and then the samples'. -/
def REF (CP : FVec Ideal Cert.Reference6Ideal.S8x1024 .f32) (CS : FVec Ideal Cert.Reference6Ideal.S32x1024 .f32) (W : FVec Ideal Cert.Reference6Ideal.S1024x6144 .f32) (B : FVec Ideal Cert.Reference6Ideal.S6144 .f32) : FVec Ideal Cert.Reference6Ideal.S40x6144 .f32 :=
  concatenate Cert.Reference6Ideal.S40x6144 0 [⟨Cert.Reference6Ideal.S8x6144, (addf (Host.dotGeneral Cert.Reference6Ideal.dot_S8x1024_S1024x6144_S8x6144_1_0_0_1_n_n none (mulf CP (Host.divf (broadcastInDim Cert.Reference6Ideal.S8x1024 ![] Cert.Reference6Ideal.Gen.bcast_S_S8x1024 (constant Cert.Reference6Ideal.S_ .f32 0x3F800000#32)) (addf (broadcastInDim Cert.Reference6Ideal.S8x1024 ![] Cert.Reference6Ideal.Gen.bcast_S_S8x1024 (constant Cert.Reference6Ideal.S_ .f32 0x3F800000#32)) (Host.exp (Host.negf CP))))) W) (broadcastInDim Cert.Reference6Ideal.S8x6144 ![0, 1] Cert.Reference6Ideal.Gen.bcast_S1x6144_S8x6144_0_1 (broadcastInDim Cert.Reference6Ideal.S1x6144 ![1] Cert.Reference6Ideal.Gen.bcast_S6144_S1x6144_1 B)))⟩, ⟨Cert.Reference6Ideal.S32x6144, (addf (Host.dotGeneral Cert.Reference6Ideal.dot_S32x1024_S1024x6144_S32x6144_1_0_0_1_n_n none (mulf CS (Host.divf (broadcastInDim Cert.Reference6Ideal.S32x1024 ![] Cert.Reference6Ideal.Gen.bcast_S_S32x1024 (constant Cert.Reference6Ideal.S_ .f32 0x3F800000#32)) (addf (broadcastInDim Cert.Reference6Ideal.S32x1024 ![] Cert.Reference6Ideal.Gen.bcast_S_S32x1024 (constant Cert.Reference6Ideal.S_ .f32 0x3F800000#32)) (Host.exp (Host.negf CS))))) W) (broadcastInDim Cert.Reference6Ideal.S32x6144 ![0, 1] Cert.Reference6Ideal.Gen.bcast_S1x6144_S32x6144_0_1 (broadcastInDim Cert.Reference6Ideal.S1x6144 ![1] Cert.Reference6Ideal.Gen.bcast_S6144_S1x6144_1 B)))⟩] Cert.Reference6Ideal.Gen.concatenates_S8x6144_S32x6144_S40x6144_d0

/-- Every window's block index, at all points at once. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The conditions one after another. -/
def CC (CP : FVec Ideal S8x1024 .f32) (CS : FVec Ideal S32x1024 .f32) : FVec Ideal S40x1024 .f32 :=
  concatenate S40x1024 0 [⟨S8x1024, CP⟩, ⟨S32x1024, CS⟩] concatenates_S8x1024_S32x1024_S40x1024_d0

open StableHlo in
theorem hc (c : Dev nD) : (V m c main_v0 : FVec Ideal S40x1024 .f32)
    = CC (m ((c : Thread nD τ).loc main_arg0)) (m ((c : Thread nD τ).loc main_arg1)) := by
  show StableHlo.after hostOps0 (fun b => m (c, b)) main_v0 = _
  after_reads_simp
  rfl

open StableHlo in
theorem hb (c : Dev nD) : (V m c main_v1 : FVec Ideal S1x6144 .f32)
    = shapeCast S1x6144 (m ((c : Thread nD τ).loc main_arg3) : FVec Ideal S6144 .f32) shapeCasts_S6144_S1x6144 := by
  show StableHlo.after hostOps0 (fun b => m (c, b)) main_v1 = _
  after_reads_simp
  try rfl

theorem iblk0 (c : Dev nD) (t : Fin cfg0.N) : (iblk m c 0 t : FVec Ideal S40x1024 .f32)
    = CC (m ((c : Thread nD τ).loc main_arg0)) (m ((c : Thread nD τ).loc main_arg1)) := by
  rw [← hc m c]
  funext i
  blk_ext [iblk, idx t]

/-- A row of the reference from the row of conditions. -/
theorem ref_at (CP : FVec Ideal S8x1024 .f32) (CS : FVec Ideal S32x1024 .f32) (W : FVec Ideal S1024x6144 .f32) (B : FVec Ideal S6144 .f32)
    (i : S40x6144.Idx) : REF CP CS W B i = (∑ k : Fin 1024, CC CP CS (ix2 (i 0 : Fin 40) k) * Ideal.logistic (CC CP CS (ix2 (i 0 : Fin 40) k)) * W (ix2 k (i 1 : Fin 6144)))
      + B (ix1 (i 1 : Fin 6144)) := by
  pointwise [REF, CC]
  by_cases h : ((i 0 : Fin 40) : ℕ) < 8
  · rw [dif_pos h]
    refine congrArg (· + _) (Finset.sum_congr rfl fun k _ => ?_)
    rw [dif_pos h]
    rfl
  · rw [dif_neg h]
    refine congrArg (· + _) (Finset.sum_congr rfl fun k _ => ?_)
    rw [dif_neg h]
    rfl

set_option maxHeartbeats 1600000 in
/-- The array of the call after the run. -/
theorem final3 (c : Dev nD) : (dats m 0 c).arrAt 3 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3, iblk0]; frame_out
  rw [ref_at]
  generalize CC (m ((c : Thread nD τ).loc main_arg0)) (m ((c : Thread nD τ).loc main_arg1)) = C
  pointwise [k0_pay1]
  have e : V m c (Pipeline.arrRef spec0 2) = fun i : S1x6144.Idx => (m ((c : Thread nD τ).loc main_arg3) : FVec Ideal S6144 .f32) (ix1 (i 1 : Fin 6144)) := by
    show V m c main_v1 = _
    rw [hb m c]; funext i
    refine (shapeCast_addUnit_apply ![6144] _ _ i).trans (congrArg _ ?_)
    funext a; fin_cases a; rfl
  unfold iblk
  rw [e]
  refine congrArg₂ (· + ·) (Finset.sum_congr rfl fun x _ => ?_) ?_
  · blk_point [V, idx t]
  · blk_point [idx t]

end Cert.Kernel6Ideal.Val

end
-- ==== Proof.Compr.lean ====
/- The compression of the prompt's keys and values: the call's array is the reference's. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel7Ideal.Val
open Cert.Kernel7Ideal Cert.Kernel7Ideal.Gen

variable (m : (ℓ : Loc nD τ sig) → Buf (Elt Ideal) ℓ)

/-- What the kernel puts into the second half of its scratch rows, read sixteen rows apart. -/
theorem rd1 {sp : Space} (v : View sig .tc sp S2x2048x128 .f32) (X : FVec Ideal S1x2048x256 .f32) (L) (r : ℕ) (inb) (j : S1x128x128.Idx) (hr : r < 16) :
    v.readCov (Val := Elt Ideal)
      (⟨Rect.unit (s := S2x2048x128) ![1, 0, 0] ![1, 2048, 128] inb_S2x2048x128_S1x2048x128_1_0_0,
          k0_pay9 (F := Ideal) (k0_pay8 (F := Ideal) (View.ld (Val := Elt Ideal) (e' := .f32) X (Rect.unit (s := S1x2048x256) ![0, 0, 128] ![1, 2048, 128] inb_S1x2048x256_S1x2048x128_0_0_128)))⟩ :: L)
      (⟨![1, r, 0], ![1, 128, 128], ![1, 16, 1], inb⟩ : LoadRect S2x2048x128) j
      = X (ix3 0 ⟨16 * (j 1).val + r, by have := (j 1).isLt; simp at this; omega⟩ ⟨128 + (j 2).val, by have := (j 2).isLt; simp at this; omega⟩) := by
  rw [View.readCov_eq_canon']
  have h1 : (j 1).val < 128 := (j 1).isLt
  have h2 : (j 2).val < 128 := (j 2).isLt
  have h0 : (j 0).val < 1 := (j 0).isLt
  have : (⟨![1, r, 0], ![1, 128, 128], ![1, 16, 1], inb⟩ : LoadRect S2x2048x128).idx j
      = (Rect.unit (s := S2x2048x128) ![1, 0, 0] ![1, 2048, 128] inb_S2x2048x128_S1x2048x128_1_0_0).emb
        (ix3 (0 : Fin 1) (⟨16 * (j 1).val + r, by omega⟩ : Fin 2048) (⟨(j 2).val, h2⟩ : Fin 128)) := by
    funext a
    fin_cases a <;> apply Fin.ext
    · show 1 + 1 * (j 0).val = 1 + 1 * 0
      omega
    · show r + 16 * (j 1).val = 0 + 1 * (16 * (j 1).val + r)
      omega
    · rfl
  show View.canon _ _ = _
  rw [this, View.canon_cons_emb]
  pointwise [k0_pay9, k0_pay8]

/-- What the kernel puts into the first half of its scratch rows, read sixteen rows apart. -/
theorem rd0 {sp : Space} (v : View sig .tc sp S2x2048x128 .f32) (X : FVec Ideal S1x2048x256 .f32) (L) (r : ℕ) (inb) (j : S1x128x128.Idx) (hr : r < 16) :
    v.readCov (Val := Elt Ideal)
      (⟨Rect.unit (s := S2x2048x128) ![0, 0, 0] ![1, 2048, 128] inb_S2x2048x128_S1x2048x128_0_0_0,
          k0_pay2 (F := Ideal) (View.ld (Val := Elt Ideal) (e' := .f32) X (Rect.unit (s := S1x2048x256) ![0, 0, 0] ![1, 2048, 128] inb_S1x2048x256_S1x2048x128_0_0_0))⟩ :: L)
      (⟨![0, r, 0], ![1, 128, 128], ![1, 16, 1], inb⟩ : LoadRect S2x2048x128) j
      = X (ix3 0 ⟨16 * (j 1).val + r, by have := (j 1).isLt; simp at this; omega⟩ ⟨(j 2).val, by have := (j 2).isLt; simp at this; omega⟩) := by
  rw [View.readCov_eq_canon']
  have h1 : (j 1).val < 128 := (j 1).isLt
  have h2 : (j 2).val < 128 := (j 2).isLt
  have h0 : (j 0).val < 1 := (j 0).isLt
  have : (⟨![0, r, 0], ![1, 128, 128], ![1, 16, 1], inb⟩ : LoadRect S2x2048x128).idx j
      = (Rect.unit (s := S2x2048x128) ![0, 0, 0] ![1, 2048, 128] inb_S2x2048x128_S1x2048x128_0_0_0).emb
        (ix3 (0 : Fin 1) (⟨16 * (j 1).val + r, by omega⟩ : Fin 2048) (⟨(j 2).val, h2⟩ : Fin 128)) := by
    funext a
    fin_cases a <;> apply Fin.ext
    · show 0 + 1 * (j 0).val = 0 + 1 * 0
      omega
    · show r + 16 * (j 1).val = 0 + 1 * (16 * (j 1).val + r)
      omega
    · rfl
  show View.canon _ _ = _
  rw [this, View.canon_cons_emb]
  pointwise [k0_pay2]

open StableHlo in
def WP (W : FVec Ideal S2x32x64x128 .f32) : FVec Ideal S2x8x256x512 .bf16 :=
  truncf .bf16 (shapeCast S2x8x256x512 (mulf (broadcastInDim S2x8x2x2x64x2x2x128 ![0, 1, 2, 3, 4, 5, 6, 7] bcast_S2x8x2x1x64x2x1x128_S2x8x2x2x64x2x2x128_0_1_2_3_4_5_6_7 (broadcastInDim S2x8x2x1x64x2x1x128 ![0, 1, 2, 4, 5, 7] bcast_S2x8x2x64x2x128_S2x8x2x1x64x2x1x128_0_1_2_4_5_7 (transpose S2x8x2x64x2x128 [0, 2, 3, 4, 1, 5] (shapeCast S2x2x8x2x64x128 W shapeCasts_S2x32x64x128_S2x2x8x2x64x128) transposes_S2x2x8x2x64x128_S2x8x2x64x2x128_0_2_3_4_1_5)))
    (broadcastInDim S2x8x2x2x64x2x2x128 ![0, 1, 2, 3, 4, 5, 6, 7] bcast_S1x1x1x2x1x1x2x1_S2x8x2x2x64x2x2x128_0_1_2_3_4_5_6_7 (broadcastInDim S1x1x1x2x1x1x2x1 ![3, 6] bcast_S2x2_S1x1x1x2x1x1x2x1_3_6 (uitofp .f32 (cmpi .eq (addi (iotaInDim S2x2 32 0) (broadcastInDim S2x2 ![] bcast_S_S2x2 (constantI S_ 32 0#32)))
            (iotaInDim S2x2 32 1)))))) shapeCasts_S2x8x2x2x64x2x2x128_S2x8x256x512) bitsLt_bf16_f32

open StableHlo in
theorem hw (c : Dev nD) : (V m c main_v14 : FVec Ideal S2x8x256x512 .bf16) = WP (m ((c : Thread nD τ).loc main_arg2)) := by
  show StableHlo.after hostOps0 (fun b => m (c, b)) main_v14 = _
  after_reads_simp
  rfl

theorem wp_at (W : FVec Ideal S2x32x64x128 .f32) (e : Fin 2) (u : Fin 8) (k : Fin 256) (q : Fin 512) :
    WP W (ix4 e u k q) = if k.val / 64 % 2 = q.val / 128 % 2 then
      W (ix4 e (⟨q.val / 256 * 16 + u.val * 2 + k.val / 128, by omega⟩ : Fin 32) (⟨k.val % 64, by omega⟩ : Fin 64) (⟨q.val % 128, by omega⟩ : Fin 128)) else 0 := by
  pointwise [WP]
  have hk : k.val / 64 % 2 = 0 ∨ k.val / 64 % 2 = 1 := by omega
  have hq : q.val / 128 % 2 = 0 ∨ q.val / 128 % 2 = 1 := by omega
  rcases hk with h | h <;> rcases hq with h' | h' <;> simp [h, h', IntOp.cmpi, IntOp.addi, FloatOps.uitofp]

def WQ (W : FVec Ideal S2x128x64 .f32) : FVec Ideal S2x256x128 .bf16 :=
  truncf .bf16 (shapeCast S2x256x128 (mulf (broadcastInDim S2x2x128x2x64 ![0, 1, 2, 3, 4] bcast_S2x1x128x1x64_S2x2x128x2x64_0_1_2_3_4 (broadcastInDim S2x1x128x1x64 ![0, 2, 4] bcast_S2x128x64_S2x1x128x1x64_0_2_4 W))
    (broadcastInDim S2x2x128x2x64 ![0, 1, 2, 3, 4] bcast_S1x2x1x2x1_S2x2x128x2x64_0_1_2_3_4 (broadcastInDim S1x2x1x2x1 ![1, 3] bcast_S2x2_S1x2x1x2x1_1_3 (uitofp .f32 (cmpi .eq (addi (iotaInDim S2x2 32 0) (broadcastInDim S2x2 ![] bcast_S_S2x2 (constantI S_ 32 0#32)))
            (iotaInDim S2x2 32 1)))))) shapeCasts_S2x2x128x2x64_S2x256x128) bitsLt_bf16_f32

open StableHlo in
theorem hw2 (c : Dev nD) : (V m c main_v21 : FVec Ideal S2x256x128 .bf16) = WQ (m ((c : Thread nD τ).loc main_arg4)) := by
  show StableHlo.after hostOps0 (fun b => m (c, b)) main_v21 = _
  after_reads_simp
  rfl

theorem wq_at (W : FVec Ideal S2x128x64 .f32) (e : Fin 2) (k : Fin 256) (q : Fin 128) :
    WQ W (ix3 e k q) = if k.val / 128 = q.val / 64 then
      W (ix3 e (⟨k.val % 128, by omega⟩ : Fin 128) (⟨q.val % 64, by omega⟩ : Fin 64)) else 0 := by
  pointwise [WQ]
  have hk : k.val / 128 = 0 ∨ k.val / 128 = 1 := by omega
  have hq : q.val / 64 = 0 ∨ q.val / 64 = 1 := by omega
  rcases hk with h | h <;> rcases hq with h' | h' <;> simp [h, h', IntOp.cmpi, IntOp.addi, FloatOps.uitofp]

open StableHlo in
theorem hp (c : Dev nD) (e : Fin 2) (k : Fin 2048) : (V m c main_v22 : FVec Ideal S2x2048 .f32) (ix2 e k) = (m ((c : Thread nD τ).loc main_arg1) : FVec Ideal S2x32x64 .f32) (ix3 e (⟨k.val / 64, by omega⟩ : Fin 32) (⟨k.val % 64, by omega⟩ : Fin 64)) := by
  have : (V m c main_v22 : FVec Ideal S2x2048 .f32) = shapeCast S2x2048 (m ((c : Thread nD τ).loc main_arg1) : FVec Ideal S2x32x64 .f32) shapeCasts_S2x32x64_S2x2048 := by
    show StableHlo.after hostOps0 (fun b => m (c, b)) main_v22 = _
    after_reads_simp
    try rfl
  rw [this]
  pointwise

/-- The weights with both row indices in one. -/
def WF (W : FVec Ideal S2x32x64x128 .f32) : FVec Ideal S2x2048x128 .bf16 :=
  truncf .bf16 (shapeCast S2x2048x128 W shapeCasts_S2x32x64x128_S2x2048x128) bitsLt_bf16_f32

open StableHlo in
theorem hf (c : Dev nD) : (V m c main_v24 : FVec Ideal S2x2048x128 .bf16) = WF (m ((c : Thread nD τ).loc main_arg2)) := by
  show StableHlo.after hostOps0 (fun b => m (c, b)) main_v24 = _
  after_reads_simp
  rfl

theorem wf_at (W : FVec Ideal S2x32x64x128 .f32) (e : Fin 2) (k : Fin 2048) (h : Fin 128) :
    WF W (ix3 e k h) = W (ix4 e (⟨k.val / 64, by omega⟩ : Fin 32) (⟨k.val % 64, by omega⟩ : Fin 64) h) := by
  pointwise [WF]

section
open Cert.Reference7Ideal Cert.Reference7Ideal.Gen

/-- The hidden layer before its activation. -/
def HID (X : FVec Ideal S8x2048x256 .f32) (W : FVec Ideal S2x32x64x128 .f32) (B : FVec Ideal S2x128 .f32) (P : FVec Ideal S2x32x64 .f32) : FVec Ideal S8x128x2x2x128 .f32 :=
  addf (addf (transpose S8x128x2x2x128 [2, 3, 0, 4, 1] (Host.dotGeneral dot_S2x16x64x128_S8x128x16x2x2x64_S2x128x8x128x2_21_52_3_014_0_3 none (extractStridedSlice S2x16x64x128 ![0, 0, 0, 0] W slices_S2x32x64x128_S2x16x64x128_0_0_0_0) (shapeCast _ X shapeCasts_S8x2048x256_S8x128x16x2x2x64)) transposes_S2x128x8x128x2_S8x128x2x2x128_2_3_0_4_1) (concatenate S8x128x2x2x128 1 [⟨S8x127x2x2x128, (extractStridedSlice S8x127x2x2x128 ![0, 1, 0, 0, 0] (transpose S8x128x2x2x128 [2, 3, 0, 4, 1] (Host.dotGeneral dot_S2x16x64x128_S8x128x16x2x2x64_S2x128x8x128x2_21_52_3_014_0_3 none (extractStridedSlice S2x16x64x128 ![0, 16, 0, 0] W slices_S2x32x64x128_S2x16x64x128_0_16_0_0) (shapeCast _ X shapeCasts_S8x2048x256_S8x128x16x2x2x64)) transposes_S2x128x8x128x2_S8x128x2x2x128_2_3_0_4_1) slices_S8x128x2x2x128_S8x127x2x2x128_0_1_0_0_0)⟩, ⟨S8x1x2x2x128, (extractStridedSlice S8x1x2x2x128 ![0, 0, 0, 0, 0] (transpose S8x128x2x2x128 [2, 3, 0, 4, 1] (Host.dotGeneral dot_S2x16x64x128_S8x128x16x2x2x64_S2x128x8x128x2_21_52_3_014_0_3 none (extractStridedSlice S2x16x64x128 ![0, 16, 0, 0] W slices_S2x32x64x128_S2x16x64x128_0_16_0_0) (shapeCast _ X shapeCasts_S8x2048x256_S8x128x16x2x2x64)) transposes_S2x128x8x128x2_S8x128x2x2x128_2_3_0_4_1) slices_S8x128x2x2x128_S8x1x2x2x128_0_0_0_0_0)⟩] concatenates_S8x127x2x2x128_S8x1x2x2x128_S8x128x2x2x128_d1)) (broadcastInDim S8x128x2x2x128 ![0, 1, 2, 3, 4] bcast_S1x1x2x1x128_S8x128x2x2x128_0_1_2_3_4 (broadcastInDim S1x1x2x1x128 ![2, 3, 4] bcast_S2x1x128_S1x1x2x1x128_2_3_4 (broadcastInDim S2x1x128 ![0, 2] bcast_S2x128_S2x1x128_0_2 (addf (Host.dotGeneral dot_S2x32x64_S2x32x64x128_S2x128_21_21_n_3_0_0 none P W) B))))

/-- The reference. -/
def REF (X : FVec Ideal S8x2048x256 .f32) (W : FVec Ideal S2x32x64x128 .f32) (B : FVec Ideal S2x128 .f32) (P : FVec Ideal S2x32x64 .f32) (W2 : FVec Ideal S2x128x64 .f32) : FVec Ideal S8x128x256 .bf16 :=
  truncf .bf16 (shapeCast _ (transpose S8x128x2x2x64 [2, 3, 0, 4, 1] (Host.dotGeneral dot_S2x128x64_S8x128x2x2x128_S2x64x8x128x2_1_4_2_013_0_2 none W2 (mulf (HID X W B P) (mulf (broadcastInDim S8x128x2x2x128 ![] bcast_S_S8x128x2x2x128 (constant S_ .f32 0x3F000000#32)) (addf (broadcastInDim S8x128x2x2x128 ![] bcast_S_S8x128x2x2x128 (constant S_ .f32 0x3F800000#32)) (Host.tanh (mulf (broadcastInDim S8x128x2x2x128 ![] bcast_S_S8x128x2x2x128 (constant S_ .f32 0x3F4C422A#32)) (addf (HID X W B P) (mulf (broadcastInDim S8x128x2x2x128 ![] bcast_S_S8x128x2x2x128 (constant S_ .f32 0x3D372713#32)) (mulf (mulf (HID X W B P) (HID X W B P)) (HID X W B P)))))))))) transposes_S2x64x8x128x2_S8x128x2x2x64_2_3_0_4_1) shapeCasts_S8x128x2x2x64_S8x128x256) Reference7Ideal.Gen.bitsLt_bf16_f32

/-- One block of sixteen rows through one half of the weights. -/
def TT (X : FVec Ideal S8x2048x256 .f32) (W : FVec Ideal S2x32x64x128 .f32) (t : Fin 2) (b : Fin 8) (i : Fin 128) (e g : Fin 2) (h : Fin 128) : EReal :=
  ∑ x : Fin 64, ∑ j : Fin 16, W (ix4 e (⟨t.val * 16 + j.val, by omega⟩ : Fin 32) x h)
    * X (ix3 b (⟨i.val * 16 + j.val, by omega⟩ : Fin 2048) (⟨e.val * 128 + g.val * 64 + x.val, by omega⟩ : Fin 256))

/-- The positions' share of the hidden layer, with its bias. -/
def BB (W : FVec Ideal S2x32x64x128 .f32) (B : FVec Ideal S2x128 .f32) (P : FVec Ideal S2x32x64 .f32) (e : Fin 2) (h : Fin 128) : EReal :=
  ∑ x : Fin 64, ∑ j : Fin 32, P (ix3 e j x) * W (ix4 e j x h) + B (ix2 e h)

/-- A row's hidden layer: its block and the next one, the last row's next being the first. -/
def HH (X : FVec Ideal S8x2048x256 .f32) (W : FVec Ideal S2x32x64x128 .f32) (B : FVec Ideal S2x128 .f32) (P : FVec Ideal S2x32x64 .f32) (b : Fin 8) (i : Fin 128) (e g : Fin 2) (h : Fin 128) : EReal :=
  TT X W 0 b i e g h + TT X W 1 b (⟨(i.val + 1) % 128, by omega⟩ : Fin 128) e g h + BB W B P e h

/-- The activation. -/
def act (x : EReal) : EReal :=
  x * (Ideal.ofBits .f32 0x3F000000#32 * (1 + Ideal.tanh (Ideal.ofBits .f32 0x3F4C422A#32
    * (x + Ideal.ofBits .f32 0x3D372713#32 * (x * (x * x))))))

theorem hid_at (X : FVec Ideal S8x2048x256 .f32) (W : FVec Ideal S2x32x64x128 .f32) (B : FVec Ideal S2x128 .f32) (P : FVec Ideal S2x32x64 .f32) (b : Fin 8) (i : Fin 128) (e g : Fin 2) (h : Fin 128) :
    HID X W B P (ix5 b i e g h) = HH X W B P b i e g h := by
  pointwise [HID]
  unfold HH TT BB
  congr 1
  congr 1
  have hsum (k : ℕ) (hk : k = (i.val + 1) % 128) (h0 : ∀ x : Fin 16, k * 16 + x.val < 2048) :
      ∑ x : Fin 64, ∑ j : Fin 16, W (ix4 e (⟨16 + j.val, by omega⟩ : Fin 32) x h) * X (ix3 b (⟨k * 16 + j.val, h0 j⟩ : Fin 2048) (⟨e.val * 128 + g.val * 64 + x.val, by omega⟩ : Fin 256))
        = TT X W 1 b (⟨(i.val + 1) % 128, by omega⟩ : Fin 128) e g h := by
    subst hk
    unfold TT
    simp
  split_ifs with hi
  · exact hsum (1 + i.val) (by omega) _
  all_goals exact hsum (i.val - 127) (by omega) _

theorem ref_at (X : FVec Ideal S8x2048x256 .f32) (W : FVec Ideal S2x32x64x128 .f32) (B : FVec Ideal S2x128 .f32) (P : FVec Ideal S2x32x64 .f32) (W2 : FVec Ideal S2x128x64 .f32) (b : Fin 8) (i : Fin 128) (q : Fin 256) :
    REF X W B P W2 (ix3 b i q) = ∑ x : Fin 128, act (HH X W B P b i (⟨q.val / 128, by omega⟩ : Fin 2) (⟨q.val / 64 % 2, by omega⟩ : Fin 2) x)
      * W2 (ix3 (⟨q.val / 128, by omega⟩ : Fin 2) x (⟨q.val % 64, by omega⟩ : Fin 64)) := by
  pointwise [REF]
  refine Finset.sum_congr rfl fun x _ => ?_
  rw [hid_at, mul_comm]
  unfold act
  rw [mul_comm (HH _ _ _ _ _ _ _ _ _ * HH _ _ _ _ _ _ _ _ _)]

end

/-- The eight products of one pass, added up. -/
def acc (R : Fin 16 → FVec Ideal S1x128x128 .f32) (w : Fin 8 → FVec Ideal S1x1x256x512 .bf16) (i : Fin 128) (q : Fin 512) : EReal :=
  ∑ u : Fin 8, (∑ k : Fin 128, R (⟨2 * u.val, by omega⟩ : Fin 16) (ix3 (0 : Fin 1) i k) * w u (ix4 (0 : Fin 1) (0 : Fin 1) (⟨k.val, by omega⟩ : Fin 256) q)
    + ∑ k : Fin 128, R (⟨2 * u.val + 1, by omega⟩ : Fin 16) (ix3 (0 : Fin 1) i k) * w u (ix4 (0 : Fin 1) (0 : Fin 1) (⟨128 + k.val, by omega⟩ : Fin 256) q))

theorem acc0_at (R : Fin 16 → FVec Ideal S1x128x128 .f32) (w : Fin 8 → FVec Ideal S1x1x256x512 .bf16) (i : Fin 128) (q : Fin 512) :
    k0_pay6 (F := Ideal) (k0_pay5 (F := Ideal) (k0_pay3 (F := Ideal) (R 0) (R 1) (w 0) (R 2) (R 3) (w 1)) (k0_pay4 (F := Ideal) (R 4)) (R 5) (w 2) (R 6) (R 7) (w 3) (R 8) (R 9) (w 4))
      (R 10) (R 11) (w 5) (R 12) (R 13) (w 6) (R 14) (R 15) (w 7) (ix2 i q) = acc R w i q := by
  pointwise [k0_pay6, k0_pay5, k0_pay3, k0_pay4]
  unfold acc
  rw [Fin.sum_univ_eight]
  rfl

/-- The second pass's eight products. -/
theorem acc1_at (R : Fin 16 → FVec Ideal S1x128x128 .f32) (w : Fin 8 → FVec Ideal S1x1x256x512 .bf16) (i : Fin 128) (q : Fin 512) :
    k0_pay14 (F := Ideal) (k0_pay12 (F := Ideal) (k0_pay10 (F := Ideal) (R 0) (R 1) (w 0) (R 2) (R 3) (w 1)) (k0_pay11 (F := Ideal) (R 4) (R 5)) (w 2) (R 6) (R 7) (w 3) (R 8) (R 9) (w 4))
      (k0_pay13 (F := Ideal) (R 10) (R 11)) (w 5) (R 12) (R 13) (w 6) (R 14) (R 15) (w 7) (ix2 i q) = acc R w i q := by
  pointwise [k0_pay14, k0_pay13, k0_pay12, k0_pay11, k0_pay10]
  unfold acc
  rw [Fin.sum_univ_eight]
  rfl

/-- One pass from its sum to its columns. -/
def mlp (A : Fin 128 → Fin 512 → EReal) (p : FVec Ideal S1x2048 .f32) (f : FVec Ideal S1x2048x128 .bf16) (b : FVec Ideal S1x128 .f32) (w : FVec Ideal S1x256x128 .bf16)
    (i : Fin 128) (q : Fin 128) : EReal :=
  ∑ x : Fin 128, act (A i (⟨x.val, by omega⟩ : Fin 512) + A (⟨(i.val + 1) % 128, by omega⟩ : Fin 128) (⟨256 + x.val, by omega⟩ : Fin 512)
      + (∑ k : Fin 2048, p (ix2 (0 : Fin 1) k) * f (ix3 (0 : Fin 1) k x) + b (ix2 (0 : Fin 1) x))) * w (ix3 (0 : Fin 1) (⟨x.val, by omega⟩ : Fin 256) q)
  + ∑ x : Fin 128, act (A i (⟨128 + x.val, by omega⟩ : Fin 512) + A (⟨(i.val + 1) % 128, by omega⟩ : Fin 128) (⟨256 + (128 + x.val), by omega⟩ : Fin 512)
      + (∑ k : Fin 2048, p (ix2 (0 : Fin 1) k) * f (ix3 (0 : Fin 1) k x) + b (ix2 (0 : Fin 1) x))) * w (ix3 (0 : Fin 1) (⟨128 + x.val, by omega⟩ : Fin 256) q)

theorem mlp0_at (A : FVec Ideal S128x512 .f32) (p : FVec Ideal S1x2048 .f32) (f : FVec Ideal S1x2048x128 .bf16) (b : FVec Ideal S1x128 .f32) (w : FVec Ideal S1x256x128 .bf16) (i : Fin 128) (q : Fin 128) :
    k0_pay7 (F := Ideal) A p f b w (ix2 i q) = mlp (fun i q => A (ix2 i q)) p f b w i q := by
  pointwise [k0_pay7]
  have : (i.val + 128 - 127) % 128 = (i.val + 1) % 128 := by omega
  simp only [this]
  rfl

/-- Both passes' columns side by side, the second computed here. -/
theorem mlp1_at (v172 : FVec Ideal S128x512 .f32) (v178 : FVec Ideal S128x256 .bf16) (v179 : FVec Ideal S1x1x256x512 .bf16) (v183 v185 : FVec Ideal S1x128x128 .f32)
    (v189 : FVec Ideal S1x1x256x512 .bf16) (v193 v195 : FVec Ideal S1x128x128 .f32) (v199 : FVec Ideal S1x1x256x512 .bf16) (O : FVec Ideal S128x128 .f32)
    (p : FVec Ideal S1x2048 .f32) (f : FVec Ideal S1x2048x128 .bf16) (b : FVec Ideal S1x128 .f32) (w : FVec Ideal S1x256x128 .bf16) (i : Fin 128) (q : Fin 256) :
    k0_pay1 (F := Ideal) O (k0_pay15 (F := Ideal) v172 v178 v179 v183 v185 v189 v193 v195 v199) (k0_pay16 (F := Ideal) v172 v178 v179 v183 v185 v189 v193 v195 v199) (k0_pay17 (F := Ideal) p) f b w (ix3 (0 : Fin 1) i q)
      = if h : q.val < 128 then O (ix2 i (⟨q.val, h⟩ : Fin 128))
        else mlp (fun i q => k0_pay14 (F := Ideal) v172 v178 v179 v183 v185 v189 v193 v195 v199 (ix2 i q)) p f b w i (⟨q.val - 128, by omega⟩ : Fin 128) := by
  generalize hA : k0_pay14 (F := Ideal) v172 v178 v179 v183 v185 v189 v193 v195 v199 = A
  pointwise [k0_pay1, k0_pay15, k0_pay16, k0_pay17, hA]
  have : (i.val + 128 - 127) % 128 = (i.val + 1) % 128 := by omega
  simp only [this]
  rfl

theorem eye128 (a : Fin 128 → EReal) (b : Fin 64 → EReal) (g : Fin 2) :
    ∑ k : Fin 128, a k * (if k.val / 64 = g.val then b (⟨k.val % 64, by omega⟩ : Fin 64) else 0)
      = ∑ d : Fin 64, b d * a (⟨g.val * 64 + d.val, by omega⟩ : Fin 128) := by
  rw [← Equiv.sum_comp (finProdFinEquiv : Fin 2 × Fin 64 ≃ Fin 128), Fintype.sum_prod_type, Fin.sum_univ_two]
  have h1 (d : Fin 64) : d.val / 64 = 0 := by omega
  have h2 (d : Fin 64) : (d.val + 64) / 64 = 1 := by omega
  have h3 (d : Fin 64) : d.val % 64 = d.val := by omega
  have hg : g = 0 ∨ g = 1 := by omega
  rcases hg with rfl | rfl
  · simp [finProdFinEquiv, h1, h2, h3, mul_comm]
  · simp [finProdFinEquiv, h1, h2, h3, mul_comm, add_comm]

theorem sum16 (f : Fin 16 → EReal) :
    ∑ u : Fin 8, (f (⟨2 * u.val, by omega⟩ : Fin 16) + f (⟨2 * u.val + 1, by omega⟩ : Fin 16)) = ∑ j : Fin 16, f j := by
  rw [← Equiv.sum_comp (finProdFinEquiv : Fin 8 × Fin 2 ≃ Fin 16), Fintype.sum_prod_type]
  refine Finset.sum_congr rfl fun u _ => ?_
  rw [Fin.sum_univ_two]
  simp [finProdFinEquiv, add_comm]

theorem sum2048 (f : Fin 32 → Fin 64 → EReal) :
    ∑ k : Fin 2048, f (⟨k.val / 64, by omega⟩ : Fin 32) (⟨k.val % 64, by omega⟩ : Fin 64) = ∑ x, ∑ j, f j x := by
  rw [Finset.sum_comm, ← Fintype.sum_prod_type', ← Equiv.sum_comp (finProdFinEquiv (m := 32) (n := 64)).symm]
  rfl

/-- A pass's sum, from what its rows and its weights hold: one block of sixteen rows through one half of the weights. -/
theorem acc_TT (X : FVec Ideal S8x2048x256 .f32) (W : FVec Ideal S2x32x64x128 .f32) (b : Fin 8) (e : Fin 2)
    (R : Fin 16 → FVec Ideal S1x128x128 .f32) (w : Fin 8 → FVec Ideal S1x1x256x512 .bf16)
    (hR : ∀ (r : Fin 16) (i k : Fin 128), R r (ix3 (0 : Fin 1) i k) = X (ix3 b (⟨16 * i.val + r.val, by omega⟩ : Fin 2048) (⟨e.val * 128 + k.val, by omega⟩ : Fin 256)))
    (hw : ∀ (u : Fin 8) (k : Fin 256) (q : Fin 512), w u (ix4 (0 : Fin 1) (0 : Fin 1) k q) = WP W (ix4 e u k q))
    (i : Fin 128) (t g : Fin 2) (h : Fin 128) (q : Fin 512) (hq : q.val = t.val * 256 + g.val * 128 + h.val) :
    acc R w i q = TT X W t b i e g h := by
  unfold acc TT
  rw [Finset.sum_comm]
  rw [← sum16 (fun j => ∑ x : Fin 64, W (ix4 e (⟨t.val * 16 + j.val, by omega⟩ : Fin 32) x h)
    * X (ix3 b (⟨i.val * 16 + j.val, by omega⟩ : Fin 2048) (⟨e.val * 128 + g.val * 64 + x.val, by omega⟩ : Fin 256)))]
  have q1 : q.val / 256 = t.val := by omega
  have q2 : q.val / 128 % 2 = g.val := by omega
  have q3 : q.val % 128 = h.val := by omega
  refine Finset.sum_congr rfl fun u _ => ?_
  congr 1
  · refine Eq.trans (Finset.sum_congr rfl fun k _ => ?_) ((eye128 (fun k => X (ix3 b (⟨i.val * 16 + (2 * u.val), by omega⟩ : Fin 2048) (⟨e.val * 128 + k.val, by omega⟩ : Fin 256)))
      (fun d => W (ix4 e (⟨t.val * 16 + (2 * u.val), by omega⟩ : Fin 32) d h)) g).trans ?_)
    · rw [hR, hw, wp_at]
      have k1 : k.val / 64 % 2 = k.val / 64 := by omega
      have k2 : k.val / 128 = 0 := by omega
      simp only [q1, q2, q3, k1, k2]
      congr 2
      · simp only [mul_comm]
      · simp [mul_comm]
    · simp only [add_assoc]
  · refine Eq.trans (Finset.sum_congr rfl fun k _ => ?_) ((eye128 (fun k => X (ix3 b (⟨i.val * 16 + (2 * u.val + 1), by omega⟩ : Fin 2048) (⟨e.val * 128 + k.val, by omega⟩ : Fin 256)))
      (fun d => W (ix4 e (⟨t.val * 16 + (2 * u.val + 1), by omega⟩ : Fin 32) d h)) g).trans ?_)
    · rw [hR, hw, wp_at]
      have k1 : (128 + k.val) / 64 % 2 = k.val / 64 := by omega
      have k2 : (128 + k.val) / 128 = 1 := by omega
      have k3 : (128 + k.val) % 64 = k.val % 64 := by omega
      simp only [q1, q2, q3, k1, k2, k3]
      congr 2
      · simp only [mul_comm]
      · simp [mul_comm, add_assoc]
    · simp only [add_assoc]

/-- A pass's columns: the reference's. -/
theorem mlp_HH (X : FVec Ideal S8x2048x256 .f32) (W : FVec Ideal S2x32x64x128 .f32) (B : FVec Ideal S2x128 .f32) (P : FVec Ideal S2x32x64 .f32)
    (W2 : FVec Ideal S2x128x64 .f32) (b : Fin 8) (e : Fin 2) (A : Fin 128 → Fin 512 → EReal)
    (p : FVec Ideal S1x2048 .f32) (f : FVec Ideal S1x2048x128 .bf16) (b1 : FVec Ideal S1x128 .f32) (w : FVec Ideal S1x256x128 .bf16)
    (hA : ∀ (i : Fin 128) (t g : Fin 2) (h : Fin 128) (q : Fin 512), q.val = t.val * 256 + g.val * 128 + h.val → A i q = TT X W t b i e g h)
    (hp : ∀ k : Fin 2048, p (ix2 (0 : Fin 1) k) = P (ix3 e (⟨k.val / 64, by omega⟩ : Fin 32) (⟨k.val % 64, by omega⟩ : Fin 64)))
    (hf : ∀ (k : Fin 2048) (h : Fin 128), f (ix3 (0 : Fin 1) k h) = WF W (ix3 e k h))
    (hb : ∀ h : Fin 128, b1 (ix2 (0 : Fin 1) h) = B (ix2 e h))
    (hw : ∀ (k : Fin 256) (q : Fin 128), w (ix3 (0 : Fin 1) k q) = WQ W2 (ix3 e k q))
    (i : Fin 128) (q : Fin 128) :
    mlp A p f b1 w i q = ∑ x : Fin 128, act (HH X W B P b i e (⟨q.val / 64, by omega⟩ : Fin 2) x) * W2 (ix3 e x (⟨q.val % 64, by omega⟩ : Fin 64)) := by
  have hB (x : Fin 128) : ∑ k : Fin 2048, p (ix2 (0 : Fin 1) k) * f (ix3 (0 : Fin 1) k x) + b1 (ix2 (0 : Fin 1) x) = BB W B P e x := by
    unfold BB
    rw [hb, ← sum2048 (fun j d => P (ix3 e j d) * W (ix4 e j d x))]
    congr 1
    refine Finset.sum_congr rfl fun k _ => ?_
    rw [hp, hf, wf_at]
  unfold mlp
  simp only [hB, hw, wq_at]
  have hA0 (x : Fin 128) : A i (⟨x.val, by omega⟩ : Fin 512) + A (⟨(i.val + 1) % 128, by omega⟩ : Fin 128) (⟨256 + x.val, by omega⟩ : Fin 512) + BB W B P e x
      = HH X W B P b i e 0 x := by
    unfold HH
    rw [hA i 0 0 x _ (by simp), hA _ 1 0 x _ (by simp)]
  have hA1 (x : Fin 128) : A i (⟨128 + x.val, by omega⟩ : Fin 512) + A (⟨(i.val + 1) % 128, by omega⟩ : Fin 128) (⟨256 + (128 + x.val), by omega⟩ : Fin 512) + BB W B P e x
      = HH X W B P b i e 1 x := by
    unfold HH
    rw [hA i 0 1 x _ (by simp), hA _ 1 1 x _ (by simp; omega)]
  simp only [hA0, hA1]
  have x1 (x : Fin 128) : x.val / 128 = 0 := by omega
  have x2 (x : Fin 128) : (128 + x.val) / 128 = 1 := by omega
  have x3 (x : Fin 128) : x.val % 128 = x.val := by omega
  have x4 (x : Fin 128) : (128 + x.val) % 128 = x.val := by omega
  simp only [x1, x2, x3, x4]
  have hq : q.val / 64 = 0 ∨ q.val / 64 = 1 := by omega
  rcases hq with h | h
  · simp [h]
  · simp [h]

/-- The first pass's rows: every sixteenth of the block's, from row `r` on. -/
def Rd0 (X : FVec Ideal S1x2048x256 .f32) (r : Fin 16) : FVec Ideal S1x128x128 .f32 :=
  (View.whole cc0_scratch0).readCov (Val := Elt Ideal) [⟨Rect.unit (s := S2x2048x128) ![0, 0, 0] ![1, 2048, 128] inb_S2x2048x128_S1x2048x128_0_0_0, k0_pay2 (F := Ideal) (View.ld (Val := Elt Ideal) (e' := .f32) X (Rect.unit (s := S1x2048x256) ![0, 0, 0] ![1, 2048, 128] inb_S1x2048x256_S1x2048x128_0_0_0))⟩]
    ⟨![0, r.val, 0], ![1, 128, 128], ![1, 16, 1], by intro a; right; fin_cases a <;> simp <;> omega⟩

/-- The second pass's rows. -/
def Rd1 (X : FVec Ideal S1x2048x256 .f32) (r : Fin 16) : FVec Ideal S1x128x128 .f32 :=
  (View.whole cc0_scratch0).readCov (Val := Elt Ideal) [⟨Rect.unit (s := S2x2048x128) ![1, 0, 0] ![1, 2048, 128] inb_S2x2048x128_S1x2048x128_1_0_0, k0_pay9 (F := Ideal) (k0_pay8 (F := Ideal) (View.ld (Val := Elt Ideal) (e' := .f32) X (Rect.unit (s := S1x2048x256) ![0, 0, 128] ![1, 2048, 128] inb_S1x2048x256_S1x2048x128_0_0_128)))⟩, ⟨Rect.unit (s := S2x2048x128) ![0, 0, 0] ![1, 2048, 128] inb_S2x2048x128_S1x2048x128_0_0_0, k0_pay2 (F := Ideal) (View.ld (Val := Elt Ideal) (e' := .f32) X (Rect.unit (s := S1x2048x256) ![0, 0, 0] ![1, 2048, 128] inb_S1x2048x256_S1x2048x128_0_0_0))⟩]
    ⟨![1, r.val, 0], ![1, 128, 128], ![1, 16, 1], by intro a; right; fin_cases a <;> simp <;> omega⟩

/-- A pass's weights for one of its eight products. -/
def Wd (Wb : FVec Ideal S2x8x256x512 .bf16) (e : Fin 2) (u : Fin 8) : FVec Ideal S1x1x256x512 .bf16 :=
  View.ld (Val := Elt Ideal) (e' := .bf16) Wb (Rect.unit (s := S2x8x256x512) ![e.val, u.val, 0, 0] ![1, 1, 256, 512] (by intro a; fin_cases a <;> simp <;> omega))

theorem rd0_at (X : FVec Ideal S1x2048x256 .f32) (r : Fin 16) (i k : Fin 128) :
    Rd0 X r (ix3 (0 : Fin 1) i k) = X (ix3 (0 : Fin 1) (⟨16 * i.val + r.val, by omega⟩ : Fin 2048) (⟨k.val, by omega⟩ : Fin 256)) :=
  rd0 _ X [] r.val _ (ix3 (0 : Fin 1) i k) r.isLt

theorem rd1_at (X : FVec Ideal S1x2048x256 .f32) (r : Fin 16) (i k : Fin 128) :
    Rd1 X r (ix3 (0 : Fin 1) i k) = X (ix3 (0 : Fin 1) (⟨16 * i.val + r.val, by omega⟩ : Fin 2048) (⟨128 + k.val, by omega⟩ : Fin 256)) :=
  rd1 _ X _ r.val _ (ix3 (0 : Fin 1) i k) r.isLt

theorem wd_at (Wb : FVec Ideal S2x8x256x512 .bf16) (e : Fin 2) (u : Fin 8) (k : Fin 256) (q : Fin 512) :
    Wd Wb e u (ix4 (0 : Fin 1) (0 : Fin 1) k q) = Wb (ix4 e u k q) := by
  unfold Wd
  rw [View.ld_apply]
  refine congrArg Wb ?_
  funext a
  fin_cases a <;> apply Fin.ext <;> simp [Rect.idx_unit_val]

/-- One block's result: the reference's rows. -/
theorem out_at (X : FVec Ideal S8x2048x256 .f32) (W : FVec Ideal S2x32x64x128 .f32) (B : FVec Ideal S2x128 .f32) (P : FVec Ideal S2x32x64 .f32)
    (W2 : FVec Ideal S2x128x64 .f32) (b : Fin 8)
    (Xb : FVec Ideal S1x2048x256 .f32) (Wb : FVec Ideal S2x8x256x512 .bf16) (Pb : FVec Ideal S2x2048 .f32) (Fb : FVec Ideal S2x2048x128 .bf16)
    (Bb : FVec Ideal S2x128 .f32) (Mb : FVec Ideal S2x256x128 .bf16)
    (hX : ∀ j k, Xb (ix3 (0 : Fin 1) j k) = X (ix3 b j k)) (hW : Wb = WP W)
    (hP : ∀ (e : Fin 2) (k : Fin 2048), Pb (ix2 e k) = P (ix3 e (⟨k.val / 64, by omega⟩ : Fin 32) (⟨k.val % 64, by omega⟩ : Fin 64)))
    (hF : Fb = WF W) (hB : Bb = B) (hM : Mb = WQ W2) (i : Fin 128) (q : Fin 256) :
    k0_pay1 (F := Ideal) (k0_pay7 (F := Ideal) (k0_pay6 (F := Ideal) (k0_pay5 (F := Ideal) (k0_pay3 (F := Ideal) (Rd0 Xb 0) (Rd0 Xb 1) (Wd Wb 0 0) (Rd0 Xb 2) (Rd0 Xb 3) (Wd Wb 0 1)) (k0_pay4 (F := Ideal) (Rd0 Xb 4)) (Rd0 Xb 5) (Wd Wb 0 2) (Rd0 Xb 6) (Rd0 Xb 7) (Wd Wb 0 3) (Rd0 Xb 8) (Rd0 Xb 9) (Wd Wb 0 4)) (Rd0 Xb 10) (Rd0 Xb 11) (Wd Wb 0 5) (Rd0 Xb 12) (Rd0 Xb 13) (Wd Wb 0 6) (Rd0 Xb 14) (Rd0 Xb 15) (Wd Wb 0 7)) (View.ld (Val := Elt Ideal) (e' := .f32) Pb (Rect.unit (s := S2x2048) ![0, 0] ![1, 2048] inb_S2x2048_S1x2048_0_0)) (View.ld (Val := Elt Ideal) (e' := .bf16) Fb (Rect.unit (s := S2x2048x128) ![0, 0, 0] ![1, 2048, 128] inb_S2x2048x128_S1x2048x128_0_0_0)) (View.ld (Val := Elt Ideal) (e' := .f32) Bb (Rect.unit (s := S2x128) ![0, 0] ![1, 128] inb_S2x128_S1x128_0_0)) (View.ld (Val := Elt Ideal) (e' := .bf16) Mb (Rect.unit (s := S2x256x128) ![0, 0, 0] ![1, 256, 128] inb_S2x256x128_S1x256x128_0_0_0))) (k0_pay15 (F := Ideal) (k0_pay12 (F := Ideal) (k0_pay10 (F := Ideal) (Rd1 Xb 0) (Rd1 Xb 1) (Wd Wb 1 0) (Rd1 Xb 2) (Rd1 Xb 3) (Wd Wb 1 1)) (k0_pay11 (F := Ideal) (Rd1 Xb 4) (Rd1 Xb 5)) (Wd Wb 1 2) (Rd1 Xb 6) (Rd1 Xb 7) (Wd Wb 1 3) (Rd1 Xb 8) (Rd1 Xb 9) (Wd Wb 1 4)) (k0_pay13 (F := Ideal) (Rd1 Xb 10) (Rd1 Xb 11)) (Wd Wb 1 5) (Rd1 Xb 12) (Rd1 Xb 13) (Wd Wb 1 6) (Rd1 Xb 14) (Rd1 Xb 15) (Wd Wb 1 7)) (k0_pay16 (F := Ideal) (k0_pay12 (F := Ideal) (k0_pay10 (F := Ideal) (Rd1 Xb 0) (Rd1 Xb 1) (Wd Wb 1 0) (Rd1 Xb 2) (Rd1 Xb 3) (Wd Wb 1 1)) (k0_pay11 (F := Ideal) (Rd1 Xb 4) (Rd1 Xb 5)) (Wd Wb 1 2) (Rd1 Xb 6) (Rd1 Xb 7) (Wd Wb 1 3) (Rd1 Xb 8) (Rd1 Xb 9) (Wd Wb 1 4)) (k0_pay13 (F := Ideal) (Rd1 Xb 10) (Rd1 Xb 11)) (Wd Wb 1 5) (Rd1 Xb 12) (Rd1 Xb 13) (Wd Wb 1 6) (Rd1 Xb 14) (Rd1 Xb 15) (Wd Wb 1 7)) (k0_pay17 (F := Ideal) (View.ld (Val := Elt Ideal) (e' := .f32) Pb (Rect.unit (s := S2x2048) ![1, 0] ![1, 2048] inb_S2x2048_S1x2048_1_0))) (View.ld (Val := Elt Ideal) (e' := .bf16) Fb (Rect.unit (s := S2x2048x128) ![1, 0, 0] ![1, 2048, 128] inb_S2x2048x128_S1x2048x128_1_0_0)) (View.ld (Val := Elt Ideal) (e' := .f32) Bb (Rect.unit (s := S2x128) ![1, 0] ![1, 128] inb_S2x128_S1x128_1_0)) (View.ld (Val := Elt Ideal) (e' := .bf16) Mb (Rect.unit (s := S2x256x128) ![1, 0, 0] ![1, 256, 128] inb_S2x256x128_S1x256x128_1_0_0)) (ix3 (0 : Fin 1) i q) = REF X W B P W2 (ix3 b i q) := by
  rw [ref_at, mlp1_at]
  split_ifs with h
  · rw [mlp0_at, mlp_HH X W B P W2 b 0]
    · have h1 : q.val / 128 = 0 := by omega
      have h2 : q.val / 64 % 2 = q.val / 64 := by omega
      simp only [h1, h2]
      rfl
    · intro i t g h q hq
      rw [acc0_at (Rd0 Xb) (Wd Wb 0)]
      refine acc_TT X W b 0 _ _ (fun r i k => ?_) (fun u k q => by rw [wd_at, hW]) i t g h q hq
      rw [rd0_at, hX]
      simp
    · intro k
      rw [← hP]
      refine congrArg Pb ?_
      funext a
      fin_cases a <;> apply Fin.ext <;> simp [Rect.idx_unit_val]
    · intro k h
      rw [← hF]
      refine congrArg Fb ?_
      funext a
      fin_cases a <;> apply Fin.ext <;> simp [Rect.idx_unit_val]
    · intro h
      rw [← hB]
      refine congrArg Bb ?_
      funext a
      fin_cases a <;> apply Fin.ext <;> simp [Rect.idx_unit_val]
    · intro k q
      rw [← hM]
      refine congrArg Mb ?_
      funext a
      fin_cases a <;> apply Fin.ext <;> simp [Rect.idx_unit_val]
  · rw [mlp_HH X W B P W2 b 1]
    · have h1 : q.val / 128 = 1 := by omega
      have h2 : q.val / 64 % 2 = (q.val - 128) / 64 := by omega
      have h3 : (q.val - 128) % 64 = q.val % 64 := by omega
      simp only [h1, h2, h3]
      rfl
    · intro i t g h q hq
      rw [acc1_at (Rd1 Xb) (Wd Wb 1)]
      refine acc_TT X W b 1 _ _ (fun r i k => ?_) (fun u k q => by rw [wd_at, hW]) i t g h q hq
      rw [rd1_at, hX]
      simp
    · intro k
      rw [← hP]
      refine congrArg Pb ?_
      funext a
      fin_cases a <;> apply Fin.ext <;> simp [Rect.idx_unit_val]
    · intro k h
      rw [← hF]
      refine congrArg Fb ?_
      funext a
      fin_cases a <;> apply Fin.ext <;> simp [Rect.idx_unit_val]
    · intro h
      rw [← hB]
      refine congrArg Bb ?_
      funext a
      fin_cases a <;> apply Fin.ext <;> simp [Rect.idx_unit_val]
    · intro k q
      rw [← hM]
      refine congrArg Mb ?_
      funext a
      fin_cases a <;> apply Fin.ext <;> simp [Rect.idx_unit_val]

theorem idx : ∀ t : Fin cfg0.N, win0_0.index t = ![t.val, 0, 0] ∧ win0_1.index t = ![0, 0, 0, 0] ∧ win0_2.index t = ![0, 0]
    ∧ win0_3.index t = ![0, 0, 0] ∧ win0_4.index t = ![0, 0] ∧ win0_5.index t = ![0, 0, 0] ∧ win0_6.index t = ![t.val, 0, 0] :=
  (by decide +kernel : ∀ t : Fin grid0.N, _)

theorem blk0 (c : Dev nD) (t : Fin cfg0.N) (j : Fin 2048) (k : Fin 256) :
    (iblk m c 0 t : FVec Ideal S1x2048x256 .f32) (ix3 (0 : Fin 1) j k) = (m ((c : Thread nD τ).loc main_arg0) : FVec Ideal S8x2048x256 .f32) (ix3 (⟨t.val, t.isLt⟩ : Fin 8) j k) := by
  blk_point [iblk, V, idx t]

theorem blk1 (c : Dev nD) (t : Fin cfg0.N) : (iblk m c 1 t : FVec Ideal S2x8x256x512 .bf16) = WP (m ((c : Thread nD τ).loc main_arg2)) := by
  refine Eq.trans (b := (V m c main_v14 : FVec Ideal S2x8x256x512 .bf16)) ?_ (hw m c)
  funext i
  blk_ext [iblk, idx t]

theorem blk2 (c : Dev nD) (t : Fin cfg0.N) (e : Fin 2) (k : Fin 2048) : (iblk m c 2 t : FVec Ideal S2x2048 .f32) (ix2 e k)
    = (m ((c : Thread nD τ).loc main_arg1) : FVec Ideal S2x32x64 .f32) (ix3 e (⟨k.val / 64, by omega⟩ : Fin 32) (⟨k.val % 64, by omega⟩ : Fin 64)) := by
  refine Eq.trans (b := (V m c main_v22 : FVec Ideal S2x2048 .f32) (ix2 e k)) ?_ (hp m c e k)
  blk_point [iblk, idx t]

theorem blk3 (c : Dev nD) (t : Fin cfg0.N) : (iblk m c 3 t : FVec Ideal S2x2048x128 .bf16) = WF (m ((c : Thread nD τ).loc main_arg2)) := by
  refine Eq.trans (b := (V m c main_v24 : FVec Ideal S2x2048x128 .bf16)) ?_ (hf m c)
  funext i
  blk_ext [iblk, idx t]

theorem blk4 (c : Dev nD) (t : Fin cfg0.N) : (iblk m c 4 t : FVec Ideal S2x128 .f32) = (m ((c : Thread nD τ).loc main_arg3) : FVec Ideal S2x128 .f32) := by
  funext i
  blk_ext [iblk, V, idx t]

theorem blk5 (c : Dev nD) (t : Fin cfg0.N) : (iblk m c 5 t : FVec Ideal S2x256x128 .bf16) = WQ (m ((c : Thread nD τ).loc main_arg4)) := by
  refine Eq.trans (b := (V m c main_v21 : FVec Ideal S2x256x128 .bf16)) ?_ (hw2 m c)
  funext i
  blk_ext [iblk, idx t]

set_option maxRecDepth 200000 in
set_option maxHeartbeats 1600000 in
theorem final6 (c : Dev nD) : ((dats m 0 c).arrAt 6 (cfgs 0).N : FVec Ideal S8x128x256 .bf16)
    = REF (m ((c : Thread nD τ).loc main_arg0)) (m ((c : Thread nD τ).loc main_arg2)) (m ((c : Thread nD τ).loc main_arg3)) (m ((c : Thread nD τ).loc main_arg1)) (m ((c : Thread nD τ).loc main_arg4)) := by
  refine (dats m 0 c).arrAt_eq_of_covers 6 _ (by decide +kernel) fun t _ y => ?_
  blk_simp
  rw [after0_6]
  unfold outsAt0
  frame_out
  have H := out_at (m ((c : Thread nD τ).loc main_arg0)) (m ((c : Thread nD τ).loc main_arg2)) (m ((c : Thread nD τ).loc main_arg3)) (m ((c : Thread nD τ).loc main_arg1)) (m ((c : Thread nD τ).loc main_arg4))
    (⟨t.val, t.isLt⟩ : Fin 8) (iblk m c 0 t) (iblk m c 1 t) (iblk m c 2 t) (iblk m c 3 t) (iblk m c 4 t) (iblk m c 5 t)
    (blk0 m c t) (blk1 m c t) (blk2 m c t) (blk3 m c t) (blk4 m c t) (blk5 m c t) (y 1) (y 2)
  have hy : ix3 (n0 := 1) (n1 := 128) (n2 := 256) (0 : Fin 1) (y 1) (y 2) = y := by
    funext a; fin_cases a <;> apply Fin.ext
    · have := (y 0).isLt; simp at this; simp [this]
    · rfl
    · rfl
  generalize REF _ _ _ _ _ = Z at H ⊢
  rw [hy] at H
  have hz : Z (ix3 (⟨t.val, t.isLt⟩ : Fin 8) (y 1) (y 2)) = Z (((View.whole main_v25).slice (win0_6.rect t)).emb y) := by
    blk_point [idx t]
  rw [hz] at H
  exact H

end Cert.Kernel7Ideal.Val

end
-- ==== Proof.AttnRun.lean ====
/- The attention's body, run on any whole memrefs: what it reads and the buffers it leaves changed. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at a point and the scratch memrefs. -/
abbrev ms0_0 (t : Fin cfg0.N) : Memref sig .tc .vmem S1x128x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x768 .f32 := win0_6.stage (cfg0.slots t 6)
abbrev hs0_6 (t : Fin cfg0.N) : (ms0_6 t).IsWhole := hstage0_6 ((cfg0.slots t 6).cast nbuf0_6)
abbrev scM0_0 : Memref sig .tc .vmem S2x4x768x512 .f32 := Memref.whole cc0_scratch0
abbrev scM0_1 : Memref sig .tc .vmem S2x768x512 .bf16 := Memref.whole cc0_scratch1
abbrev scM0_2 : Memref sig .tc .vmem S2x768x640 .bf16 := Memref.whole cc0_scratch2
abbrev scM0_3 : Memref sig .tc .vmem S2x768x128 .f32 := Memref.whole cc0_scratch3
abbrev scM0_4 : Memref sig .tc .vmem S2x768x128 .f32 := Memref.whole cc0_scratch4
abbrev scM0_5 : Memref sig .tc .vmem S2x768x128 .f32 := Memref.whole cc0_scratch5

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

set_option maxHeartbeats 1512000 in
/-- The body of the attention on whole memrefs: it ends, the inputs hold what they held, and the output and the six scratch
    buffers are handed back at some contents. -/
theorem body_run (c : Dev nD) (i : grid0.Coords) (arg2 : Memref sig .tc .vmem S1x128x1536 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x128x256 .bf16) (harg5 : arg5.IsWhole) (arg6 : Memref sig .tc .vmem S1x128x128 .f32) (harg6 : arg6.IsWhole) (arg7 : Memref sig .tc .vmem S4x128x512 .bf16) (harg7 : arg7.IsWhole) (arg8 : Memref sig .tc .vmem S1x128x768 .f32) (harg8 : arg8.IsWhole) (arg9 : Memref sig .tc .vmem S2x4x768x512 .f32) (harg9 : arg9.IsWhole) (arg10 : Memref sig .tc .vmem S2x768x512 .bf16) (harg10 : arg10.IsWhole) (arg11 : Memref sig .tc .vmem S2x768x640 .bf16) (harg11 : arg11.IsWhole) (arg12 : Memref sig .tc .vmem S2x768x128 .f32) (harg12 : arg12.IsWhole) (arg13 : Memref sig .tc .vmem S2x768x128 .f32) (harg13 : arg13.IsWhole) (arg14 : Memref sig .tc .vmem S2x768x128 .f32) (harg14 : arg14.IsWhole)
    (x0 : Vec F S1x128x1536 .bf16) (x1 : Vec F S1x2048x256 .bf16) (x2 : Vec F S1x2048x256 .bf16) (x3 : Vec F S1x128x256 .bf16) (x4 : Vec F S1x128x128 .f32) (x5 : Vec F S4x128x512 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_attn_prompt i arg2 harg2 arg3 harg3 arg4 harg4 arg5 harg5 arg6 harg6 arg7 harg7 arg8 harg8 arg9 harg9 arg10 harg10 arg11 harg11 arg12 harg12 arg13 harg13 arg14 harg14) K := by
    intro E K
    simp only [cc0_attn_prompt_eq_skeleton]; unfold cc0_attn_prompt_skel
    simp only [k0_part65_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Attn

end
-- ==== Proof.AttnFrame.lean ====
/- The frame of the attention, from the run of its body. -/
module

public import proofs.«01_k».proof.Proof.AttnRun
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output is handed over at contents the frame does not name. -/
def forgets0 : Fin 7 → Bool := fun w => w.val == 6

/-- The proof data: inputs stay at their blocks, the output and the scratch hold something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- What the body gives back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

set_option maxHeartbeats 1200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      (Pipeline.RDat.FramePost.arr_in h c 4 rfl).trans ((A_eq m c 4).trans (V_main_arg4 m c))⟩) (run_main m ρ)

/-- The frame of the attention: it ends, its arguments are unchanged, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Attn

end
-- ==== Proof.Consts.lean ====
/- Constants of the three programs as extended reals, and two laws of sums. -/
module

public import Idealize.ShloMosaic.Lib.IdealHost
public import Idealize.ShloMosaic.Lib.Pointwise

@[expose] public section

noncomputable section

open Idealize.ShloMosaic

namespace Cert.Consts

/-- The scale of the queries is one eighth. -/
theorem eighth : Ideal.ofBits .f32 0x3E000000#32 = (((1 : ℝ) / 8 : ℝ) : EReal) := by
  simp [Ideal.ofBits, Ideal.ieee, -EReal.coe_mul]; norm_num

/-- The width of the normalised rows. -/
theorem width : Ideal.ofBits .f32 0x44400000#32 = ((768 : ℝ) : EReal) := by
  simp [Ideal.ofBits, Ideal.ieee, -EReal.coe_mul]; norm_num

/-- A sum times a real that is not negative is the sum of the products. -/
theorem sum_mul {ι : Type} (s : Finset ι) (f : ι → EReal) {c : ℝ} (h : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr h) (EReal.coe_ne_top c) _ _

/-- The integer zero read as a float is zero. -/
theorem sitofp_zero : (FloatOps.sitofp (F := Ideal) FTy.f32 (0#32) : EReal) = 0 := by
  show ((((0#32 : BitVec 32).toInt : ℝ)) : EReal) = 0
  simp

/-- A sum of products with zero is zero. -/
theorem sum_mul_zero {ι : Type} (s : Finset ι) (f : ι → EReal) : ∑ i ∈ s, f i * (0 : EReal) = 0 := by
  simp

/-- A projection by a column scaled twice is the projection scaled twice: the scales are one eighth and a bit. -/
theorem proj_scaled {ι : Type} (s : Finset ι) (f w : ι → EReal) (b : BitVec 1) :
    ∑ k ∈ s, f k * (w k * Ideal.ofBits .f32 0x3E000000#32 * FloatOps.uitofp (F := Ideal) FTy.f32 b)
      = (∑ k ∈ s, f k * w k) * Ideal.ofBits .f32 0x3E000000#32 * FloatOps.uitofp (F := Ideal) FTy.f32 b := by
  have hb : (FloatOps.uitofp (F := Ideal) FTy.f32 b : EReal) = ((b.toNat : ℝ) : EReal) := rfl
  rw [hb, eighth, sum_mul _ _ (by norm_num), sum_mul _ _ (Nat.cast_nonneg _)]
  exact Finset.sum_congr rfl fun k _ => by rw [mul_assoc, mul_assoc, mul_assoc, ← mul_assoc]

end Cert.Consts

end
-- ==== Proof.InProj.lean ====
module

public import proofs.«01_k».proof.Proof.Gen.Kernel2Ideal.Frame
public import proofs.«01_k».proof.Proof.Gen.Reference2Ideal.Run
public import proofs.«01_k».proof.Proof.Consts
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

variable (m : (ℓ : Loc nD τ sig) → Buf (Elt Ideal) ℓ)

/-- The reference's projection of the modulated activations, before it is cut into its groups of columns. -/
def Y (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x2340 .f32 :=
  Host.dotGeneral Cert.Reference2Ideal.dot_S8x2048x1024_S1024x2340_S8x2048x2340_2_0_01_1_n_n none (addf (mulf X (broadcastInDim Cert.Reference2Ideal.S8x2048x1024 ![0, 1, 2] Cert.Reference2Ideal.Gen.bcast_S8x1x1024_S8x2048x1024_0_1_2 (addf (broadcastInDim Cert.Reference2Ideal.S8x1x1024 ![] Cert.Reference2Ideal.Gen.bcast_S_S8x1x1024 (constant Cert.Reference2Ideal.S_ .f32 0x3F800000#32)) SC))) (broadcastInDim Cert.Reference2Ideal.S8x2048x1024 ![0, 1, 2] Cert.Reference2Ideal.Gen.bcast_S8x1x1024_S8x2048x1024_0_1_2 SH)) W
/-- The reference's result 1: the gated convolution input. -/
def REF0 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .f32 :=
  mulf (extractStridedSlice Cert.Reference2Ideal.S8x2048x256 ![0, 0, 512] (Y X SH SC W) Cert.Reference2Ideal.Gen.slices_S8x2048x2340_S8x2048x256_0_0_512) (extractStridedSlice Cert.Reference2Ideal.S8x2048x256 ![0, 0, 0] (Y X SH SC W) Cert.Reference2Ideal.Gen.slices_S8x2048x2340_S8x2048x256_0_0_0)
/-- The reference's result 2: the second gate. -/
def REF1 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .f32 :=
  extractStridedSlice Cert.Reference2Ideal.S8x2048x256 ![0, 0, 256] (Y X SH SC W) Cert.Reference2Ideal.Gen.slices_S8x2048x2340_S8x2048x256_0_0_256
/-- The reference's result 3: the scaled queries, each laid beside zeros. -/
def REF2 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x1536 .bf16 :=
  truncf .bf16 (shapeCast Cert.Reference2Ideal.S8x2048x1536 (mulf (broadcastInDim Cert.Reference2Ideal.S8x2048x2x6x2x64 ![0, 1, 2, 3, 4, 5] Cert.Reference2Ideal.Gen.bcast_S8x2048x2x6x1x64_S8x2048x2x6x2x64_0_1_2_3_4_5 (broadcastInDim Cert.Reference2Ideal.S8x2048x2x6x1x64 ![0, 1, 2, 3, 5] Cert.Reference2Ideal.Gen.bcast_S8x2048x2x6x64_S8x2048x2x6x1x64_0_1_2_3_5 (mulf (shapeCast Cert.Reference2Ideal.S8x2048x2x6x64 (extractStridedSlice Cert.Reference2Ideal.S8x2048x768 ![0, 0, 768] (Y X SH SC W) Cert.Reference2Ideal.Gen.slices_S8x2048x2340_S8x2048x768_0_0_768) Cert.Reference2Ideal.Gen.shapeCasts_S8x2048x768_S8x2048x2x6x64) (broadcastInDim Cert.Reference2Ideal.S8x2048x2x6x64 ![] Cert.Reference2Ideal.Gen.bcast_S_S8x2048x2x6x64 (constant Cert.Reference2Ideal.S_ .f32 0x3E000000#32))))) (broadcastInDim Cert.Reference2Ideal.S8x2048x2x6x2x64 ![0, 1, 2, 3, 4, 5] Cert.Reference2Ideal.Gen.bcast_S1x1x2x1x2x1_S8x2048x2x6x2x64_0_1_2_3_4_5 (broadcastInDim Cert.Reference2Ideal.S1x1x2x1x2x1 ![2, 4] Cert.Reference2Ideal.Gen.bcast_S2x2_S1x1x2x1x2x1_2_4 (uitofp .f32 (cmpi .eq (addi (iotaInDim Cert.Reference2Ideal.S2x2 32 0) (broadcastInDim Cert.Reference2Ideal.S2x2 ![] Cert.Reference2Ideal.Gen.bcast_S_S2x2 (constantI Cert.Reference2Ideal.S_ 32 0#32))) (iotaInDim Cert.Reference2Ideal.S2x2 32 1)))))) Cert.Reference2Ideal.Gen.shapeCasts_S8x2048x2x6x2x64_S8x2048x1536) Cert.Reference2Ideal.Gen.bitsLt_bf16_f32
/-- The reference's result 4: the keys and values to be compressed. -/
def REF3 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .f32 :=
  extractStridedSlice Cert.Reference2Ideal.S8x2048x256 ![0, 0, 1536] (Y X SH SC W) Cert.Reference2Ideal.Gen.slices_S8x2048x2340_S8x2048x256_0_0_1536
/-- The reference's result 5: the keys and values to be selected. -/
def REF4 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .f32 :=
  extractStridedSlice Cert.Reference2Ideal.S8x2048x256 ![0, 0, 1792] (Y X SH SC W) Cert.Reference2Ideal.Gen.slices_S8x2048x2340_S8x2048x256_0_0_1792
/-- The reference's result 6: the keys and values of the window. -/
def REF5 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .f32 :=
  extractStridedSlice Cert.Reference2Ideal.S8x2048x256 ![0, 0, 2048] (Y X SH SC W) Cert.Reference2Ideal.Gen.slices_S8x2048x2340_S8x2048x256_0_0_2048
/-- The reference's result 7: the keys and values to be selected, in the narrow type. -/
def REF6 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .bf16 :=
  truncf .bf16 (extractStridedSlice Cert.Reference2Ideal.S8x2048x256 ![0, 0, 1792] (Y X SH SC W) Cert.Reference2Ideal.Gen.slices_S8x2048x2340_S8x2048x256_0_0_1792) Cert.Reference2Ideal.Gen.bitsLt_bf16_f32
/-- The reference's result 8: the keys and values of the window, in the narrow type. -/
def REF7 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x256 .bf16 :=
  truncf .bf16 (extractStridedSlice Cert.Reference2Ideal.S8x2048x256 ![0, 0, 2048] (Y X SH SC W) Cert.Reference2Ideal.Gen.slices_S8x2048x2340_S8x2048x256_0_0_2048) Cert.Reference2Ideal.Gen.bitsLt_bf16_f32
/-- The reference's result 9: the three branch gates, padded to a full row of lanes. -/
def REF8 (X : FVec Ideal Cert.Reference2Ideal.S8x2048x1024 .f32) (SH SC : FVec Ideal Cert.Reference2Ideal.S8x1x1024 .f32) (W : FVec Ideal Cert.Reference2Ideal.S1024x2340 .f32) : FVec Ideal Cert.Reference2Ideal.S8x2048x128 .f32 :=
  Host.divf (broadcastInDim Cert.Reference2Ideal.S8x2048x128 ![] Cert.Reference2Ideal.Gen.bcast_S_S8x2048x128 (constant Cert.Reference2Ideal.S_ .f32 0x3F800000#32)) (addf (broadcastInDim Cert.Reference2Ideal.S8x2048x128 ![] Cert.Reference2Ideal.Gen.bcast_S_S8x2048x128 (constant Cert.Reference2Ideal.S_ .f32 0x3F800000#32)) (Host.exp (Host.negf (pad Cert.Reference2Ideal.S8x2048x128 ![0, 0, 0] ![0, 0, 92] ![0, 0, 0] (extractStridedSlice Cert.Reference2Ideal.S8x2048x36 ![0, 0, 2304] (Y X SH SC W) Cert.Reference2Ideal.Gen.slices_S8x2048x2340_S8x2048x36_0_0_2304) (sitofp .f32 (constantI Cert.Reference2Ideal.S_ 32 0#32)) Cert.Reference2Ideal.Gen.pads_S8x2048x36_S8x2048x128_000_000_0920 Cert.Reference2Ideal.Gen.h_S_))))
/-- Every window's block index, at all points at once. -/
theorem idx : ∀ t : Fin cfg0.N, win0_0.index t = ![t.val / 4, t.val % 4, 0] ∧ win0_1.index t = ![t.val / 4, 0, 0]
    ∧ win0_2.index t = ![t.val / 4, 0, 0] ∧ win0_3.index t = ![0, 0] ∧ win0_4.index t = ![t.val / 4, t.val % 4, 0]
    ∧ win0_5.index t = ![t.val / 4, t.val % 4, 0] ∧ win0_6.index t = ![t.val / 4, t.val % 4, 0]
    ∧ win0_7.index t = ![t.val / 4, t.val % 4, 0] ∧ win0_8.index t = ![t.val / 4, t.val % 4, 0]
    ∧ win0_9.index t = ![t.val / 4, t.val % 4, 0] ∧ win0_10.index t = ![t.val / 4, t.val % 4, 0]
    ∧ win0_11.index t = ![t.val / 4, t.val % 4, 0] ∧ win0_12.index t = ![t.val / 4, t.val % 4, 0] :=
  (by decide +kernel : ∀ t : Fin grid0.N, _)

/-- The columns of the scaled queries, each head's beside zeros for the other group. -/
def WQ (W : FVec Ideal S1024x2340 .f32) : FVec Ideal S1024x1536 .f32 :=
  shapeCast S1024x1536
    (mulf (broadcastInDim S1024x2x6x2x64 ![0, 1, 2, 3, 4] bcast_S1024x2x6x1x64_S1024x2x6x2x64_0_1_2_3_4
        (broadcastInDim S1024x2x6x1x64 ![0, 1, 2, 4] bcast_S1024x2x6x64_S1024x2x6x1x64_0_1_2_4
          (mulf (shapeCast S1024x2x6x64 (extractStridedSlice S1024x768 ![0, 768] W slices_S1024x2340_S1024x768_0_768)
              shapeCasts_S1024x768_S1024x2x6x64)
            (broadcastInDim S1024x2x6x64 ![] bcast_S_S1024x2x6x64 (constant S_ .f32 0x3E000000#32)))))
      (broadcastInDim S1024x2x6x2x64 ![0, 1, 2, 3, 4] bcast_S1x2x1x2x1_S1024x2x6x2x64_0_1_2_3_4
        (broadcastInDim S1x2x1x2x1 ![1, 3] bcast_S2x2_S1x2x1x2x1_1_3
          (uitofp .f32 (cmpi .eq (addi (iotaInDim S2x2 32 0) (broadcastInDim S2x2 ![] bcast_S_S2x2 (constantI S_ 32 0#32)))
            (iotaInDim S2x2 32 1))))))
    shapeCasts_S1024x2x6x2x64_S1024x1536

/-- The columns of the branch gates, padded to a full row of lanes. -/
def WG (W : FVec Ideal S1024x2340 .f32) : FVec Ideal S1024x128 .f32 :=
  pad S1024x128 ![0, 0] ![0, 92] ![0, 0] (extractStridedSlice S1024x36 ![0, 2304] W slices_S1024x2340_S1024x36_0_2304)
    (sitofp .f32 (constantI S_ 32 0#32)) pads_S1024x36_S1024x128_000_0920 h_S_

/-- Eight groups of columns side by side. -/
def CAT (A0 : FVec Ideal S1024x256 .f32) (A1 : FVec Ideal S1024x256 .f32) (A2 : FVec Ideal S1024x256 .f32) (A3 : FVec Ideal S1024x1536 .f32) (A4 : FVec Ideal S1024x256 .f32) (A5 : FVec Ideal S1024x256 .f32) (A6 : FVec Ideal S1024x256 .f32) (A7 : FVec Ideal S1024x128 .f32) : FVec Ideal S1024x3200 .bf16 :=
  truncf .bf16 (concatenate S1024x3200 1 [⟨S1024x256, A0⟩, ⟨S1024x256, A1⟩, ⟨S1024x256, A2⟩, ⟨S1024x1536, A3⟩, ⟨S1024x256, A4⟩, ⟨S1024x256, A5⟩, ⟨S1024x256, A6⟩, ⟨S1024x128, A7⟩] concatenates_S1024x256_S1024x256_S1024x256_S1024x1536_S1024x256_S1024x256_S1024x256_S1024x128_S1024x3200_d1) bitsLt_bf16_f32

/-- The weight matrix as the kernel reads it. -/
def WCAT (W : FVec Ideal S1024x2340 .f32) : FVec Ideal S1024x3200 .bf16 :=
  CAT (extractStridedSlice S1024x256 ![0, 0] W slices_S1024x2340_S1024x256_0_0) (extractStridedSlice S1024x256 ![0, 256] W slices_S1024x2340_S1024x256_0_256) (extractStridedSlice S1024x256 ![0, 512] W slices_S1024x2340_S1024x256_0_512) (WQ W) (extractStridedSlice S1024x256 ![0, 1536] W slices_S1024x2340_S1024x256_0_1536) (extractStridedSlice S1024x256 ![0, 1792] W slices_S1024x2340_S1024x256_0_1792) (extractStridedSlice S1024x256 ![0, 2048] W slices_S1024x2340_S1024x256_0_2048) (WG W)

open StableHlo in
theorem seg2 (σ : Valuation τ sig (Elt Ideal)) : (show FVec Ideal S1024x3200 .bf16 from after hostOps0_2 σ (Proc.devRef .tc main_v25))
    = CAT (σ (Proc.devRef .tc main_v0)) (σ (Proc.devRef .tc main_v1)) (σ (Proc.devRef .tc main_v2)) (σ (Proc.devRef .tc main_v22)) (σ (Proc.devRef .tc main_v4)) (σ (Proc.devRef .tc main_v5)) (σ (Proc.devRef .tc main_v6)) (σ (Proc.devRef .tc main_v23)) := by
  after_reads_simp
  rfl

open StableHlo in
theorem seg1 (σ : Valuation τ sig (Elt Ideal)) : (show FVec Ideal S1024x128 .f32 from after hostOps0_1 σ (Proc.devRef .tc main_v23))
    = pad S1024x128 ![0, 0] ![0, 92] ![0, 0] (show FVec Ideal S1024x36 .f32 from σ (Proc.devRef .tc main_v7))
    (sitofp .f32 (show IVec S_ 32 from σ (Proc.devRef .tc main_c_0))) pads_S1024x36_S1024x128_000_0920 h_S_ := by
  after_reads_simp
  simp only [TRef.toBuf, TRef.ofBuf, cast_eq]

open StableHlo in
theorem seg0 (σ : Valuation τ sig (Elt Ideal)) : (show FVec Ideal S1024x1536 .f32 from after hostOps0_1 (after hostOps0 σ) (Proc.devRef .tc main_v22)) = WQ (σ (Proc.devRef .tc main_arg3)) := by
  after_reads_simp
  rfl

open StableHlo in
theorem seg0_v0 (σ : Valuation τ sig (Elt Ideal)) : (show FVec Ideal S1024x256 .f32 from after hostOps0_1 (after hostOps0 σ) (Proc.devRef .tc main_v0)) = extractStridedSlice S1024x256 ![0, 0] (σ (Proc.devRef .tc main_arg3) : FVec Ideal S1024x2340 .f32) slices_S1024x2340_S1024x256_0_0 := by
  after_reads_simp

open StableHlo in
theorem seg0_v1 (σ : Valuation τ sig (Elt Ideal)) : (show FVec Ideal S1024x256 .f32 from after hostOps0_1 (after hostOps0 σ) (Proc.devRef .tc main_v1)) = extractStridedSlice S1024x256 ![0, 256] (σ (Proc.devRef .tc main_arg3) : FVec Ideal S1024x2340 .f32) slices_S1024x2340_S1024x256_0_256 := by
  after_reads_simp

open StableHlo in
theorem seg0_v2 (σ : Valuation τ sig (Elt Ideal)) : (show FVec Ideal S1024x256 .f32 from after hostOps0_1 (after hostOps0 σ) (Proc.devRef .tc main_v2)) = extractStridedSlice S1024x256 ![0, 512] (σ (Proc.devRef .tc main_arg3) : FVec Ideal S1024x2340 .f32) slices_S1024x2340_S1024x256_0_512 := by
  after_reads_simp

open StableHlo in
theorem seg0_v4 (σ : Valuation τ sig (Elt Ideal)) : (show FVec Ideal S1024x256 .f32 from after hostOps0_1 (after hostOps0 σ) (Proc.devRef .tc main_v4)) = extractStridedSlice S1024x256 ![0, 1536] (σ (Proc.devRef .tc main_arg3) : FVec Ideal S1024x2340 .f32) slices_S1024x2340_S1024x256_0_1536 := by
  after_reads_simp

open StableHlo in
theorem seg0_v5 (σ : Valuation τ sig (Elt Ideal)) : (show FVec Ideal S1024x256 .f32 from after hostOps0_1 (after hostOps0 σ) (Proc.devRef .tc main_v5)) = extractStridedSlice S1024x256 ![0, 1792] (σ (Proc.devRef .tc main_arg3) : FVec Ideal S1024x2340 .f32) slices_S1024x2340_S1024x256_0_1792 := by
  after_reads_simp

open StableHlo in
theorem seg0_v6 (σ : Valuation τ sig (Elt Ideal)) : (show FVec Ideal S1024x256 .f32 from after hostOps0_1 (after hostOps0 σ) (Proc.devRef .tc main_v6)) = extractStridedSlice S1024x256 ![0, 2048] (σ (Proc.devRef .tc main_arg3) : FVec Ideal S1024x2340 .f32) slices_S1024x2340_S1024x256_0_2048 := by
  after_reads_simp

open StableHlo in
theorem seg0_v23 (σ : Valuation τ sig (Elt Ideal)) : (show FVec Ideal S1024x128 .f32 from after hostOps0_1 (after hostOps0 σ) (Proc.devRef .tc main_v23)) = WG (σ (Proc.devRef .tc main_arg3)) := by
  refine (seg1 _).trans ?_
  after_reads_simp
  rfl

/-- What the host operations leave in the kernel's weight operand. -/
theorem wcat (c : Dev nD) : (V m c main_v25 : FVec Ideal S1024x3200 .bf16) = WCAT (m ((c : Thread nD τ).loc main_arg3)) := by
  show StableHlo.after (hostOps0 ++ (hostOps0_1 ++ (hostOps0_2 ++ []))) (fun b => m (c, b)) main_v25 = _
  rw [List.append_nil, StableHlo.after_append, StableHlo.after_append]
  refine (seg2 _).trans ?_
  unfold WCAT
  exact congr (congr (congr (congr (congr (congr (congr (congrArg CAT (seg0_v0 _)) (seg0_v1 _)) (seg0_v2 _)) (seg0 _)) (seg0_v4 _)) (seg0_v5 _)) (seg0_v6 _)) (seg0_v23 _)

/-- The weight window's block is the whole matrix. -/
theorem iblk3 (c : Dev nD) (t : Fin cfg0.N) : (iblk m c 3 t : FVec Ideal S1024x3200 .bf16) = WCAT (m ((c : Thread nD τ).loc main_arg3)) := by
  rw [← wcat m c]
  funext i
  blk_ext [iblk, idx t]

/-- Columns of the first gate. -/
theorem wcat_u (W : FVec Ideal S1024x2340 .f32) (k : Fin 1024) (j : Fin 256) (h : (j : ℕ) < 3200) :
    WCAT W (ix2 k ⟨(j : ℕ), h⟩) = W (ix2 k ⟨(j : ℕ), by omega⟩) := by
  pointwise [WCAT, CAT]

/-- Columns of the second gate. -/
theorem wcat_gb (W : FVec Ideal S1024x2340 .f32) (k : Fin 1024) (j : Fin 256) (h : 256 + (j : ℕ) < 3200) :
    WCAT W (ix2 k ⟨256 + (j : ℕ), h⟩) = W (ix2 k ⟨256 + (j : ℕ), by omega⟩) := by
  pointwise [WCAT, CAT]

/-- Columns of the convolution input. -/
theorem wcat_c (W : FVec Ideal S1024x2340 .f32) (k : Fin 1024) (j : Fin 256) (h : 512 + (j : ℕ) < 3200) :
    WCAT W (ix2 k ⟨512 + (j : ℕ), h⟩) = W (ix2 k ⟨512 + (j : ℕ), by omega⟩) := by
  pointwise [WCAT, CAT]
  simp (disch := omega) only [dif_neg, dif_pos]
  all_goals (refine congrArg (fun q => W (ix2 k q)) (Fin.ext ?_); dsimp only; omega)

/-- Columns of the compressed keys and values. -/
theorem wcat_kvc (W : FVec Ideal S1024x2340 .f32) (k : Fin 1024) (j : Fin 256) (h : 2304 + (j : ℕ) < 3200) :
    WCAT W (ix2 k ⟨2304 + (j : ℕ), h⟩) = W (ix2 k ⟨1536 + (j : ℕ), by omega⟩) := by
  pointwise [WCAT, CAT]
  simp (disch := omega) only [dif_neg, dif_pos]
  all_goals (refine congrArg (fun q => W (ix2 k q)) (Fin.ext ?_); dsimp only; omega)

/-- Columns of the selected keys and values. -/
theorem wcat_kvs (W : FVec Ideal S1024x2340 .f32) (k : Fin 1024) (j : Fin 256) (h : 2560 + (j : ℕ) < 3200) :
    WCAT W (ix2 k ⟨2560 + (j : ℕ), h⟩) = W (ix2 k ⟨1792 + (j : ℕ), by omega⟩) := by
  pointwise [WCAT, CAT]
  simp (disch := omega) only [dif_neg, dif_pos]
  all_goals (refine congrArg (fun q => W (ix2 k q)) (Fin.ext ?_); dsimp only; omega)

/-- Columns of the keys and values of the window. -/
theorem wcat_kvw (W : FVec Ideal S1024x2340 .f32) (k : Fin 1024) (j : Fin 256) (h : 2816 + (j : ℕ) < 3200) :
    WCAT W (ix2 k ⟨2816 + (j : ℕ), h⟩) = W (ix2 k ⟨2048 + (j : ℕ), by omega⟩) := by
  pointwise [WCAT, CAT]
  simp (disch := omega) only [dif_neg, dif_pos]
  all_goals (refine congrArg (fun q => W (ix2 k q)) (Fin.ext ?_); dsimp only; omega)

/-- Columns of the queries. -/
theorem wcat_qz (W : FVec Ideal S1024x2340 .f32) (k : Fin 1024) (j : Fin 1536) (h : 768 + (j : ℕ) < 3200) :
    WCAT W (ix2 k ⟨768 + (j : ℕ), h⟩) = WQ W (ix2 k j) := by
  pointwise [WCAT, CAT]
  simp (disch := omega) only [dif_neg, dif_pos]
  all_goals (refine congrArg (fun q => WQ W (ix2 k q)) (Fin.ext ?_); dsimp only; omega)

/-- Columns of the branch gates. -/
theorem wcat_g (W : FVec Ideal S1024x2340 .f32) (k : Fin 1024) (j : Fin 128) (h : 3072 + (j : ℕ) < 3200) :
    WCAT W (ix2 k ⟨3072 + (j : ℕ), h⟩) = WG W (ix2 k j) := by
  pointwise [WCAT, CAT]
  simp (disch := omega) only [dif_neg, dif_pos]
  all_goals (refine congrArg (fun q => WG W (ix2 k q)) (Fin.ext ?_); dsimp only; omega)

/-- A column of a branch gate, or zeros. -/
theorem wg_at (W : FVec Ideal S1024x2340 .f32) (k : Fin 1024) (j : Fin 128) :
    WG W (ix2 k j) = if h : (j : ℕ) < 36 then W (ix2 k ⟨2304 + (j : ℕ), by omega⟩) else 0 := by
  pointwise [WG, Cert.Consts.sitofp_zero]

/-- A column of a query, or zeros. -/
theorem wq_at (W : FVec Ideal S1024x2340 .f32) (k : Fin 1024) (j : Fin 1536) :
    WQ W (ix2 k j) = W (ix2 k ⟨768 + ((j : ℕ) / 768 * 384 + (j : ℕ) / 128 % 6 * 64 + (j : ℕ) % 64), by omega⟩) * Ideal.ofBits .f32 1040187392#32 *
      FloatOps.uitofp (F := Ideal) FTy.f32
        (IntOp.cmpi CmpIPredicate.eq (IntOp.addi (BitVec.ofNat 32 ((j : ℕ) / 768)) 0#32) (BitVec.ofNat 32 ((j : ℕ) / 64 % 2))) := by
  pointwise [WQ]

end Cert.Kernel2Ideal.Val

end
-- ==== Proof.InProjA.lean ====
module

public import proofs.«01_k».proof.Proof.InProj
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

variable (m : (ℓ : Loc nD τ sig) → Buf (Elt Ideal) ℓ)

set_option maxHeartbeats 1600000 in
/-- The array of result 1 after the run. -/
theorem final4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, iblk3]; frame_out
  pointwise [k0_pay5, k0_pay3, wcat_u, wcat_c, REF0, Y]
  blk_point [iblk, V, idx t]

set_option maxHeartbeats 1600000 in
/-- The array of result 2 after the run. -/
theorem final5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, iblk3]; frame_out
  pointwise [k0_pay4, k0_pay3, wcat_gb, REF1, Y]
  blk_point [iblk, V, idx t]

end Cert.Kernel2Ideal.Val

end
-- ==== Proof.InProjB.lean ====
module

public import proofs.«01_k».proof.Proof.InProj
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

variable (m : (ℓ : Loc nD τ sig) → Buf (Elt Ideal) ℓ)

set_option maxHeartbeats 1600000 in
/-- The array of result 4 after the run. -/
theorem final7 (c : Dev nD) : (dats m 0 c).arrAt 7 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, iblk3]; frame_out
  pointwise [k0_pay7, k0_pay14, k0_pay3, wcat_kvc, REF3, Y]
  blk_point [iblk, V, idx t]

set_option maxHeartbeats 1600000 in
/-- The array of result 5 after the run. -/
theorem final8 (c : Dev nD) : (dats m 0 c).arrAt 8 (cfgs 0).N = REF4 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8, iblk3]; frame_out
  pointwise [k0_pay9, k0_pay8, k0_pay14, k0_pay3, wcat_kvs, REF4, Y]
  blk_point [iblk, V, idx t]

set_option maxHeartbeats 1600000 in
/-- The array of result 6 after the run. -/
theorem final9 (c : Dev nD) : (dats m 0 c).arrAt 9 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9, iblk3]; frame_out
  pointwise [k0_pay12, k0_pay11, k0_pay14, k0_pay3, wcat_kvw, REF5, Y]
  blk_point [iblk, V, idx t]

end Cert.Kernel2Ideal.Val

end
-- ==== Proof.InProjC.lean ====
module

public import proofs.«01_k».proof.Proof.InProj
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

variable (m : (ℓ : Loc nD τ sig) → Buf (Elt Ideal) ℓ)

set_option maxHeartbeats 1600000 in
/-- The array of result 7 after the run. -/
theorem final10 (c : Dev nD) : (dats m 0 c).arrAt 10 (cfgs 0).N = REF6 (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10, iblk3]; frame_out
  pointwise [k0_pay10, k0_pay8, k0_pay14, k0_pay3, wcat_kvs, REF6, Y]
  blk_point [iblk, V, idx t]

set_option maxHeartbeats 1600000 in
/-- The array of result 8 after the run. -/
theorem final11 (c : Dev nD) : (dats m 0 c).arrAt 11 (cfgs 0).N = REF7 (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11, iblk3]; frame_out
  pointwise [k0_pay1, k0_pay13, k0_pay11, k0_pay14, k0_pay3, wcat_kvw, REF7, Y]
  blk_point [iblk, V, idx t]

end Cert.Kernel2Ideal.Val

end
-- ==== Proof.InProjD.lean ====
module

public import proofs.«01_k».proof.Proof.InProj
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Val

open Cert.Kernel2Ideal Cert.Kernel2Ideal.Gen

variable (m : (ℓ : Loc nD τ sig) → Buf (Elt Ideal) ℓ)

set_option maxHeartbeats 1600000 in
/-- The array of result 3 after the run. -/
theorem final6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, iblk3]; frame_out
  pointwise [k0_pay6, k0_pay14, k0_pay3, wcat_qz, wq_at, Cert.Consts.proj_scaled, REF2, Y]
  refine congrArg₂ (· * ·) (congrArg (· * _) ?_) ?_
  · blk_point [iblk, V, idx t]
  · blk_simp [idx t]

set_option maxHeartbeats 1600000 in
/-- The array of result 9 after the run. -/
theorem final12 (c : Dev nD) : (dats m 0 c).arrAt 12 (cfgs 0).N = REF8 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12, iblk3]; frame_out
  pointwise [k0_pay2, k0_pay14, k0_pay3, wcat_g, wg_at, REF8, Y]
  have e : ((((cfg0.win 12).blk t).view.emb y 2 : Fin 128) : ℕ) = (y 2 : Fin 128) := by blk_simp [idx t]
  refine congrArg (fun q => Ideal.div 1 (1 + Ideal.exp (-q))) ?_
  by_cases h : ((y 2 : Fin 128) : ℕ) < 36
  · refine Eq.trans ?_ (dif_pos (e ▸ h)).symm
    simp only [dif_pos h]
    blk_point [iblk, V, idx t]
  · refine Eq.trans ?_ (dif_neg (e ▸ h)).symm
    simp only [dif_neg h]
    rw [Cert.Consts.sitofp_zero]
    exact Cert.Consts.sum_mul_zero _ _

end Cert.Kernel2Ideal.Val

end
-- ==== Proof.Spec.lean ====
/- One row of the layer's last block as formulas over the extended reals. -/
module

public import Idealize.ShloMosaic.Lib.IdealHost
public import Idealize.ShloMosaic.Lib.Pointwise

@[expose] public section

noncomputable section

open Idealize.ShloMosaic

namespace Cert.Spec

/-- The small number under the roots. -/
def eps : EReal := Ideal.ofBits .f32 0x3727C5AC#32

/-- The weight of the residual. -/
def alpha : EReal := Ideal.ofBits .f32 0x3F9837F0#32

/-- A row divided by the root of its mean square, then scaled. -/
def rms {n : ℕ} (w : EReal) (z g : Fin n → EReal) (c : Fin n) : EReal :=
  z c * Ideal.rsqrt (Ideal.div (∑ k, z k * z k) w + eps) * g c

/-- The mean of a row of 1024. -/
def mean (z : Fin 1024 → EReal) : EReal := Ideal.div (∑ k, z k) (Ideal.ofBits .f32 0x44800000#32)

/-- A row less its mean. -/
def cent (z : Fin 1024 → EReal) (j : Fin 1024) : EReal := z j - mean z

/-- A row normalised to mean zero and variance one, then scaled and shifted. -/
def ln (z g b : Fin 1024 → EReal) (j : Fin 1024) : EReal :=
  cent z j * Ideal.rsqrt (mean (fun k => cent z k * cent z k) + eps) * g j + b j

/-- The gated convolution of a row with the two before it. -/
def conv (gb c0 c1 c2 u2 u1 u0 : Fin 256 → EReal) (c : Fin 256) : EReal :=
  gb c * (c0 c * u2 c + c1 c * u1 c + c2 c * u0 c)

/-- The residual and the gated mixture of the convolution's row and the attention's. -/
def mix (x g1 : Fin 1024 → EReal) (yn : Fin 256 → EReal) (on : Fin 768 → EReal)
    (wy : Fin 256 → Fin 1024 → EReal) (wo : Fin 768 → Fin 1024 → EReal) (j : Fin 1024) : EReal :=
  alpha * x j + g1 j * (∑ k, yn k * wy k j + ∑ k, on k * wo k j)

/-- A row modulated by a scale and a shift. -/
def modu (x1 sc sh : Fin 1024 → EReal) (j : Fin 1024) : EReal :=
  x1 j * (Ideal.ofBits .f32 0x3F800000#32 + sc j) + sh j

/-- One hidden unit of the feed-forward network: the gate, its logistic function and the other projection. -/
def unit (h wg wu : Fin 1024 → EReal) : EReal :=
  (∑ k, h k * wg k) * Ideal.logistic (∑ k, h k * wg k) * (∑ k, h k * wu k)

/-- The residual and the gated feed-forward network. -/
def ffn (x1 g2 h : Fin 1024 → EReal) (wg wu : Fin 1024 → Fin 2816 → EReal) (wd : Fin 2816 → Fin 1024 → EReal)
    (j : Fin 1024) : EReal :=
  alpha * x1 j + g2 j * ∑ n, unit h (fun k => wg k n) (fun k => wu k n) * wd n j

/-- The row `s - d` of an array, or zeros before the first. -/
def prev (U : Fin 2048 → Fin 256 → EReal) (d : ℕ) (s : Fin 2048) (c : Fin 256) : EReal :=
  if h : d ≤ (s : ℕ) then U ⟨(s : ℕ) - d, by omega⟩ c else 0

/-- The reference's place of the kernel's attention column: group and repeat change places. -/
def perm (c : Fin 768) : Fin 768 := ⟨(c : ℕ) / 64 % 2 * 384 + (c : ℕ) / 128 * 64 + (c : ℕ) % 64, by omega⟩

theorem perm_back (c : ℕ) (hc : c < 768) :
    (c / 64 % 2 * 384 + c / 128 * 64 + c % 64) / 64 % 6 * 128 + (c / 64 % 2 * 384 + c / 128 * 64 + c % 64) / 384 * 64
      + (c / 64 % 2 * 384 + c / 128 * 64 + c % 64) % 64 = c := by
  have h0 : c = c / 128 * 128 + c / 64 % 2 * 64 + c % 64 := by omega
  have hr : c / 128 < 6 := by omega
  have hg : c / 64 % 2 < 2 := by omega
  have hd : c % 64 < 64 := by omega
  generalize c / 128 = r at *
  generalize c / 64 % 2 = g at *
  generalize c % 64 = d at *
  have h1 : (g * 384 + r * 64 + d) / 64 = g * 6 + r := by omega
  have h2 : (g * 384 + r * 64 + d) / 384 = g := by omega
  have h3 : (g * 384 + r * 64 + d) % 64 = d := by omega
  rw [h1, h2, h3]
  omega

/-- A hidden unit's gate times its logistic function. -/
def act (h w : Fin 1024 → EReal) : EReal := (∑ k, h k * w k) * Ideal.logistic (∑ k, h k * w k)

/-- What 256 hidden units give. -/
def tile (h : Fin 1024 → EReal) (wg wu : Fin 1024 → Fin 256 → EReal) (wd : Fin 256 → Fin 1024 → EReal)
    (j : Fin 1024) : EReal :=
  ∑ n, unit h (fun k => wg k n) (fun k => wu k n) * wd n j

/-- The layer's last block at one row: mixture, normalisation, feed-forward network, normalisation. -/
def block (x g1 sc sh g2 : Fin 1024 → EReal) (cv gc : Fin 256 → EReal) (o gn : Fin 768 → EReal)
    (wy : Fin 256 → Fin 1024 → EReal) (wo : Fin 768 → Fin 1024 → EReal) (l1g l1b l2g l2b : Fin 1024 → EReal)
    (wg wu : Fin 1024 → Fin 2816 → EReal) (wd : Fin 2816 → Fin 1024 → EReal) : Fin 1024 → EReal :=
  let x1 := ln (mix x g1 (rms (Ideal.ofBits .f32 0x43800000#32) cv gc) (rms (Ideal.ofBits .f32 0x44400000#32) o gn) wy wo)
    l1g l1b
  ln (ffn x1 g2 (modu x1 sc sh) wg wu wd) l2g l2b

theorem perm_inj : Function.Injective perm := fun a b h => by
  have h' : (perm a : ℕ) = (perm b : ℕ) := congrArg Fin.val h
  refine Fin.ext ?_
  rw [← perm_back a.val a.isLt, ← perm_back b.val b.isLt]
  dsimp only [perm] at h'
  rw [h']

/-- A sum over the columns in either order. -/
theorem perm_sum (f : Fin 768 → EReal) : ∑ c, f (perm c) = ∑ c, f c :=
  (Equiv.ofBijective perm (Finite.injective_iff_bijective.mp perm_inj)).sum_comp f

/-- The order of the attention's columns does not matter when the gains and the weights are in the same order. -/
theorem block_perm (x g1 sc sh g2 : Fin 1024 → EReal) (cv gc : Fin 256 → EReal) (o gn : Fin 768 → EReal)
    (wy : Fin 256 → Fin 1024 → EReal) (wo : Fin 768 → Fin 1024 → EReal) (l1g l1b l2g l2b : Fin 1024 → EReal)
    (wg wu : Fin 1024 → Fin 2816 → EReal) (wd : Fin 2816 → Fin 1024 → EReal) :
    block x g1 sc sh g2 cv gc (fun c => o (perm c)) (fun c => gn (perm c)) wy (fun c => wo (perm c)) l1g l1b l2g l2b wg wu wd
      = block x g1 sc sh g2 cv gc o gn wy wo l1g l1b l2g l2b wg wu wd := by
  have h : mix x g1 (rms (Ideal.ofBits .f32 0x43800000#32) cv gc)
      (rms (Ideal.ofBits .f32 0x44400000#32) (fun c => o (perm c)) (fun c => gn (perm c))) wy (fun c => wo (perm c))
      = mix x g1 (rms (Ideal.ofBits .f32 0x43800000#32) cv gc) (rms (Ideal.ofBits .f32 0x44400000#32) o gn) wy wo := by
    funext j
    unfold mix
    rw [← perm_sum (fun k => rms (Ideal.ofBits .f32 0x44400000#32) o gn k * wo k j)]
    unfold rms
    rw [perm_sum (fun k => o k * o k)]
  unfold block
  rw [h]

/-- The hidden units in eleven tiles. -/
theorem ffn_tiles (x1 g2 h : Fin 1024 → EReal) (wg wu : Fin 1024 → Fin 2816 → EReal) (wd : Fin 2816 → Fin 1024 → EReal)
    (j : Fin 1024) (T : ℕ → EReal)
    (hT : ∀ q : Fin 11, T q = tile h (fun k n => wg k ⟨(q : ℕ) * 256 + (n : ℕ), by omega⟩)
      (fun k n => wu k ⟨(q : ℕ) * 256 + (n : ℕ), by omega⟩) (fun n j => wd ⟨(q : ℕ) * 256 + (n : ℕ), by omega⟩ j) j) :
    alpha * x1 j + g2 j * (T 0 + T 1 + T 2 + T 3 + T 4 + T 5 + T 6 + T 7 + T 8 + T 9 + T 10) = ffn x1 g2 h wg wu wd j := by
  unfold ffn
  rw [Fin.sum_univ_tiles 11 256 rfl]
  have e : T 0 + T 1 + T 2 + T 3 + T 4 + T 5 + T 6 + T 7 + T 8 + T 9 + T 10 = ∑ q : Fin 11, T q := by
    simp only [Fin.sum_univ_castSucc, Fin.sum_univ_zero, zero_add]
    rfl
  rw [e]
  refine congrArg (fun q => alpha * x1 j + g2 j * q) (Finset.sum_congr rfl fun q _ => (hT q).trans rfl)

end Cert.Spec

end
-- ==== Proof.PostRef.lean ====
module

public import proofs.«01_k».proof.Proof.Gen.Reference3Ideal.Run
public import proofs.«01_k».proof.Proof.Consts
public import proofs.«01_k».proof.Proof.Spec

@[expose] public section

set_option maxRecDepth 16384

noncomputable section

open Idealize.ShloMosaic Idealize.ShloMosaic.TcCoe Idealize.SL.Sem

namespace Cert.Reference3Ideal.Row

open Cert.Reference3Ideal Cert.Reference3Ideal.Gen Cert.Reference3Ideal.Value Cert.Spec

variable (V0 : Valuation τ sig (Elt Ideal))

/-! The problem's arrays, as the reference finds them. -/
abbrev aX : FVec Ideal S8x2048x1024 .f32 := V0 (Proc.devRef .tc main_arg0)
abbrev aO : FVec Ideal S8x2048x768 .f32 := V0 (Proc.devRef .tc main_arg1)
abbrev aU : FVec Ideal S8x2048x256 .f32 := V0 (Proc.devRef .tc main_arg2)
abbrev aB : FVec Ideal S8x2048x256 .f32 := V0 (Proc.devRef .tc main_arg3)
abbrev aG1 : FVec Ideal S8x1x1024 .f32 := V0 (Proc.devRef .tc main_arg4)
abbrev aSH : FVec Ideal S8x1x1024 .f32 := V0 (Proc.devRef .tc main_arg5)
abbrev aSC : FVec Ideal S8x1x1024 .f32 := V0 (Proc.devRef .tc main_arg6)
abbrev aG2 : FVec Ideal S8x1x1024 .f32 := V0 (Proc.devRef .tc main_arg7)
abbrev aCW : FVec Ideal S3x256 .f32 := V0 (Proc.devRef .tc main_arg8)
abbrev aGC : FVec Ideal S256 .f32 := V0 (Proc.devRef .tc main_arg9)
abbrev aGN : FVec Ideal S768 .f32 := V0 (Proc.devRef .tc main_arg10)
abbrev aWO : FVec Ideal S1024x1024 .f32 := V0 (Proc.devRef .tc main_arg11)
abbrev aL1G : FVec Ideal S1024 .f32 := V0 (Proc.devRef .tc main_arg12)
abbrev aL1B : FVec Ideal S1024 .f32 := V0 (Proc.devRef .tc main_arg13)
abbrev aL2G : FVec Ideal S1024 .f32 := V0 (Proc.devRef .tc main_arg14)
abbrev aL2B : FVec Ideal S1024 .f32 := V0 (Proc.devRef .tc main_arg15)
abbrev aWG : FVec Ideal S1024x2816 .f32 := V0 (Proc.devRef .tc main_arg16)
abbrev aWU : FVec Ideal S1024x2816 .f32 := V0 (Proc.devRef .tc main_arg17)
abbrev aWD : FVec Ideal S2816x1024 .f32 := V0 (Proc.devRef .tc main_arg18)

theorem v61 (b : Fin 8) (s : Fin 2048) (z : Fin 1024 → EReal)
    (h : ∀ k, (res_main_v57 V0 : FVec Ideal S8x2048x1024 .f32) (ix3 b s k) = z k) :
    (res_main_v61 V0 : FVec Ideal S8x2048x1 .f32) (ix3 b s (0 : Fin 1)) = mean z := by
  pointwise [res_main_v61, mean, h]

theorem v63 (b : Fin 8) (s : Fin 2048) (z : Fin 1024 → EReal)
    (h : ∀ k, (res_main_v57 V0 : FVec Ideal S8x2048x1024 .f32) (ix3 b s k) = z k) (j : Fin 1024) :
    (res_main_v63 V0 : FVec Ideal S8x2048x1024 .f32) (ix3 b s j) = cent z j := by
  pointwise [res_main_v63, cent, h, v61 V0 b s z h]

theorem v81 (b : Fin 8) (s : Fin 2048) (z : Fin 1024 → EReal)
    (h : ∀ k, (res_main_v57 V0 : FVec Ideal S8x2048x1024 .f32) (ix3 b s k) = z k) (j : Fin 1024) :
    (res_main_v81 V0 : FVec Ideal S8x2048x1024 .f32) (ix3 b s j)
      = ln z (fun k => aL1G V0 (ix1 k)) (fun k => aL1B V0 (ix1 k)) j := by
  pointwise [res_main_v81, ln, mean, cent, eps, h, v61 V0 b s z h, v63 V0 b s z h]

theorem v87 (b : Fin 8) (s : Fin 2048) (x1 : Fin 1024 → EReal)
    (h : ∀ k, (res_main_v81 V0 : FVec Ideal S8x2048x1024 .f32) (ix3 b s k) = x1 k) (j : Fin 1024) :
    (res_main_v87 V0 : FVec Ideal S8x2048x1024 .f32) (ix3 b s j)
      = modu x1 (fun k => aSC V0 (ix3 b (0 : Fin 1) k)) (fun k => aSH V0 (ix3 b (0 : Fin 1) k)) j := by
  pointwise [res_main_v87, modu, h]

theorem v88 (b : Fin 8) (s : Fin 2048) (h : Fin 1024 → EReal)
    (hh : ∀ k, (res_main_v87 V0 : FVec Ideal S8x2048x1024 .f32) (ix3 b s k) = h k) (n : Fin 2816) :
    (res_main_v88 V0 : FVec Ideal S8x2048x2816 .f32) (ix3 b s n) = ∑ k, h k * aWG V0 (ix2 k n) := by
  pointwise [res_main_v88, hh]

theorem v97 (b : Fin 8) (s : Fin 2048) (x1 h : Fin 1024 → EReal)
    (h1 : ∀ k, (res_main_v81 V0 : FVec Ideal S8x2048x1024 .f32) (ix3 b s k) = x1 k)
    (hh : ∀ k, (res_main_v87 V0 : FVec Ideal S8x2048x1024 .f32) (ix3 b s k) = h k) (j : Fin 1024) :
    (res_main_v97 V0 : FVec Ideal S8x2048x1024 .f32) (ix3 b s j)
      = ffn x1 (fun k => aG2 V0 (ix3 b (0 : Fin 1) k)) h (fun k n => aWG V0 (ix2 k n))
          (fun k n => aWU V0 (ix2 k n)) (fun n j => aWD V0 (ix2 n j)) j := by
  pointwise [res_main_v97, ffn, unit, alpha, h1, hh, v88 V0 b s h hh]
  rfl

theorem v3 (b : Fin 8) (s : Fin 2048) (d : ℕ) (hd : d ≤ 2) (q : Fin 2050) (hq : (q : ℕ) = (s : ℕ) + (2 - d)) (c : Fin 256) :
    (res_main_v3 V0 : FVec Ideal S8x2050x256 .f32) (ix3 b q c) = prev (fun s c => aU V0 (ix3 b s c)) d s c := by
  have e : (res_main_v3 V0 : FVec Ideal S8x2050x256 .f32) = pad S8x2050x256 ![0, 2, 0] ![0, 0, 0] ![0, 0, 0] (aU V0)
      (sitofp (F := Ideal) .f32 (constantI S_ 32 0#32)) pads_S8x2048x256_S8x2050x256_000_200_000 h_S_ := rfl
  rw [e]
  generalize aU V0 = U
  pointwise [prev, Cert.Consts.sitofp_zero]
  by_cases h : d ≤ (s : ℕ)
  · rw [dif_pos h, dif_pos (by omega)]
    exact congrArg (fun q => U (ix3 b q c)) (Fin.ext (by dsimp only; omega))
  · rw [dif_neg h, dif_neg (by omega)]

theorem v24 (b : Fin 8) (s : Fin 2048) (c : Fin 256) :
    (res_main_v24 V0 : FVec Ideal S8x2048x256 .f32) (ix3 b s c)
      = conv (fun c => aB V0 (ix3 b s c)) (fun c => aCW V0 (ix2 (0 : Fin 3) c)) (fun c => aCW V0 (ix2 (1 : Fin 3) c))
          (fun c => aCW V0 (ix2 (2 : Fin 3) c)) (prev (fun s c => aU V0 (ix3 b s c)) 2 s) (prev (fun s c => aU V0 (ix3 b s c)) 1 s) (prev (fun s c => aU V0 (ix3 b s c)) 0 s) c := by
  pointwise [res_main_v24, conv]
  rw [v3 V0 b s 2 (by omega) _ (by dsimp only; omega) c, v3 V0 b s 1 (by omega) _ (by dsimp only; omega) c,
    v3 V0 b s 0 (by omega) _ (by dsimp only; omega) c]

theorem v2 (b : Fin 8) (s : Fin 2048) (c : Fin 768) :
    (res_main_v2 V0 : FVec Ideal S8x2048x768 .f32) (ix3 b s (perm c)) = aO V0 (ix3 b s c) := by
  pointwise [res_main_v2]
  refine congrArg (fun q => aO V0 (ix3 b s q)) (Fin.ext ?_)
  exact perm_back c.val c.isLt

theorem v57 (b : Fin 8) (s : Fin 2048) (y : Fin 256 → EReal) (o : Fin 768 → EReal)
    (hy : ∀ k, (res_main_v24 V0 : FVec Ideal S8x2048x256 .f32) (ix3 b s k) = y k)
    (ho : ∀ k, (res_main_v2 V0 : FVec Ideal S8x2048x768 .f32) (ix3 b s k) = o k) (j : Fin 1024) :
    (res_main_v57 V0 : FVec Ideal S8x2048x1024 .f32) (ix3 b s j)
      = mix (fun k => aX V0 (ix3 b s k)) (fun k => aG1 V0 (ix3 b (0 : Fin 1) k))
          (rms (Ideal.ofBits .f32 0x43800000#32) y (fun k => aGC V0 (ix1 k)))
          (rms (Ideal.ofBits .f32 0x44400000#32) o (fun k => aGN V0 (ix1 k)))
          (fun c j => aWO V0 (ix2 (⟨(c : ℕ), by omega⟩ : Fin 1024) j))
          (fun c j => aWO V0 (ix2 (⟨256 + (c : ℕ), by omega⟩ : Fin 1024) j)) j := by
  pointwise [res_main_v57, mix, rms, alpha, eps, hy, ho]

theorem v121 (b : Fin 8) (s : Fin 2048) (z : Fin 1024 → EReal)
    (h : ∀ k, (res_main_v97 V0 : FVec Ideal S8x2048x1024 .f32) (ix3 b s k) = z k) (j : Fin 1024) :
    (val3 V0 (Proc.devRef .tc main_v121) : FVec Ideal S8x2048x1024 .f32) (ix3 b s j)
      = ln z (fun k => aL2G V0 (ix1 k)) (fun k => aL2B V0 (ix1 k)) j := by
  have h101 : (res_main_v101 V0 : FVec Ideal S8x2048x1 .f32) (ix3 b s (0 : Fin 1)) = mean z := by
    pointwise [res_main_v101, mean, h]
  have h103 : ∀ j, (res_main_v103 V0 : FVec Ideal S8x2048x1024 .f32) (ix3 b s j) = cent z j := fun j => by
    pointwise [res_main_v103, cent, h, h101]
  rw [val3_main_v121]
  pointwise [ln, mean, cent, eps, h, h101, h103]

/-- The reference's result at one row. -/
theorem result (b : Fin 8) (s : Fin 2048) (o : Fin 768 → EReal)
    (ho : ∀ k, (res_main_v2 V0 : FVec Ideal S8x2048x768 .f32) (ix3 b s k) = o k) (j : Fin 1024) :
    (val3 V0 (Proc.devRef .tc main_v121) : FVec Ideal S8x2048x1024 .f32) (ix3 b s j)
      = block (fun k => aX V0 (ix3 b s k)) (fun k => aG1 V0 (ix3 b (0 : Fin 1) k)) (fun k => aSC V0 (ix3 b (0 : Fin 1) k))
          (fun k => aSH V0 (ix3 b (0 : Fin 1) k)) (fun k => aG2 V0 (ix3 b (0 : Fin 1) k))
          (conv (fun c => aB V0 (ix3 b s c)) (fun c => aCW V0 (ix2 (0 : Fin 3) c)) (fun c => aCW V0 (ix2 (1 : Fin 3) c))
            (fun c => aCW V0 (ix2 (2 : Fin 3) c)) (prev (fun s c => aU V0 (ix3 b s c)) 2 s)
            (prev (fun s c => aU V0 (ix3 b s c)) 1 s) (prev (fun s c => aU V0 (ix3 b s c)) 0 s))
          (fun k => aGC V0 (ix1 k)) o (fun k => aGN V0 (ix1 k))
          (fun c j => aWO V0 (ix2 (⟨(c : ℕ), by omega⟩ : Fin 1024) j))
          (fun c j => aWO V0 (ix2 (⟨256 + (c : ℕ), by omega⟩ : Fin 1024) j))
          (fun k => aL1G V0 (ix1 k)) (fun k => aL1B V0 (ix1 k)) (fun k => aL2G V0 (ix1 k)) (fun k => aL2B V0 (ix1 k))
          (fun k n => aWG V0 (ix2 k n)) (fun k n => aWU V0 (ix2 k n)) (fun n j => aWD V0 (ix2 n j)) j := by
  have h57 := v57 V0 b s _ o (v24 V0 b s) ho
  have h81 := v81 V0 b s _ h57
  have h87 := v87 V0 b s _ h81
  have h97 := v97 V0 b s _ _ h81 h87
  exact v121 V0 b s _ h97 j

end Cert.Reference3Ideal.Row

end
-- ==== Proof.PostKer.lean ====
module

public import proofs.«01_k».proof.Proof.Gen.Kernel3Ideal.Frame
public import proofs.«01_k».proof.Proof.Consts
public import Idealize.ShloMosaic.Lib.Pipeline.ValueKit
public import proofs.«01_k».proof.Proof.Spec

@[expose] public section

set_option maxRecDepth 16384

noncomputable section

open Idealize.ShloMosaic Idealize.ShloMosaic.TcCoe Idealize.SL.Sem

namespace Cert.Kernel3Ideal.Row

open Cert.Kernel3Ideal Cert.Kernel3Ideal.Gen Cert.Spec

/-! The values of the kernel's body at one row, over any blocks. -/

theorem p13 (v67 : FVec Ideal S512x256 .f32) (v79 : FVec Ideal S512x768 .f32) (v80 : FVec Ideal S1x768 .f32)
    (v85 : FVec Ideal S256x1024 .bf16) (v89 : FVec Ideal S768x1024 .bf16) (v93 : FVec Ideal S1x512x1024 .f32)
    (v97 : FVec Ideal S1x1x1024 .f32) (r : Fin 512) (y : Fin 256 → EReal) (o : Fin 768 → EReal)
    (hy : ∀ k, v67 (ix2 r k) = y k) (ho : ∀ k, v79 (ix2 r k) * v80 (ix2 (0 : Fin 1) k) = o k) (j : Fin 1024) :
    k0_pay13 v67 v79 v80 v85 v89 v93 v97 (ix2 r j)
      = cent (mix (fun k => v93 (ix3 (0 : Fin 1) r k)) (fun k => v97 (ix3 (0 : Fin 1) (0 : Fin 1) k)) y o
          (fun c j => v85 (ix2 c j)) (fun c j => v89 (ix2 c j))) j := by
  pointwise [k0_pay13, cent, mean, mix, alpha, hy, ho]

theorem p14 (v67 : FVec Ideal S512x256 .f32) (v79 : FVec Ideal S512x768 .f32) (v80 : FVec Ideal S1x768 .f32)
    (v85 : FVec Ideal S256x1024 .bf16) (v89 : FVec Ideal S768x1024 .bf16) (v93 : FVec Ideal S1x512x1024 .f32)
    (v97 : FVec Ideal S1x1x1024 .f32) (r : Fin 512) (e : Fin 1024 → EReal)
    (h : ∀ k, k0_pay13 v67 v79 v80 v85 v89 v93 v97 (ix2 r k) = e k) :
    k0_pay14 v67 v79 v80 v85 v89 v93 v97 (ix2 r (0 : Fin 1)) = mean (fun k => e k * e k) := by
  pointwise [k0_pay14, mean, h]

theorem p15 (v103 v105 : FVec Ideal S1x1024 .f32) (v111 : FVec Ideal S512x1024 .f32) (v116 : FVec Ideal S512x1 .f32)
    (r : Fin 512) (z : Fin 1024 → EReal) (h : ∀ k, v111 (ix2 r k) = cent z k)
    (h' : v116 (ix2 r (0 : Fin 1)) = mean (fun k => cent z k * cent z k)) (j : Fin 1024) :
    k0_pay15 v103 v105 v111 v116 (Scalar.ofBits (F := Ideal) .f32 0x3727C5AC#32) (ix2 r j)
      = ln z (fun k => v103 (ix2 (0 : Fin 1) k)) (fun k => v105 (ix2 (0 : Fin 1) k)) j := by
  pointwise [k0_pay15, ln, eps, h, h']

theorem p16 (v103 v105 : FVec Ideal S1x1024 .f32) (v111 : FVec Ideal S512x1024 .f32) (v116 : FVec Ideal S512x1 .f32)
    (e : EReal) (v126 v132 : FVec Ideal S1x1x1024 .f32)
    (r : Fin 512) (x1 : Fin 1024 → EReal) (h : ∀ k, k0_pay15 v103 v105 v111 v116 e (ix2 r k) = x1 k) (j : Fin 1024) :
    k0_pay16 v103 v105 v111 v116 e v126 v132 (ix2 r j)
      = modu x1 (fun k => v126 (ix3 (0 : Fin 1) (0 : Fin 1) k)) (fun k => v132 (ix3 (0 : Fin 1) (0 : Fin 1) k)) j := by
  pointwise [k0_pay16, modu, h]

theorem p17 (v103 v105 : FVec Ideal S1x1024 .f32) (v111 : FVec Ideal S512x1024 .f32) (v116 : FVec Ideal S512x1 .f32)
    (e : EReal) (v126 v132 : FVec Ideal S1x1x1024 .f32) (g0 u0 : FVec Ideal S1024x256 .bf16) (d0 : FVec Ideal S256x1024 .bf16)
    (r : Fin 512) (h : Fin 1024 → EReal) (hh : ∀ k, k0_pay16 v103 v105 v111 v116 e v126 v132 (ix2 r k) = h k) (j : Fin 1024) :
    k0_pay17 v103 v105 v111 v116 e v126 v132 g0 u0 d0 (ix2 r j)
      = tile h (fun k n => g0 (ix2 k n)) (fun k n => u0 (ix2 k n)) (fun n j => d0 (ix2 n j)) j := by
  pointwise [k0_pay17, tile, unit, hh]

theorem p18 (v103 v105 : FVec Ideal S1x1024 .f32) (v111 : FVec Ideal S512x1024 .f32) (v116 : FVec Ideal S512x1 .f32)
    (e : EReal) (v126 v132 : FVec Ideal S1x1x1024 .f32) (g0 : FVec Ideal S1024x256 .bf16)
    (r : Fin 512) (h : Fin 1024 → EReal) (hh : ∀ k, k0_pay16 v103 v105 v111 v116 e v126 v132 (ix2 r k) = h k) (n : Fin 256) :
    k0_pay18 v103 v105 v111 v116 e v126 v132 g0 (ix2 r n) = act h (fun k => g0 (ix2 k n)) := by
  pointwise [k0_pay18, act, hh]

theorem p19 (v136 : FVec Ideal S512x1024 .bf16) (v149 : FVec Ideal S512x1024 .f32) (v154 : FVec Ideal S512x256 .f32)
    (g0 u0 g1 u1 g2 u2 : FVec Ideal S1024x256 .bf16) (d0 d1 d2 : FVec Ideal S256x1024 .bf16)
    (r : Fin 512) (h : Fin 1024 → EReal) (hh : ∀ k, v136 (ix2 r k) = h k)
    (h4 : ∀ n, v154 (ix2 r n) = act h (fun k => g0 (ix2 k n))) (j : Fin 1024) :
    k0_pay19 v136 v149 v154 u0 d0 g1 u1 d1 g2 u2 d2 (ix2 r j)
      = v149 (ix2 r j) + tile h (fun k n => g0 (ix2 k n)) (fun k n => u0 (ix2 k n)) (fun n j => d0 (ix2 n j)) j
        + tile h (fun k n => g1 (ix2 k n)) (fun k n => u1 (ix2 k n)) (fun n j => d1 (ix2 n j)) j
        + tile h (fun k n => g2 (ix2 k n)) (fun k n => u2 (ix2 k n)) (fun n j => d2 (ix2 n j)) j := by
  pointwise [k0_pay19, tile, unit, act, hh, h4]

theorem p20 (v136 : FVec Ideal S512x1024 .bf16) (v191 : FVec Ideal S512x1024 .f32)
    (g0 u0 g1 u1 : FVec Ideal S1024x256 .bf16) (d0 d1 : FVec Ideal S256x1024 .bf16)
    (r : Fin 512) (h : Fin 1024 → EReal) (hh : ∀ k, v136 (ix2 r k) = h k) (j : Fin 1024) :
    k0_pay20 v136 v191 g0 u0 d0 g1 u1 d1 (ix2 r j)
      = v191 (ix2 r j) + tile h (fun k n => g0 (ix2 k n)) (fun k n => u0 (ix2 k n)) (fun n j => d0 (ix2 n j)) j
        + tile h (fun k n => g1 (ix2 k n)) (fun k n => u1 (ix2 k n)) (fun n j => d1 (ix2 n j)) j := by
  pointwise [k0_pay20, tile, unit, hh]

theorem p22 (v136 : FVec Ideal S512x1024 .bf16) (v219 : FVec Ideal S512x1024 .f32)
    (g0 u0 g1 u1 g2 u2 : FVec Ideal S1024x256 .bf16) (d0 d1 d2 : FVec Ideal S256x1024 .bf16)
    (r : Fin 512) (h : Fin 1024 → EReal) (hh : ∀ k, v136 (ix2 r k) = h k) (j : Fin 1024) :
    k0_pay22 v136 v219 (k0_pay21 v136 g0 u0) d0 g1 u1 d1 g2 u2 d2 (ix2 r j)
      = v219 (ix2 r j) + tile h (fun k n => g0 (ix2 k n)) (fun k n => u0 (ix2 k n)) (fun n j => d0 (ix2 n j)) j
        + tile h (fun k n => g1 (ix2 k n)) (fun k n => u1 (ix2 k n)) (fun n j => d1 (ix2 n j)) j
        + tile h (fun k n => g2 (ix2 k n)) (fun k n => u2 (ix2 k n)) (fun n j => d2 (ix2 n j)) j := by
  pointwise [k0_pay22, k0_pay21, tile, unit, hh]

theorem p25 (v125 : FVec Ideal S512x1024 .f32) (v136 : FVec Ideal S512x1024 .bf16) (v261 : FVec Ideal S512x1024 .f32)
    (g0 u0 g1 u1 : FVec Ideal S1024x256 .bf16) (d0 d1 : FVec Ideal S256x1024 .bf16) (v292 : FVec Ideal S1x1x1024 .f32)
    (r : Fin 512) (h : Fin 1024 → EReal) (hh : ∀ k, v136 (ix2 r k) = h k) (j : Fin 1024) :
    k0_pay25 v125 v136 v261 (k0_pay23 v136 g0) (k0_pay24 v136 g0) u0 d0 g1 u1 d1 v292 (ix2 r j)
      = alpha * v125 (ix2 r j) + v292 (ix3 (0 : Fin 1) (0 : Fin 1) j) * (v261 (ix2 r j)
        + tile h (fun k n => g0 (ix2 k n)) (fun k n => u0 (ix2 k n)) (fun n j => d0 (ix2 n j)) j
        + tile h (fun k n => g1 (ix2 k n)) (fun k n => u1 (ix2 k n)) (fun n j => d1 (ix2 n j)) j) := by
  pointwise [k0_pay25, k0_pay24, k0_pay23, tile, unit, alpha, hh]

theorem p28 (v125 : FVec Ideal S512x1024 .f32) (v136 : FVec Ideal S512x1024 .bf16) (v261 : FVec Ideal S512x1024 .f32)
    (v264 v265 : FVec Ideal S512x256 .f32)
    (u0 g1 u1 : FVec Ideal S1024x256 .bf16) (d0 d1 : FVec Ideal S256x1024 .bf16) (v292 : FVec Ideal S1x1x1024 .f32)
    (r : Fin 512) (z : Fin 1024 → EReal)
    (hz : ∀ k, k0_pay25 v125 v136 v261 v264 v265 u0 d0 g1 u1 d1 v292 (ix2 r k) = z k) :
    k0_pay28 v125 v136 v261 v264 v265 u0 d0 g1 u1 d1 v292 (ix1 r) = ∑ k, z k := by
  pointwise [k0_pay28, hz]

theorem p1 (v296 : FVec Ideal S512x1024 .f32) (v298 v300 : FVec Ideal S1x1024 .f32) (v301 : FVec Ideal S512 .f32)
    (r : Fin 512) (z : Fin 1024 → EReal) (hz : ∀ k, v296 (ix2 r k) = z k) (hs : v301 (ix1 r) = ∑ k, z k) (j : Fin 1024) :
    k0_pay1 v296 v298 v300 v301 (ix3 (0 : Fin 1) r j)
      = ln z (fun k => v298 (ix2 (0 : Fin 1) k)) (fun k => v300 (ix2 (0 : Fin 1) k)) j := by
  pointwise [k0_pay1, ln, cent, mean, eps, hz, hs]

/-- The kernel multiplies by the reciprocal of the width where the formula divides by the width. -/
theorem p10 (v68 : FVec Ideal S1x512x768 .f32) (v80 : FVec Ideal S1x768 .f32) (r : Fin 512) (c : Fin 768) :
    k0_pay10 v68 (ix2 r c) * v80 (ix2 (0 : Fin 1) c)
      = rms (Ideal.ofBits .f32 0x44400000#32) (fun c => v68 (ix3 (0 : Fin 1) r c)) (fun c => v80 (ix2 (0 : Fin 1) c)) c := by
  have hk : (Named.named (F := Ideal) (φ := .f32) κ "inv_dim" 0x3AAAAAAB#32 : EReal) = (((1 : ℝ) / 768 : ℝ) : EReal) :=
    IdealRules.named_const.ideal_named_scalar _ _ _ _ rfl
  pointwise [k0_pay10, rms, eps]
  rw [hk, Cert.Consts.width, Ideal.div_coe (by norm_num : (768 : ℝ) ≠ 0)]

theorem p9 (v1 v28 v31 : FVec Ideal S512x256 .f32) (v35 : IVec S512x256 1) (v36 : FVec Ideal S1x256 .f32)
    (v39 : FVec Ideal S3x256 .f32) (v40 : FVec Ideal S1x512x256 .f32) (v64 : FVec Ideal S1x256 .f32) (r : Fin 512)
    (u2 u1 u0 : Fin 256 → EReal) (h0 : ∀ c, v1 (ix2 r c) = u0 c) (h1 : ∀ c, v28 (ix2 r c) = u1 c)
    (h2 : ∀ c, Scalar.select (v35 (ix2 r c)) (v31 (ix2 r c)) (v36 (ix2 (0 : Fin 1) c)) = u2 c) (c : Fin 256) :
    k0_pay9 v1 v28 v31 v35 v36 v39 v40 v64 (ix2 r c)
      = rms (Ideal.ofBits .f32 0x43800000#32) (conv (fun c => v40 (ix3 (0 : Fin 1) r c)) (fun c => v39 (ix2 (0 : Fin 3) c))
          (fun c => v39 (ix2 (1 : Fin 3) c)) (fun c => v39 (ix2 (2 : Fin 3) c)) u2 u1 u0) (fun c => v64 (ix2 (0 : Fin 1) c)) c := by
  pointwise [k0_pay9, rms, conv, eps, h0, h1, h2]

/-- The kernel's row number, counted within its sequence. -/
def posw (q r : ℕ) : BitVec 32 :=
  IntOp.addi
    (Scalar.select
      (Scalar.andi
        (Scalar.xori
          (Scalar.cmpi CmpIPredicate.slt
            (Scalar.remsi (Scalar.muli (BitVec.ofNat 32 q) 512#32) (Scalar.select (Scalar.cmpi CmpIPredicate.eq 2048#32 0#32) 1#32 2048#32)) 0#32)
          (Scalar.cmpi CmpIPredicate.slt (Scalar.select (Scalar.cmpi CmpIPredicate.eq 2048#32 0#32) 1#32 2048#32) 0#32))
        (Scalar.cmpi CmpIPredicate.ne
          (Scalar.remsi (Scalar.muli (BitVec.ofNat 32 q) 512#32) (Scalar.select (Scalar.cmpi CmpIPredicate.eq 2048#32 0#32) 1#32 2048#32)) 0#32))
      (Scalar.addi
        (Scalar.remsi (Scalar.muli (BitVec.ofNat 32 q) 512#32) (Scalar.select (Scalar.cmpi CmpIPredicate.eq 2048#32 0#32) 1#32 2048#32))
        (Scalar.select (Scalar.cmpi CmpIPredicate.eq 2048#32 0#32) 1#32 2048#32))
      (Scalar.remsi (Scalar.muli (BitVec.ofNat 32 q) 512#32) (Scalar.select (Scalar.cmpi CmpIPredicate.eq 2048#32 0#32) 1#32 2048#32)))
    (BitVec.ofNat 32 r)

/-- Whether the row number is at least one, at every row of every block. -/
theorem pos1 : ∀ (q : Fin 4) (r : Fin 512), IntOp.cmpi CmpIPredicate.sge (posw q r) 1#32
    = if 1 ≤ (q : ℕ) * 512 + (r : ℕ) then 1#1 else 0#1 := by decide +kernel

/-- Whether the row number is at least two, at every row of every block. -/
theorem pos2 : ∀ (q : Fin 4) (r : Fin 512), IntOp.cmpi CmpIPredicate.sge (posw q r) 2#32
    = if 2 ≤ (q : ℕ) * 512 + (r : ℕ) then 1#1 else 0#1 := by decide +kernel

theorem p4 (i : grid0.Coords) (r : Fin 512) : k0_pay4 i (ix2 r (0 : Fin 1)) = posw (i 1) r := by
  pointwise [k0_pay4]
  rfl

theorem p5 (i : grid0.Coords) (q : Fin 4) (hq : (i 1 : ℕ) = (q : ℕ)) (x2 : FVec Ideal S1x512x256 .f32)
    (x3 : FVec Ideal S1x8x256 .f32) (x5 : FVec Ideal S1x1x256 .f32) (U : Fin 2048 → Fin 256 → EReal)
    (h2 : ∀ (r : Fin 512) (s : Fin 2048) c, (s : ℕ) = (q : ℕ) * 512 + (r : ℕ) → x2 (ix3 (0 : Fin 1) r c) = U s c)
    (h3 : ∀ (a : Fin 8) (s : Fin 2048) c, 0 < (q : ℕ) → (s : ℕ) + 8 = (q : ℕ) * 512 + (a : ℕ) → x3 (ix3 (0 : Fin 1) a c) = U s c)
    (h5 : ∀ c : Fin 256, x5 (ix3 (0 : Fin 1) (0 : Fin 1) c) = 0)
    (r : Fin 512) (s : Fin 2048) (hs : (s : ℕ) = (q : ℕ) * 512 + (r : ℕ)) (c : Fin 256) :
    k0_pay5 (F := Ideal) i x2 x3 x5 (ix2 r c) = prev U 1 s c := by
  pointwise [k0_pay5, k0_pay3, k0_pay2, prev]
  rw [p4, hq, pos1 q r]
  by_cases h : 1 ≤ (s : ℕ)
  · rw [if_pos (by omega), dif_pos h]
    change (if (1#1 : BitVec 1) = 1 then _ else _) = _
    refine (if_pos rfl).trans ?_
    by_cases hr : 7 + (r : ℕ) < 8
    · refine (dif_pos hr).trans ?_; exact h3 _ _ _ (by omega) (by dsimp only; omega)
    · refine (dif_neg hr).trans ?_; exact h2 _ _ _ (by dsimp only; omega)
  · rw [if_neg (by omega), dif_neg h]
    change (if (0#1 : BitVec 1) = 1 then _ else _) = _
    refine (if_neg (by decide)).trans ?_
    exact h5 c

theorem p7 (i : grid0.Coords) (r : Fin 512) (c : Fin 256) :
    k0_pay7 i (ix2 r c) = if 2 ≤ (i 1 : ℕ) * 512 + (r : ℕ) then 1#1 else 0#1 := by
  pointwise [k0_pay7, k0_pay4]
  exact pos2 (i 1) r

theorem p678 (i : grid0.Coords) (q : Fin 4) (hq : (i 1 : ℕ) = (q : ℕ)) (x2 : FVec Ideal S1x512x256 .f32)
    (x3 : FVec Ideal S1x8x256 .f32) (x6 : FVec Ideal S1x1x256 .f32) (U : Fin 2048 → Fin 256 → EReal)
    (h2 : ∀ (r : Fin 512) (s : Fin 2048) c, (s : ℕ) = (q : ℕ) * 512 + (r : ℕ) → x2 (ix3 (0 : Fin 1) r c) = U s c)
    (h3 : ∀ (a : Fin 8) (s : Fin 2048) c, 0 < (q : ℕ) → (s : ℕ) + 8 = (q : ℕ) * 512 + (a : ℕ) → x3 (ix3 (0 : Fin 1) a c) = U s c)
    (h6 : ∀ c : Fin 256, x6 (ix3 (0 : Fin 1) (0 : Fin 1) c) = 0)
    (r : Fin 512) (s : Fin 2048) (hs : (s : ℕ) = (q : ℕ) * 512 + (r : ℕ)) (c : Fin 256) :
    Scalar.select (k0_pay7 i (ix2 r c)) (k0_pay6 (F := Ideal) x2 x3 (ix2 r c)) (k0_pay8 (F := Ideal) x6 (ix2 (0 : Fin 1) c))
      = prev U 2 s c := by
  rw [p7, hq]
  pointwise [k0_pay6, k0_pay8, k0_pay3, k0_pay2, prev]
  by_cases h : 2 ≤ (s : ℕ)
  · rw [if_pos (by omega), dif_pos h]
    change (if (1#1 : BitVec 1) = 1 then _ else _) = _
    refine (if_pos rfl).trans ?_
    by_cases hr : 6 + (r : ℕ) < 8
    · refine (dif_pos hr).trans ?_; exact h3 _ _ _ (by omega) (by dsimp only; omega)
    · refine (dif_neg hr).trans ?_; exact h2 _ _ _ (by dsimp only; omega)
  · rw [if_neg (by omega), dif_neg h]
    change (if (0#1 : BitVec 1) = 1 then _ else _) = _
    refine (if_neg (by decide)).trans ?_
    exact h6 c

theorem ld0 (x : Vec Ideal S1x512x256 .f32) : View.ld x r0_0 = x := by
  exact View.ld_unit_lit _ x (by decide)

theorem ld1 (x : Vec Ideal S1x8x256 .f32) : View.ld x r0_1 = x := by
  exact View.ld_unit_lit _ x (by decide)

theorem ld2 (x : Vec Ideal S1x1x256 .f32) : View.ld x r0_2 = x := by
  exact View.ld_unit_lit _ x (by decide)

theorem ld3 (x : Vec Ideal S3x256 .f32) : View.ld x r0_3 = x := by
  exact View.ld_unit_lit _ x (by decide)

theorem ld4 (x : Vec Ideal S1x256 .f32) : View.ld x r0_4 = x := by
  exact View.ld_unit_lit _ x (by decide)

theorem ld5 (x : Vec Ideal S1x512x768 .f32) : View.ld x r0_5 = x := by
  exact View.ld_unit_lit _ x (by decide)

theorem ld6 (x : Vec Ideal S1x768 .f32) : View.ld x r0_6 = x := by
  exact View.ld_unit_lit _ x (by decide)

theorem ld7 (x : Vec Ideal S256x1024 .bf16) : View.ld x r0_7 = x := by
  exact View.ld_unit_lit _ x (by decide)

theorem ld8 (x : Vec Ideal S768x1024 .bf16) : View.ld x r0_8 = x := by
  exact View.ld_unit_lit _ x (by decide)

theorem ld9 (x : Vec Ideal S1x512x1024 .f32) : View.ld x r0_9 = x := by
  exact View.ld_unit_lit _ x (by decide)

theorem ld10 (x : Vec Ideal S1x1x1024 .f32) : View.ld x r0_10 = x := by
  exact View.ld_unit_lit _ x (by decide)

theorem ld11 (x : Vec Ideal S1x1024 .f32) : View.ld x r0_11 = x := by
  exact View.ld_unit_lit _ x (by decide)

theorem ld12 (x : Vec Ideal S1024x2816 .bf16) (k : Fin 1024) (n : Fin 256) :
    (View.ld x r0_12 : FVec Ideal S1024x256 .bf16) (ix2 k n) = x (ix2 k (⟨0 * 256 + (n : ℕ), by omega⟩ : Fin 2816)) := by
  pointwise []

theorem ld13 (x : Vec Ideal S2816x1024 .bf16) (n : Fin 256) (k : Fin 1024) :
    (View.ld x r0_13 : FVec Ideal S256x1024 .bf16) (ix2 n k) = x (ix2 (⟨0 * 256 + (n : ℕ), by omega⟩ : Fin 2816) k) := by
  pointwise []

theorem ld14 (x : Vec Ideal S1024x2816 .bf16) (k : Fin 1024) (n : Fin 256) :
    (View.ld x r0_14 : FVec Ideal S1024x256 .bf16) (ix2 k n) = x (ix2 k (⟨1 * 256 + (n : ℕ), by omega⟩ : Fin 2816)) := by
  pointwise []

theorem ld15 (x : Vec Ideal S2816x1024 .bf16) (n : Fin 256) (k : Fin 1024) :
    (View.ld x r0_15 : FVec Ideal S256x1024 .bf16) (ix2 n k) = x (ix2 (⟨1 * 256 + (n : ℕ), by omega⟩ : Fin 2816) k) := by
  pointwise []

theorem ld16 (x : Vec Ideal S1024x2816 .bf16) (k : Fin 1024) (n : Fin 256) :
    (View.ld x r0_16 : FVec Ideal S1024x256 .bf16) (ix2 k n) = x (ix2 k (⟨2 * 256 + (n : ℕ), by omega⟩ : Fin 2816)) := by
  pointwise []

theorem ld17 (x : Vec Ideal S2816x1024 .bf16) (n : Fin 256) (k : Fin 1024) :
    (View.ld x r0_17 : FVec Ideal S256x1024 .bf16) (ix2 n k) = x (ix2 (⟨2 * 256 + (n : ℕ), by omega⟩ : Fin 2816) k) := by
  pointwise []

theorem ld18 (x : Vec Ideal S1024x2816 .bf16) (k : Fin 1024) (n : Fin 256) :
    (View.ld x r0_18 : FVec Ideal S1024x256 .bf16) (ix2 k n) = x (ix2 k (⟨3 * 256 + (n : ℕ), by omega⟩ : Fin 2816)) := by
  pointwise []

theorem ld19 (x : Vec Ideal S2816x1024 .bf16) (n : Fin 256) (k : Fin 1024) :
    (View.ld x r0_19 : FVec Ideal S256x1024 .bf16) (ix2 n k) = x (ix2 (⟨3 * 256 + (n : ℕ), by omega⟩ : Fin 2816) k) := by
  pointwise []

theorem ld20 (x : Vec Ideal S1024x2816 .bf16) (k : Fin 1024) (n : Fin 256) :
    (View.ld x r0_20 : FVec Ideal S1024x256 .bf16) (ix2 k n) = x (ix2 k (⟨4 * 256 + (n : ℕ), by omega⟩ : Fin 2816)) := by
  pointwise []

theorem ld21 (x : Vec Ideal S2816x1024 .bf16) (n : Fin 256) (k : Fin 1024) :
    (View.ld x r0_21 : FVec Ideal S256x1024 .bf16) (ix2 n k) = x (ix2 (⟨4 * 256 + (n : ℕ), by omega⟩ : Fin 2816) k) := by
  pointwise []

theorem ld22 (x : Vec Ideal S1024x2816 .bf16) (k : Fin 1024) (n : Fin 256) :
    (View.ld x r0_22 : FVec Ideal S1024x256 .bf16) (ix2 k n) = x (ix2 k (⟨5 * 256 + (n : ℕ), by omega⟩ : Fin 2816)) := by
  pointwise []

theorem ld23 (x : Vec Ideal S2816x1024 .bf16) (n : Fin 256) (k : Fin 1024) :
    (View.ld x r0_23 : FVec Ideal S256x1024 .bf16) (ix2 n k) = x (ix2 (⟨5 * 256 + (n : ℕ), by omega⟩ : Fin 2816) k) := by
  pointwise []

theorem ld24 (x : Vec Ideal S1024x2816 .bf16) (k : Fin 1024) (n : Fin 256) :
    (View.ld x r0_24 : FVec Ideal S1024x256 .bf16) (ix2 k n) = x (ix2 k (⟨6 * 256 + (n : ℕ), by omega⟩ : Fin 2816)) := by
  pointwise []

theorem ld25 (x : Vec Ideal S2816x1024 .bf16) (n : Fin 256) (k : Fin 1024) :
    (View.ld x r0_25 : FVec Ideal S256x1024 .bf16) (ix2 n k) = x (ix2 (⟨6 * 256 + (n : ℕ), by omega⟩ : Fin 2816) k) := by
  pointwise []

theorem ld26 (x : Vec Ideal S1024x2816 .bf16) (k : Fin 1024) (n : Fin 256) :
    (View.ld x r0_26 : FVec Ideal S1024x256 .bf16) (ix2 k n) = x (ix2 k (⟨7 * 256 + (n : ℕ), by omega⟩ : Fin 2816)) := by
  pointwise []

theorem ld27 (x : Vec Ideal S2816x1024 .bf16) (n : Fin 256) (k : Fin 1024) :
    (View.ld x r0_27 : FVec Ideal S256x1024 .bf16) (ix2 n k) = x (ix2 (⟨7 * 256 + (n : ℕ), by omega⟩ : Fin 2816) k) := by
  pointwise []

theorem ld28 (x : Vec Ideal S1024x2816 .bf16) (k : Fin 1024) (n : Fin 256) :
    (View.ld x r0_28 : FVec Ideal S1024x256 .bf16) (ix2 k n) = x (ix2 k (⟨8 * 256 + (n : ℕ), by omega⟩ : Fin 2816)) := by
  pointwise []

theorem ld29 (x : Vec Ideal S2816x1024 .bf16) (n : Fin 256) (k : Fin 1024) :
    (View.ld x r0_29 : FVec Ideal S256x1024 .bf16) (ix2 n k) = x (ix2 (⟨8 * 256 + (n : ℕ), by omega⟩ : Fin 2816) k) := by
  pointwise []

theorem ld30 (x : Vec Ideal S1024x2816 .bf16) (k : Fin 1024) (n : Fin 256) :
    (View.ld x r0_30 : FVec Ideal S1024x256 .bf16) (ix2 k n) = x (ix2 k (⟨9 * 256 + (n : ℕ), by omega⟩ : Fin 2816)) := by
  pointwise []

theorem ld31 (x : Vec Ideal S2816x1024 .bf16) (n : Fin 256) (k : Fin 1024) :
    (View.ld x r0_31 : FVec Ideal S256x1024 .bf16) (ix2 n k) = x (ix2 (⟨9 * 256 + (n : ℕ), by omega⟩ : Fin 2816) k) := by
  pointwise []

theorem ld32 (x : Vec Ideal S1024x2816 .bf16) (k : Fin 1024) (n : Fin 256) :
    (View.ld x r0_32 : FVec Ideal S1024x256 .bf16) (ix2 k n) = x (ix2 k (⟨10 * 256 + (n : ℕ), by omega⟩ : Fin 2816)) := by
  pointwise []

theorem ld33 (x : Vec Ideal S2816x1024 .bf16) (n : Fin 256) (k : Fin 1024) :
    (View.ld x r0_33 : FVec Ideal S256x1024 .bf16) (ix2 n k) = x (ix2 (⟨10 * 256 + (n : ℕ), by omega⟩ : Fin 2816) k) := by
  pointwise []

theorem tile_congr (h : Fin 1024 → EReal) (j : Fin 1024) {a a' b b' : Fin 1024 → Fin 256 → EReal} {d d' : Fin 256 → Fin 1024 → EReal}
    (ha : ∀ k n, a k n = a' k n) (hb : ∀ k n, b k n = b' k n) (hd : ∀ n j, d n j = d' n j) :
    tile h a b d j = tile h a' b' d' j := by
  rw [show a = a' from funext fun k => funext (ha k), show b = b' from funext fun k => funext (hb k),
    show d = d' from funext fun k => funext (hd k)]

/-- The kernel's result at one row, over any blocks: the formula of the layer's last block. -/
theorem row (i : grid0.Coords) (x0 : Vec Ideal S1x512x1024 .f32) (x1 : Vec Ideal S1x512x768 .f32) (x2 : Vec Ideal S1x512x256 .f32) (x3 : Vec Ideal S1x8x256 .f32) (x4 : Vec Ideal S1x512x256 .f32) (x5 : Vec Ideal S1x1x256 .f32) (x6 : Vec Ideal S1x1x256 .f32) (x7 : Vec Ideal S1x1x1024 .f32) (x8 : Vec Ideal S1x1x1024 .f32) (x9 : Vec Ideal S1x1x1024 .f32) (x10 : Vec Ideal S1x1x1024 .f32) (x11 : Vec Ideal S3x256 .f32) (x12 : Vec Ideal S1x256 .f32) (x13 : Vec Ideal S1x768 .f32) (x14 : Vec Ideal S256x1024 .bf16) (x15 : Vec Ideal S768x1024 .bf16) (x16 : Vec Ideal S1x1024 .f32) (x17 : Vec Ideal S1x1024 .f32) (x18 : Vec Ideal S1x1024 .f32) (x19 : Vec Ideal S1x1024 .f32) (x20 : Vec Ideal S1024x2816 .bf16) (x21 : Vec Ideal S1024x2816 .bf16) (x22 : Vec Ideal S2816x1024 .bf16)
    (q : Fin 4) (hq : (i 1 : ℕ) = (q : ℕ)) (U : Fin 2048 → Fin 256 → EReal)
    (h2 : ∀ (r : Fin 512) (s : Fin 2048) c, (s : ℕ) = (q : ℕ) * 512 + (r : ℕ) → x2 (ix3 (0 : Fin 1) r c) = U s c)
    (h3 : ∀ (a : Fin 8) (s : Fin 2048) c, 0 < (q : ℕ) → (s : ℕ) + 8 = (q : ℕ) * 512 + (a : ℕ) → x3 (ix3 (0 : Fin 1) a c) = U s c)
    (h5 : ∀ c : Fin 256, x5 (ix3 (0 : Fin 1) (0 : Fin 1) c) = 0) (h6 : ∀ c : Fin 256, x6 (ix3 (0 : Fin 1) (0 : Fin 1) c) = 0)
    (r : Fin 512) (s : Fin 2048) (hs : (s : ℕ) = (q : ℕ) * 512 + (r : ℕ)) (j : Fin 1024) :
    out0_23 (F := Ideal) i x0 x1 x2 x3 x4 x5 x6 x7 x8 x9 x10 x11 x12 x13 x14 x15 x16 x17 x18 x19 x20 x21 x22 (ix3 (0 : Fin 1) r j)
      = block (fun k => x0 (ix3 (0 : Fin 1) r k)) (fun k => x7 (ix3 (0 : Fin 1) (0 : Fin 1) k)) (fun k => x9 (ix3 (0 : Fin 1) (0 : Fin 1) k)) (fun k => x8 (ix3 (0 : Fin 1) (0 : Fin 1) k)) (fun k => x10 (ix3 (0 : Fin 1) (0 : Fin 1) k)) (conv (fun k => x4 (ix3 (0 : Fin 1) r k)) (fun c => x11 (ix2 (0 : Fin 3) c)) (fun c => x11 (ix2 (1 : Fin 3) c)) (fun c => x11 (ix2 (2 : Fin 3) c)) (prev U 2 s) (prev U 1 s) (prev U 0 s)) (fun k => x12 (ix2 (0 : Fin 1) k)) (fun k => x1 (ix3 (0 : Fin 1) r k)) (fun k => x13 (ix2 (0 : Fin 1) k))
          (fun c j => x14 (ix2 c j)) (fun c j => x15 (ix2 c j)) (fun k => x16 (ix2 (0 : Fin 1) k)) (fun k => x17 (ix2 (0 : Fin 1) k)) (fun k => x18 (ix2 (0 : Fin 1) k)) (fun k => x19 (ix2 (0 : Fin 1) k)) (fun k n => x20 (ix2 k n)) (fun k n => x21 (ix2 k n)) (fun n j => x22 (ix2 n j)) j := by
  have H29 : ∀ c, k0_pay29 (F := Ideal) i x0 x1 x2 x3 x4 x5 x6 x7 x8 x9 x10 x11 x12 x13 x14 x15 x16 x17 x18 x19 x20 x21 x22 (ix2 r c) = rms (Ideal.ofBits .f32 0x43800000#32) (conv (fun k => x4 (ix3 (0 : Fin 1) r k)) (fun c => x11 (ix2 (0 : Fin 3) c)) (fun c => x11 (ix2 (1 : Fin 3) c)) (fun c => x11 (ix2 (2 : Fin 3) c)) (prev U 2 s) (prev U 1 s) (prev U 0 s)) (fun k => x12 (ix2 (0 : Fin 1) k)) c := fun c => by
    unfold k0_pay29
    simp only [ld0, ld1, ld2, ld3, ld4]
    exact p9 _ _ _ _ _ _ _ _ r _ _ _
      (fun c => by
        refine Eq.trans (b := x2 (ix3 (0 : Fin 1) r c)) (by pointwise [k0_pay2]) ((h2 r s c hs).trans ?_)
        unfold prev
        rw [dif_pos (Nat.zero_le _)]
        rfl)
      (fun c => p5 i q hq x2 x3 x5 U h2 h3 h5 r s hs c) (fun c => p678 i q hq x2 x3 x6 U h2 h3 h6 r s hs c) c
  have H30 : ∀ c, k0_pay30 (F := Ideal) i x0 x1 x2 x3 x4 x5 x6 x7 x8 x9 x10 x11 x12 x13 x14 x15 x16 x17 x18 x19 x20 x21 x22 (ix2 r c) * x13 (ix2 (0 : Fin 1) c)
      = rms (Ideal.ofBits .f32 0x44400000#32) (fun k => x1 (ix3 (0 : Fin 1) r k)) (fun k => x13 (ix2 (0 : Fin 1) k)) c := fun c => by
    unfold k0_pay30
    simp only [ld5]
    exact p10 x1 x13 r c
  have H33 : ∀ k, k0_pay33 (F := Ideal) i x0 x1 x2 x3 x4 x5 x6 x7 x8 x9 x10 x11 x12 x13 x14 x15 x16 x17 x18 x19 x20 x21 x22 (ix2 r k) = cent (mix (fun k => x0 (ix3 (0 : Fin 1) r k)) (fun k => x7 (ix3 (0 : Fin 1) (0 : Fin 1) k))
      (rms (Ideal.ofBits .f32 0x43800000#32) (conv (fun k => x4 (ix3 (0 : Fin 1) r k)) (fun c => x11 (ix2 (0 : Fin 3) c)) (fun c => x11 (ix2 (1 : Fin 3) c)) (fun c => x11 (ix2 (2 : Fin 3) c)) (prev U 2 s) (prev U 1 s) (prev U 0 s)) (fun k => x12 (ix2 (0 : Fin 1) k))) (rms (Ideal.ofBits .f32 0x44400000#32) (fun k => x1 (ix3 (0 : Fin 1) r k)) (fun k => x13 (ix2 (0 : Fin 1) k))) (fun c j => x14 (ix2 c j)) (fun c j => x15 (ix2 c j))) k := fun k => by
    unfold k0_pay33
    simp only [ld6, ld7, ld8, ld9, ld10]
    exact p13 _ _ x13 x14 x15 x0 x7 r _ _ H29 H30 k
  unfold block
  generalize hz : mix (fun k => x0 (ix3 (0 : Fin 1) r k)) (fun k => x7 (ix3 (0 : Fin 1) (0 : Fin 1) k)) (rms (Ideal.ofBits .f32 0x43800000#32) (conv (fun k => x4 (ix3 (0 : Fin 1) r k)) (fun c => x11 (ix2 (0 : Fin 3) c)) (fun c => x11 (ix2 (1 : Fin 3) c)) (fun c => x11 (ix2 (2 : Fin 3) c)) (prev U 2 s) (prev U 1 s) (prev U 0 s)) (fun k => x12 (ix2 (0 : Fin 1) k)))
    (rms (Ideal.ofBits .f32 0x44400000#32) (fun k => x1 (ix3 (0 : Fin 1) r k)) (fun k => x13 (ix2 (0 : Fin 1) k))) (fun c j => x14 (ix2 c j)) (fun c j => x15 (ix2 c j)) = z at H33 ⊢
  have H34 : k0_pay34 (F := Ideal) i x0 x1 x2 x3 x4 x5 x6 x7 x8 x9 x10 x11 x12 x13 x14 x15 x16 x17 x18 x19 x20 x21 x22 (ix2 r (0 : Fin 1)) = mean (fun k => cent z k * cent z k) := by
    unfold k0_pay34
    exact p14 _ _ _ _ _ _ _ r _ H33
  have H35 : ∀ k, k0_pay35 (F := Ideal) i x0 x1 x2 x3 x4 x5 x6 x7 x8 x9 x10 x11 x12 x13 x14 x15 x16 x17 x18 x19 x20 x21 x22 (ix2 r k) = ln z (fun k => x16 (ix2 (0 : Fin 1) k)) (fun k => x17 (ix2 (0 : Fin 1) k)) k := fun k => by
    have e31 : ∀ k, k0_pay31 (F := Ideal) i x0 x1 x2 x3 x4 x5 x6 x7 x8 x9 x10 x11 x12 x13 x14 x15 x16 x17 x18 x19 x20 x21 x22 (ix2 (0 : Fin 1) k) = x16 (ix2 (0 : Fin 1) k) := fun k => by
      unfold k0_pay31
      rw [ld11]
      pointwise [k0_pay11]
    have e32 : ∀ k, k0_pay32 (F := Ideal) i x0 x1 x2 x3 x4 x5 x6 x7 x8 x9 x10 x11 x12 x13 x14 x15 x16 x17 x18 x19 x20 x21 x22 (ix2 (0 : Fin 1) k) = x17 (ix2 (0 : Fin 1) k) := fun k => by
      unfold k0_pay32
      rw [ld11]
      pointwise [k0_pay12]
    unfold k0_pay35
    rw [p15 _ _ _ _ r z H33 H34 k]
    simp only [e31, e32]
  generalize hx1 : ln z (fun k => x16 (ix2 (0 : Fin 1) k)) (fun k => x17 (ix2 (0 : Fin 1) k)) = x1v at H35 ⊢
  have H36 : ∀ k, k0_pay36 (F := Ideal) i x0 x1 x2 x3 x4 x5 x6 x7 x8 x9 x10 x11 x12 x13 x14 x15 x16 x17 x18 x19 x20 x21 x22 (ix2 r k) = modu x1v (fun k => x9 (ix3 (0 : Fin 1) (0 : Fin 1) k)) (fun k => x8 (ix3 (0 : Fin 1) (0 : Fin 1) k)) k := fun k => by
    unfold k0_pay36
    simp only [ld10]
    exact p16 _ _ _ _ _ x9 x8 r x1v H35 k
  have H36' := H36
  generalize hh : modu x1v (fun k => x9 (ix3 (0 : Fin 1) (0 : Fin 1) k)) (fun k => x8 (ix3 (0 : Fin 1) (0 : Fin 1) k)) = h at H36 H36' ⊢
  have H37 : ∀ j, k0_pay37 (F := Ideal) i x0 x1 x2 x3 x4 x5 x6 x7 x8 x9 x10 x11 x12 x13 x14 x15 x16 x17 x18 x19 x20 x21 x22 (ix2 r j) = (tile h (fun k n => x20 (ix2 k (⟨0 * 256 + (n : ℕ), by omega⟩ : Fin 2816))) (fun k n => x21 (ix2 k (⟨0 * 256 + (n : ℕ), by omega⟩ : Fin 2816))) (fun n j => x22 (ix2 (⟨0 * 256 + (n : ℕ), by omega⟩ : Fin 2816) j)) j) + (tile h (fun k n => x20 (ix2 k (⟨1 * 256 + (n : ℕ), by omega⟩ : Fin 2816))) (fun k n => x21 (ix2 k (⟨1 * 256 + (n : ℕ), by omega⟩ : Fin 2816))) (fun n j => x22 (ix2 (⟨1 * 256 + (n : ℕ), by omega⟩ : Fin 2816) j)) j) + (tile h (fun k n => x20 (ix2 k (⟨2 * 256 + (n : ℕ), by omega⟩ : Fin 2816))) (fun k n => x21 (ix2 k (⟨2 * 256 + (n : ℕ), by omega⟩ : Fin 2816))) (fun n j => x22 (ix2 (⟨2 * 256 + (n : ℕ), by omega⟩ : Fin 2816) j)) j) + (tile h (fun k n => x20 (ix2 k (⟨3 * 256 + (n : ℕ), by omega⟩ : Fin 2816))) (fun k n => x21 (ix2 k (⟨3 * 256 + (n : ℕ), by omega⟩ : Fin 2816))) (fun n j => x22 (ix2 (⟨3 * 256 + (n : ℕ), by omega⟩ : Fin 2816) j)) j) + (tile h (fun k n => x20 (ix2 k (⟨4 * 256 + (n : ℕ), by omega⟩ : Fin 2816))) (fun k n => x21 (ix2 k (⟨4 * 256 + (n : ℕ), by omega⟩ : Fin 2816))) (fun n j => x22 (ix2 (⟨4 * 256 + (n : ℕ), by omega⟩ : Fin 2816) j)) j) + (tile h (fun k n => x20 (ix2 k (⟨5 * 256 + (n : ℕ), by omega⟩ : Fin 2816))) (fun k n => x21 (ix2 k (⟨5 * 256 + (n : ℕ), by omega⟩ : Fin 2816))) (fun n j => x22 (ix2 (⟨5 * 256 + (n : ℕ), by omega⟩ : Fin 2816) j)) j) + (tile h (fun k n => x20 (ix2 k (⟨6 * 256 + (n : ℕ), by omega⟩ : Fin 2816))) (fun k n => x21 (ix2 k (⟨6 * 256 + (n : ℕ), by omega⟩ : Fin 2816))) (fun n j => x22 (ix2 (⟨6 * 256 + (n : ℕ), by omega⟩ : Fin 2816) j)) j) + (tile h (fun k n => x20 (ix2 k (⟨7 * 256 + (n : ℕ), by omega⟩ : Fin 2816))) (fun k n => x21 (ix2 k (⟨7 * 256 + (n : ℕ), by omega⟩ : Fin 2816))) (fun n j => x22 (ix2 (⟨7 * 256 + (n : ℕ), by omega⟩ : Fin 2816) j)) j) + (tile h (fun k n => x20 (ix2 k (⟨8 * 256 + (n : ℕ), by omega⟩ : Fin 2816))) (fun k n => x21 (ix2 k (⟨8 * 256 + (n : ℕ), by omega⟩ : Fin 2816))) (fun n j => x22 (ix2 (⟨8 * 256 + (n : ℕ), by omega⟩ : Fin 2816) j)) j) := fun j => by
    unfold k0_pay37
    rw [p22 _ _ _ _ _ _ _ _ _ _ _ r h H36 j, p20 _ _ _ _ _ _ _ _ r h H36 j,
      p19 _ _ _ _ _ _ _ _ _ _ _ _ r h H36 (fun n => p18 _ _ _ _ _ _ _ _ r h H36' n) j,
      p17 _ _ _ _ _ _ _ _ _ _ r h H36' j]
    exact congrArg₂ (· + ·) (congrArg₂ (· + ·) (congrArg₂ (· + ·) (congrArg₂ (· + ·) (congrArg₂ (· + ·) (congrArg₂ (· + ·) (congrArg₂ (· + ·) (congrArg₂ (· + ·) ((tile_congr h j (fun k n => ld12 x20 k n) (fun k n => ld12 x21 k n) (fun n j => ld13 x22 n j)))
      (tile_congr h j (fun k n => ld14 x20 k n) (fun k n => ld14 x21 k n) (fun n j => ld15 x22 n j)))
      (tile_congr h j (fun k n => ld16 x20 k n) (fun k n => ld16 x21 k n) (fun n j => ld17 x22 n j)))
      (tile_congr h j (fun k n => ld18 x20 k n) (fun k n => ld18 x21 k n) (fun n j => ld19 x22 n j)))
      (tile_congr h j (fun k n => ld20 x20 k n) (fun k n => ld20 x21 k n) (fun n j => ld21 x22 n j)))
      (tile_congr h j (fun k n => ld22 x20 k n) (fun k n => ld22 x21 k n) (fun n j => ld23 x22 n j)))
      (tile_congr h j (fun k n => ld24 x20 k n) (fun k n => ld24 x21 k n) (fun n j => ld25 x22 n j)))
      (tile_congr h j (fun k n => ld26 x20 k n) (fun k n => ld26 x21 k n) (fun n j => ld27 x22 n j)))
      (tile_congr h j (fun k n => ld28 x20 k n) (fun k n => ld28 x21 k n) (fun n j => ld29 x22 n j))
  have HF : ∀ j, k0_pay25 (F := Ideal) (k0_pay35 (F := Ideal) i x0 x1 x2 x3 x4 x5 x6 x7 x8 x9 x10 x11 x12 x13 x14 x15 x16 x17 x18 x19 x20 x21 x22) (k0_pay36 (F := Ideal) i x0 x1 x2 x3 x4 x5 x6 x7 x8 x9 x10 x11 x12 x13 x14 x15 x16 x17 x18 x19 x20 x21 x22) (k0_pay37 (F := Ideal) i x0 x1 x2 x3 x4 x5 x6 x7 x8 x9 x10 x11 x12 x13 x14 x15 x16 x17 x18 x19 x20 x21 x22) (k0_pay38 (F := Ideal) i x0 x1 x2 x3 x4 x5 x6 x7 x8 x9 x10 x11 x12 x13 x14 x15 x16 x17 x18 x19 x20 x21 x22) (k0_pay39 (F := Ideal) i x0 x1 x2 x3 x4 x5 x6 x7 x8 x9 x10 x11 x12 x13 x14 x15 x16 x17 x18 x19 x20 x21 x22) (View.ld x21 r0_30) (View.ld x22 r0_31) (View.ld x20 r0_32) (View.ld x21 r0_32) (View.ld x22 r0_33) (View.ld x10 r0_10) (ix2 r j)
      = ffn x1v (fun k => x10 (ix3 (0 : Fin 1) (0 : Fin 1) k)) h (fun k n => x20 (ix2 k n)) (fun k n => x21 (ix2 k n)) (fun n j => x22 (ix2 n j)) j := fun j => by
    unfold k0_pay38 k0_pay39
    rw [p25 _ _ _ _ _ _ _ _ _ _ r h H36 j, H35, H37]
    rw [ld10]
    refine (congrArg (fun q => alpha * x1v j + x10 (ix3 (0 : Fin 1) (0 : Fin 1) j) * q)
      (congrArg₂ (· + ·) (congrArg₂ (· + ·) rfl (tile_congr h j (fun k n => ld30 x20 k n) (fun k n => ld30 x21 k n) (fun n j => ld31 x22 n j))) (tile_congr h j (fun k n => ld32 x20 k n) (fun k n => ld32 x21 k n) (fun n j => ld33 x22 n j)))).trans ?_
    exact ffn_tiles x1v (fun k => x10 (ix3 (0 : Fin 1) (0 : Fin 1) k)) h (fun k n => x20 (ix2 k n)) (fun k n => x21 (ix2 k n)) (fun n j => x22 (ix2 n j)) j
      (fun q => if hq : q < 11 then tile h (fun k n => x20 (ix2 k (⟨q * 256 + (n : ℕ), by omega⟩ : Fin 2816))) (fun k n => x21 (ix2 k (⟨q * 256 + (n : ℕ), by omega⟩ : Fin 2816))) (fun n j => x22 (ix2 (⟨q * 256 + (n : ℕ), by omega⟩ : Fin 2816) j)) j else 0)
      (fun q => dif_pos q.isLt)
  unfold out0_23
  rw [View.canon_cons_unit_lit _ _ _ (by decide)]
  rw [p1 _ _ _ _ r _ HF (p28 _ _ _ _ _ _ _ _ _ _ _ r _ HF) j]
  have e26 : ∀ k, k0_pay26 (View.ld x18 r0_11) (ix2 (0 : Fin 1) k) = x18 (ix2 (0 : Fin 1) k) := fun k => by
    rw [ld11]
    pointwise [k0_pay26]
  have e27 : ∀ k, k0_pay27 (View.ld x19 r0_11) (ix2 (0 : Fin 1) k) = x19 (ix2 (0 : Fin 1) k) := fun k => by
    rw [ld11]
    pointwise [k0_pay27]
  simp only [e26, e27]

end Cert.Kernel3Ideal.Row

end
-- ==== Proof.Post.lean ====
module

public import proofs.«01_k».proof.Proof.PostRef
public import proofs.«01_k».proof.Proof.PostKer
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Consts
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Kernel3Ideal.Val

open Cert.Kernel3Ideal Cert.Kernel3Ideal.Gen Cert.Kernel3Ideal.Row Cert.Spec

variable (m : (ℓ : Loc nD τ sig) → Buf (Elt Ideal) ℓ)

open StableHlo in
theorem hv2 (σ : Valuation τ sig (Elt Ideal)) (k : Fin 768) :
    (show FVec Ideal S1x768 .f32 from after hostOps0 σ (Proc.devRef .tc main_v2)) (ix2 (0 : Fin 1) k) = (show FVec Ideal S768 .f32 from σ (Proc.devRef .tc main_arg10)) (ix1 (perm k)) := by
  after_reads_simp
  pointwise []
  rfl
open StableHlo in
theorem hv10 (σ : Valuation τ sig (Elt Ideal)) (k : Fin 768) (j : Fin 1024) :
    (show FVec Ideal S768x1024 .bf16 from after hostOps0 σ (Proc.devRef .tc main_v10)) (ix2 k j) = (show FVec Ideal S1024x1024 .f32 from σ (Proc.devRef .tc main_arg11)) (ix2 (⟨256 + (perm k : ℕ), by omega⟩ : Fin 1024) j) := by
  after_reads_simp
  pointwise []
  rfl
open StableHlo in
theorem hv8 (σ : Valuation τ sig (Elt Ideal)) (k : Fin 256) (j : Fin 1024) :
    (show FVec Ideal S256x1024 .bf16 from after hostOps0 σ (Proc.devRef .tc main_v8)) (ix2 k j) = (show FVec Ideal S1024x1024 .f32 from σ (Proc.devRef .tc main_arg11)) (ix2 (⟨(k : ℕ), by omega⟩ : Fin 1024) j) := by
  after_reads_simp
  pointwise []

open StableHlo in
theorem hv6 (σ : Valuation τ sig (Elt Ideal)) (k : Fin 256) :
    (show FVec Ideal S1x256 .f32 from after hostOps0 σ (Proc.devRef .tc main_v6)) (ix2 (0 : Fin 1) k) = (show FVec Ideal S256 .f32 from σ (Proc.devRef .tc main_arg9)) (ix1 k) := by
  after_reads_simp
  pointwise []

open StableHlo in
theorem hv11 (σ : Valuation τ sig (Elt Ideal)) (k : Fin 1024) :
    (show FVec Ideal S1x1024 .f32 from after hostOps0 σ (Proc.devRef .tc main_v11)) (ix2 (0 : Fin 1) k) = (show FVec Ideal S1024 .f32 from σ (Proc.devRef .tc main_arg12)) (ix1 k) := by
  after_reads_simp
  pointwise []

open StableHlo in
theorem hv12 (σ : Valuation τ sig (Elt Ideal)) (k : Fin 1024) :
    (show FVec Ideal S1x1024 .f32 from after hostOps0 σ (Proc.devRef .tc main_v12)) (ix2 (0 : Fin 1) k) = (show FVec Ideal S1024 .f32 from σ (Proc.devRef .tc main_arg13)) (ix1 k) := by
  after_reads_simp
  pointwise []

open StableHlo in
theorem hv13 (σ : Valuation τ sig (Elt Ideal)) (k : Fin 1024) :
    (show FVec Ideal S1x1024 .f32 from after hostOps0 σ (Proc.devRef .tc main_v13)) (ix2 (0 : Fin 1) k) = (show FVec Ideal S1024 .f32 from σ (Proc.devRef .tc main_arg14)) (ix1 k) := by
  after_reads_simp
  pointwise []

open StableHlo in
theorem hv14 (σ : Valuation τ sig (Elt Ideal)) (k : Fin 1024) :
    (show FVec Ideal S1x1024 .f32 from after hostOps0 σ (Proc.devRef .tc main_v14)) (ix2 (0 : Fin 1) k) = (show FVec Ideal S1024 .f32 from σ (Proc.devRef .tc main_arg15)) (ix1 k) := by
  after_reads_simp
  pointwise []

open StableHlo in
theorem hv15 (σ : Valuation τ sig (Elt Ideal)) (k : Fin 1024) (n : Fin 2816) :
    (show FVec Ideal S1024x2816 .bf16 from after hostOps0 σ (Proc.devRef .tc main_v15)) (ix2 k n) = (show FVec Ideal S1024x2816 .f32 from σ (Proc.devRef .tc main_arg16)) (ix2 k n) := by
  after_reads_simp
  pointwise []

open StableHlo in
theorem hv16 (σ : Valuation τ sig (Elt Ideal)) (k : Fin 1024) (n : Fin 2816) :
    (show FVec Ideal S1024x2816 .bf16 from after hostOps0 σ (Proc.devRef .tc main_v16)) (ix2 k n) = (show FVec Ideal S1024x2816 .f32 from σ (Proc.devRef .tc main_arg17)) (ix2 k n) := by
  after_reads_simp
  pointwise []

open StableHlo in
theorem hv17 (σ : Valuation τ sig (Elt Ideal)) (k : Fin 1024) (n : Fin 2816) :
    (show FVec Ideal S2816x1024 .bf16 from after hostOps0 σ (Proc.devRef .tc main_v17)) (ix2 n k) = (show FVec Ideal S2816x1024 .f32 from σ (Proc.devRef .tc main_arg18)) (ix2 n k) := by
  after_reads_simp
  pointwise []

open StableHlo in
theorem hv18 (σ : Valuation τ sig (Elt Ideal)) (b : Fin 8) (k : Fin 256) :
    (show FVec Ideal S8x1x256 .f32 from after hostOps0 σ (Proc.devRef .tc main_v18)) (ix3 b (0 : Fin 1) k) = 0 := by
  after_reads_simp
  pointwise []

/-- Every window's block index, at all points at once. -/
theorem idx : ∀ t : Fin cfg0.N, win0_0.index t = ![t.val / 4, t.val % 4, 0]
    ∧ win0_1.index t = ![t.val / 4, t.val % 4, 0]
    ∧ win0_2.index t = ![t.val / 4, t.val % 4, 0]
    ∧ win0_3.index t = ![t.val / 4, t.val % 4 * 64 - 1, 0]
    ∧ win0_4.index t = ![t.val / 4, t.val % 4, 0]
    ∧ win0_5.index t = ![t.val / 4, 0, 0]
    ∧ win0_6.index t = ![t.val / 4, 0, 0]
    ∧ win0_7.index t = ![t.val / 4, 0, 0]
    ∧ win0_8.index t = ![t.val / 4, 0, 0]
    ∧ win0_9.index t = ![t.val / 4, 0, 0]
    ∧ win0_10.index t = ![t.val / 4, 0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![t.val / 4, t.val % 4, 0] :=
  (by decide +kernel : ∀ t : Fin grid0.N, _)

theorem coords1 : ∀ t : Fin cfg0.N, (grid0.coords t 1 : ℕ) = t.val % 4 := (by decide +kernel : ∀ t : Fin grid0.N, _)

theorem b0 (c : Dev nD) (t : Fin cfg0.N) (r : Fin 512) (k : Fin 1024) (b : Fin 8) (hb : (b : ℕ) = t.val / 4) (s : Fin 2048) (hs : (s : ℕ) = t.val % 4 * 512 + r) :
    (iblk m c 0 t : FVec Ideal S1x512x1024 .f32) (ix3 (0 : Fin 1) r k) = (V m c main_arg0 : FVec Ideal _ .f32) (ix3 b s k) := by
  blk_point [iblk, idx t, hb, hs]

theorem b1 (c : Dev nD) (t : Fin cfg0.N) (r : Fin 512) (k : Fin 768) (b : Fin 8) (hb : (b : ℕ) = t.val / 4) (s : Fin 2048) (hs : (s : ℕ) = t.val % 4 * 512 + r) :
    (iblk m c 1 t : FVec Ideal S1x512x768 .f32) (ix3 (0 : Fin 1) r k) = (V m c main_arg1 : FVec Ideal _ .f32) (ix3 b s k) := by
  blk_point [iblk, idx t, hb, hs]

theorem b2 (c : Dev nD) (t : Fin cfg0.N) (r : Fin 512) (k : Fin 256) (b : Fin 8) (hb : (b : ℕ) = t.val / 4) (s : Fin 2048) (hs : (s : ℕ) = t.val % 4 * 512 + r) :
    (iblk m c 2 t : FVec Ideal S1x512x256 .f32) (ix3 (0 : Fin 1) r k) = (V m c main_arg2 : FVec Ideal _ .f32) (ix3 b s k) := by
  blk_point [iblk, idx t, hb, hs]

theorem b4 (c : Dev nD) (t : Fin cfg0.N) (r : Fin 512) (k : Fin 256) (b : Fin 8) (hb : (b : ℕ) = t.val / 4) (s : Fin 2048) (hs : (s : ℕ) = t.val % 4 * 512 + r) :
    (iblk m c 4 t : FVec Ideal S1x512x256 .f32) (ix3 (0 : Fin 1) r k) = (V m c main_arg3 : FVec Ideal _ .f32) (ix3 b s k) := by
  blk_point [iblk, idx t, hb, hs]

theorem b3 (c : Dev nD) (t : Fin cfg0.N) (a : Fin 8) (k : Fin 256) (b : Fin 8) (hb : (b : ℕ) = t.val / 4) (s : Fin 2048) (h0 : 0 < t.val % 4) (hs : (s : ℕ) + 8 = t.val % 4 * 512 + a) :
    (iblk m c 3 t : FVec Ideal S1x8x256 .f32) (ix3 (0 : Fin 1) a k) = (V m c main_arg2 : FVec Ideal _ .f32) (ix3 b s k) := by
  blk_point [iblk, idx t, hb, hs]

theorem b5 (c : Dev nD) (t : Fin cfg0.N) (k : Fin 256) (b : Fin 8) (hb : (b : ℕ) = t.val / 4) :
    (iblk m c 5 t : FVec Ideal S1x1x256 .f32) (ix3 (0 : Fin 1) (0 : Fin 1) k) = (V m c main_v18 : FVec Ideal _ .f32) (ix3 b (0 : Fin 1) k) := by
  blk_point [iblk, idx t, hb]

theorem b6 (c : Dev nD) (t : Fin cfg0.N) (k : Fin 256) (b : Fin 8) (hb : (b : ℕ) = t.val / 4) :
    (iblk m c 6 t : FVec Ideal S1x1x256 .f32) (ix3 (0 : Fin 1) (0 : Fin 1) k) = (V m c main_v18 : FVec Ideal _ .f32) (ix3 b (0 : Fin 1) k) := by
  blk_point [iblk, idx t, hb]

theorem b7 (c : Dev nD) (t : Fin cfg0.N) (k : Fin 1024) (b : Fin 8) (hb : (b : ℕ) = t.val / 4) :
    (iblk m c 7 t : FVec Ideal S1x1x1024 .f32) (ix3 (0 : Fin 1) (0 : Fin 1) k) = (V m c main_arg4 : FVec Ideal _ .f32) (ix3 b (0 : Fin 1) k) := by
  blk_point [iblk, idx t, hb]

theorem b8 (c : Dev nD) (t : Fin cfg0.N) (k : Fin 1024) (b : Fin 8) (hb : (b : ℕ) = t.val / 4) :
    (iblk m c 8 t : FVec Ideal S1x1x1024 .f32) (ix3 (0 : Fin 1) (0 : Fin 1) k) = (V m c main_arg5 : FVec Ideal _ .f32) (ix3 b (0 : Fin 1) k) := by
  blk_point [iblk, idx t, hb]

theorem b9 (c : Dev nD) (t : Fin cfg0.N) (k : Fin 1024) (b : Fin 8) (hb : (b : ℕ) = t.val / 4) :
    (iblk m c 9 t : FVec Ideal S1x1x1024 .f32) (ix3 (0 : Fin 1) (0 : Fin 1) k) = (V m c main_arg6 : FVec Ideal _ .f32) (ix3 b (0 : Fin 1) k) := by
  blk_point [iblk, idx t, hb]

theorem b10 (c : Dev nD) (t : Fin cfg0.N) (k : Fin 1024) (b : Fin 8) (hb : (b : ℕ) = t.val / 4) :
    (iblk m c 10 t : FVec Ideal S1x1x1024 .f32) (ix3 (0 : Fin 1) (0 : Fin 1) k) = (V m c main_arg7 : FVec Ideal _ .f32) (ix3 b (0 : Fin 1) k) := by
  blk_point [iblk, idx t, hb]

theorem b11 (c : Dev nD) (t : Fin cfg0.N) (a : Fin 3) (k : Fin 256) :
    (iblk m c 11 t : FVec Ideal S3x256 .f32) (ix2 a k) = (V m c main_arg8 : FVec Ideal _ .f32) (ix2 a k) := by
  blk_point [iblk, idx t]

theorem b12 (c : Dev nD) (t : Fin cfg0.N) (a : Fin 1) (k : Fin 256) :
    (iblk m c 12 t : FVec Ideal S1x256 .f32) (ix2 a k) = (V m c main_v6 : FVec Ideal _ .f32) (ix2 a k) := by
  blk_point [iblk, idx t]

theorem b13 (c : Dev nD) (t : Fin cfg0.N) (a : Fin 1) (k : Fin 768) :
    (iblk m c 13 t : FVec Ideal S1x768 .f32) (ix2 a k) = (V m c main_v2 : FVec Ideal _ .f32) (ix2 a k) := by
  blk_point [iblk, idx t]

theorem b14 (c : Dev nD) (t : Fin cfg0.N) (a : Fin 256) (k : Fin 1024) :
    (iblk m c 14 t : FVec Ideal S256x1024 .bf16) (ix2 a k) = (V m c main_v8 : FVec Ideal _ .bf16) (ix2 a k) := by
  blk_point [iblk, idx t]

theorem b15 (c : Dev nD) (t : Fin cfg0.N) (a : Fin 768) (k : Fin 1024) :
    (iblk m c 15 t : FVec Ideal S768x1024 .bf16) (ix2 a k) = (V m c main_v10 : FVec Ideal _ .bf16) (ix2 a k) := by
  blk_point [iblk, idx t]

theorem b16 (c : Dev nD) (t : Fin cfg0.N) (a : Fin 1) (k : Fin 1024) :
    (iblk m c 16 t : FVec Ideal S1x1024 .f32) (ix2 a k) = (V m c main_v11 : FVec Ideal _ .f32) (ix2 a k) := by
  blk_point [iblk, idx t]

theorem b17 (c : Dev nD) (t : Fin cfg0.N) (a : Fin 1) (k : Fin 1024) :
    (iblk m c 17 t : FVec Ideal S1x1024 .f32) (ix2 a k) = (V m c main_v12 : FVec Ideal _ .f32) (ix2 a k) := by
  blk_point [iblk, idx t]

theorem b18 (c : Dev nD) (t : Fin cfg0.N) (a : Fin 1) (k : Fin 1024) :
    (iblk m c 18 t : FVec Ideal S1x1024 .f32) (ix2 a k) = (V m c main_v13 : FVec Ideal _ .f32) (ix2 a k) := by
  blk_point [iblk, idx t]

theorem b19 (c : Dev nD) (t : Fin cfg0.N) (a : Fin 1) (k : Fin 1024) :
    (iblk m c 19 t : FVec Ideal S1x1024 .f32) (ix2 a k) = (V m c main_v14 : FVec Ideal _ .f32) (ix2 a k) := by
  blk_point [iblk, idx t]

theorem b20 (c : Dev nD) (t : Fin cfg0.N) (a : Fin 1024) (k : Fin 2816) :
    (iblk m c 20 t : FVec Ideal S1024x2816 .bf16) (ix2 a k) = (V m c main_v15 : FVec Ideal _ .bf16) (ix2 a k) := by
  blk_point [iblk, idx t]

theorem b21 (c : Dev nD) (t : Fin cfg0.N) (a : Fin 1024) (k : Fin 2816) :
    (iblk m c 21 t : FVec Ideal S1024x2816 .bf16) (ix2 a k) = (V m c main_v16 : FVec Ideal _ .bf16) (ix2 a k) := by
  blk_point [iblk, idx t]

theorem b22 (c : Dev nD) (t : Fin cfg0.N) (a : Fin 2816) (k : Fin 1024) :
    (iblk m c 22 t : FVec Ideal S2816x1024 .bf16) (ix2 a k) = (V m c main_v17 : FVec Ideal _ .bf16) (ix2 a k) := by
  blk_point [iblk, idx t]

theorem block_congr {x x1 : Fin 1024 → EReal} {g1 g11 : Fin 1024 → EReal} {sc sc1 : Fin 1024 → EReal} {sh sh1 : Fin 1024 → EReal} {g2 g21 : Fin 1024 → EReal} {cv cv1 : Fin 256 → EReal} {gc gc1 : Fin 256 → EReal} {o o1 : Fin 768 → EReal} {gn gn1 : Fin 768 → EReal} {wy wy1 : Fin 256 → Fin 1024 → EReal} {wo wo1 : Fin 768 → Fin 1024 → EReal} {l1g l1g1 : Fin 1024 → EReal} {l1b l1b1 : Fin 1024 → EReal} {l2g l2g1 : Fin 1024 → EReal} {l2b l2b1 : Fin 1024 → EReal} {wg wg1 : Fin 1024 → Fin 2816 → EReal} {wu wu1 : Fin 1024 → Fin 2816 → EReal} {wd wd1 : Fin 2816 → Fin 1024 → EReal}
    (hx : x = x1) (hg1 : g1 = g11) (hsc : sc = sc1) (hsh : sh = sh1) (hg2 : g2 = g21) (hcv : cv = cv1) (hgc : gc = gc1) (ho : o = o1) (hgn : gn = gn1) (hwy : wy = wy1) (hwo : wo = wo1) (hl1g : l1g = l1g1) (hl1b : l1b = l1b1) (hl2g : l2g = l2g1) (hl2b : l2b = l2b1) (hwg : wg = wg1) (hwu : wu = wu1) (hwd : wd = wd1) (j : Fin 1024) :
    block x g1 sc sh g2 cv gc o gn wy wo l1g l1b l2g l2b wg wu wd j = block x1 g11 sc1 sh1 g21 cv1 gc1 o1 gn1 wy1 wo1 l1g1 l1b1 l2g1 l2b1 wg1 wu1 wd1 j := by
  subst hx hg1 hsc hsh hg2 hcv hgc ho hgn hwy hwo hl1g hl1b hl2g hl2b hwg hwu hwd
  rfl

theorem conv_congr {a a1 b b1 c c1 d d1 : Fin 256 → EReal} (p q r : Fin 256 → EReal) (ha : a = a1) (hb : b = b1) (hc : c = c1)
    (hd : d = d1) : conv a b c d p q r = conv a1 b1 c1 d1 p q r := by
  subst ha hb hc hd
  rfl

open Cert.Reference3Ideal.Row in
/-- The two memories hold the same arguments. -/
structure Same (V0 : Valuation Cert.Reference3Ideal.τ Cert.Reference3Ideal.sig (Elt Ideal)) (c : Dev nD) : Prop where
  h0 : aX V0 = (m ((c : Thread nD τ).loc main_arg0) : FVec Ideal S8x2048x1024 .f32)
  h1 : aO V0 = (m ((c : Thread nD τ).loc main_arg1) : FVec Ideal S8x2048x768 .f32)
  h2 : aU V0 = (m ((c : Thread nD τ).loc main_arg2) : FVec Ideal S8x2048x256 .f32)
  h3 : aB V0 = (m ((c : Thread nD τ).loc main_arg3) : FVec Ideal S8x2048x256 .f32)
  h4 : aG1 V0 = (m ((c : Thread nD τ).loc main_arg4) : FVec Ideal S8x1x1024 .f32)
  h5 : aSH V0 = (m ((c : Thread nD τ).loc main_arg5) : FVec Ideal S8x1x1024 .f32)
  h6 : aSC V0 = (m ((c : Thread nD τ).loc main_arg6) : FVec Ideal S8x1x1024 .f32)
  h7 : aG2 V0 = (m ((c : Thread nD τ).loc main_arg7) : FVec Ideal S8x1x1024 .f32)
  h8 : aCW V0 = (m ((c : Thread nD τ).loc main_arg8) : FVec Ideal S3x256 .f32)
  h9 : aGC V0 = (m ((c : Thread nD τ).loc main_arg9) : FVec Ideal S256 .f32)
  h10 : aGN V0 = (m ((c : Thread nD τ).loc main_arg10) : FVec Ideal S768 .f32)
  h11 : aWO V0 = (m ((c : Thread nD τ).loc main_arg11) : FVec Ideal S1024x1024 .f32)
  h12 : aL1G V0 = (m ((c : Thread nD τ).loc main_arg12) : FVec Ideal S1024 .f32)
  h13 : aL1B V0 = (m ((c : Thread nD τ).loc main_arg13) : FVec Ideal S1024 .f32)
  h14 : aL2G V0 = (m ((c : Thread nD τ).loc main_arg14) : FVec Ideal S1024 .f32)
  h15 : aL2B V0 = (m ((c : Thread nD τ).loc main_arg15) : FVec Ideal S1024 .f32)
  h16 : aWG V0 = (m ((c : Thread nD τ).loc main_arg16) : FVec Ideal S1024x2816 .f32)
  h17 : aWU V0 = (m ((c : Thread nD τ).loc main_arg17) : FVec Ideal S1024x2816 .f32)
  h18 : aWD V0 = (m ((c : Thread nD τ).loc main_arg18) : FVec Ideal S2816x1024 .f32)

open Cert.Reference3Ideal.Row in
set_option maxHeartbeats 1600000 in
/-- One element of a block is the reference's element at the block's place. -/
theorem value (V0 : Valuation Cert.Reference3Ideal.τ Cert.Reference3Ideal.sig (Elt Ideal)) (c : Dev nD) (H : Same m V0 c)
    (t : Fin cfg0.N) (b : Fin 8) (hb : (b : ℕ) = t.val / 4) (r : Fin 512) (s : Fin 2048) (hs : (s : ℕ) = t.val % 4 * 512 + r) (j : Fin 1024) :
    out0_23 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 (0 : Fin 1) r j)
      = (Cert.Reference3Ideal.Value.val3 V0 (Proc.devRef .tc Cert.Reference3Ideal.main_v121) : FVec Ideal S8x2048x1024 .f32) (ix3 b s j) := by
  have e0 : (V m c main_arg0 : FVec Ideal S8x2048x1024 .f32) = aX V0 := (V_main_arg0 m c).trans H.h0.symm
  have e1 : (V m c main_arg1 : FVec Ideal S8x2048x768 .f32) = aO V0 := (V_main_arg1 m c).trans H.h1.symm
  have e2 : (V m c main_arg2 : FVec Ideal S8x2048x256 .f32) = aU V0 := (V_main_arg2 m c).trans H.h2.symm
  have e3 : (V m c main_arg3 : FVec Ideal S8x2048x256 .f32) = aB V0 := (V_main_arg3 m c).trans H.h3.symm
  have e4 : (V m c main_arg4 : FVec Ideal S8x1x1024 .f32) = aG1 V0 := (V_main_arg4 m c).trans H.h4.symm
  have e5 : (V m c main_arg5 : FVec Ideal S8x1x1024 .f32) = aSH V0 := (V_main_arg5 m c).trans H.h5.symm
  have e6 : (V m c main_arg6 : FVec Ideal S8x1x1024 .f32) = aSC V0 := (V_main_arg6 m c).trans H.h6.symm
  have e7 : (V m c main_arg7 : FVec Ideal S8x1x1024 .f32) = aG2 V0 := (V_main_arg7 m c).trans H.h7.symm
  have e8 : (V m c main_arg8 : FVec Ideal S3x256 .f32) = aCW V0 := (V_main_arg8 m c).trans H.h8.symm
  refine (row (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) ⟨t.val % 4, by omega⟩ (coords1 t)
    (fun s c => aU V0 (ix3 b s c))
    (fun r s k hs => (b2 m c t r k b hb s hs).trans (congrFun e2 _))
    (fun a s k h0 hs => (b3 m c t a k b hb s h0 hs).trans (congrFun e2 _))
    (fun k => (b5 m c t k b hb).trans (hv18 _ b k)) (fun k => (b6 m c t k b hb).trans (hv18 _ b k)) r s hs j).trans ?_
  refine Eq.trans ?_ ((congrFun (block_perm _ _ _ _ _ _ _ _ _ _ _ _ _ _ _ _ _ _) j).trans (result V0 b s _ (fun _ => rfl) j).symm)
  refine block_congr ?_ ?_ ?_ ?_ ?_ ?_ ?_ ?_ ?_ ?_ ?_ ?_ ?_ ?_ ?_ ?_ ?_ ?_ j
  · funext k; exact (b0 m c t r k b hb s hs).trans (congrFun e0 _)
  · funext k; exact (b7 m c t k b hb).trans (congrFun e4 _)
  · funext k; exact (b9 m c t k b hb).trans (congrFun e6 _)
  · funext k; exact (b8 m c t k b hb).trans (congrFun e5 _)
  · funext k; exact (b10 m c t k b hb).trans (congrFun e7 _)
  · refine conv_congr _ _ _ ?_ ?_ ?_ ?_
    · funext k; exact (b4 m c t r k b hb s hs).trans (congrFun e3 _)
    · funext k; exact (b11 m c t (0 : Fin 3) k).trans (congrFun e8 _)
    · funext k; exact (b11 m c t (1 : Fin 3) k).trans (congrFun e8 _)
    · funext k; exact (b11 m c t (2 : Fin 3) k).trans (congrFun e8 _)
  · funext k; exact (b12 m c t 0 k).trans ((hv6 _ k).trans (congrFun H.h9.symm _))
  · funext k; exact (b1 m c t r k b hb s hs).trans ((congrFun e1 _).trans (v2 V0 b s k).symm)
  · funext k; exact (b13 m c t 0 k).trans ((hv2 _ k).trans (congrFun H.h10.symm _))
  · funext k j; exact (b14 m c t k j).trans ((hv8 _ k j).trans (congrFun H.h11.symm _))
  · funext k j; exact (b15 m c t k j).trans ((hv10 _ k j).trans (congrFun H.h11.symm _))
  · funext k; exact (b16 m c t 0 k).trans ((hv11 _ k).trans (congrFun H.h12.symm _))
  · funext k; exact (b17 m c t 0 k).trans ((hv12 _ k).trans (congrFun H.h13.symm _))
  · funext k; exact (b18 m c t 0 k).trans ((hv13 _ k).trans (congrFun H.h14.symm _))
  · funext k; exact (b19 m c t 0 k).trans ((hv14 _ k).trans (congrFun H.h15.symm _))
  · funext k n; exact (b20 m c t k n).trans ((hv15 _ k n).trans (congrFun H.h16.symm _))
  · funext k n; exact (b21 m c t k n).trans ((hv16 _ k n).trans (congrFun H.h17.symm _))
  · funext n k; exact (b22 m c t n k).trans ((hv17 _ k n).trans (congrFun H.h18.symm _))

/-- The output array, from its blocks' elements. -/
theorem covers23 (c : Dev nD) (T : FVec Ideal S8x2048x1024 .f32)
    (hT : ∀ (t : Fin cfg0.N) (b : Fin 8) (hb : (b : ℕ) = t.val / 4) (r : Fin 512) (s : Fin 2048) (hs : (s : ℕ) = t.val % 4 * 512 + r) (j : Fin 1024),
      out0_23 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 (0 : Fin 1) r j) = T (ix3 b s j)) :
    ((dats m 0 c).arrAt 23 (cfgs 0).N : FVec Ideal S8x2048x1024 .f32) = T := by
  refine (dats m 0 c).arrAt_eq_of_covers 23 _ (by decide +kernel) fun t _ y => ?_
  have ht : t.val < 32 := t.isLt
  blk_simp [idx t]
  rw [after0_23]
  obtain ⟨z, r, j, rfl⟩ : ∃ (z : Fin 1) (r : Fin 512) (j : Fin 1024), y = ix3 z r j := ⟨y 0, y 1, y 2, eq_ix3 y⟩
  obtain rfl : z = 0 := Fin.ext (by omega)
  refine (hT t ⟨t.val / 4, by omega⟩ rfl r ⟨t.val % 4 * 512 + r, by omega⟩ rfl j).trans (congrArg T ?_)
  blk_ext [idx t]

/-- The kernel's result is the reference's. -/
theorem final23 (V0 : Valuation Cert.Reference3Ideal.τ Cert.Reference3Ideal.sig (Elt Ideal)) (c : Dev nD) (H : Same m V0 c) :
    ((dats m 0 c).arrAt 23 (cfgs 0).N : FVec Ideal S8x2048x1024 .f32)
      = (Cert.Reference3Ideal.Value.val3 V0 (Proc.devRef .tc Cert.Reference3Ideal.main_v121) : FVec Ideal S8x2048x1024 .f32) :=
  covers23 m c _ (value m V0 c H)

end Cert.Kernel3Ideal.Val

end
-- ==== Proof.SampleIn.lean ====
module

public import proofs.«01_k».proof.Proof.Gen.Kernel4Ideal.Frame
public import proofs.«01_k».proof.Proof.Gen.Reference4Ideal.Run
public import proofs.«01_k».proof.Proof.Consts
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen

variable (m : (ℓ : Loc nD τ sig) → Buf (Elt Ideal) ℓ)

/-- The reference's projection of the samples' modulated activations, before it is cut into its groups of columns. -/
def Y (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S32x8x2340 .f32 :=
  Host.dotGeneral Cert.Reference4Ideal.dot_S32x8x1024_S1024x2340_S32x8x2340_2_0_01_1_n_n none (addf (mulf X (broadcastInDim Cert.Reference4Ideal.S32x8x1024 ![0, 1, 2] Cert.Reference4Ideal.Gen.bcast_S32x1x1024_S32x8x1024_0_1_2 (addf (broadcastInDim Cert.Reference4Ideal.S32x1x1024 ![] Cert.Reference4Ideal.Gen.bcast_S_S32x1x1024 (constant Cert.Reference4Ideal.S_ .f32 0x3F800000#32)) (broadcastInDim Cert.Reference4Ideal.S32x1x1024 ![0, 2] Cert.Reference4Ideal.Gen.bcast_S32x1024_S32x1x1024_0_2 SC)))) (broadcastInDim Cert.Reference4Ideal.S32x8x1024 ![0, 1, 2] Cert.Reference4Ideal.Gen.bcast_S32x1x1024_S32x8x1024_0_1_2 (broadcastInDim Cert.Reference4Ideal.S32x1x1024 ![0, 2] Cert.Reference4Ideal.Gen.bcast_S32x1024_S32x1x1024_0_2 SH))) W

/-- The reference's result 1: the gated convolution input. -/
def REF0 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .f32 :=
  shapeCast Cert.Reference4Ideal.S1x256x256 (mulf (extractStridedSlice Cert.Reference4Ideal.S32x8x256 ![0, 0, 512] (Y X SH SC W) Cert.Reference4Ideal.Gen.slices_S32x8x2340_S32x8x256_0_0_512) (extractStridedSlice Cert.Reference4Ideal.S32x8x256 ![0, 0, 0] (Y X SH SC W) Cert.Reference4Ideal.Gen.slices_S32x8x2340_S32x8x256_0_0_0)) Cert.Reference4Ideal.Gen.shapeCasts_S32x8x256_S1x256x256

/-- The reference's result 2: the second gate. -/
def REF1 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .f32 :=
  shapeCast Cert.Reference4Ideal.S1x256x256 (extractStridedSlice Cert.Reference4Ideal.S32x8x256 ![0, 0, 256] (Y X SH SC W) Cert.Reference4Ideal.Gen.slices_S32x8x2340_S32x8x256_0_0_256) Cert.Reference4Ideal.Gen.shapeCasts_S32x8x256_S1x256x256

/-- The reference's result 3: the scaled queries, each laid beside zeros. -/
def REF2 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x1536 .f32 :=
  shapeCast Cert.Reference4Ideal.S1x256x1536 (shapeCast Cert.Reference4Ideal.S32x8x1536 (mulf (broadcastInDim Cert.Reference4Ideal.S32x8x2x6x2x64 ![0, 1, 2, 3, 4, 5] Cert.Reference4Ideal.Gen.bcast_S32x8x2x6x1x64_S32x8x2x6x2x64_0_1_2_3_4_5 (broadcastInDim Cert.Reference4Ideal.S32x8x2x6x1x64 ![0, 1, 2, 3, 5] Cert.Reference4Ideal.Gen.bcast_S32x8x2x6x64_S32x8x2x6x1x64_0_1_2_3_5 (mulf (shapeCast Cert.Reference4Ideal.S32x8x2x6x64 (extractStridedSlice Cert.Reference4Ideal.S32x8x768 ![0, 0, 768] (Y X SH SC W) Cert.Reference4Ideal.Gen.slices_S32x8x2340_S32x8x768_0_0_768) Cert.Reference4Ideal.Gen.shapeCasts_S32x8x768_S32x8x2x6x64) (broadcastInDim Cert.Reference4Ideal.S32x8x2x6x64 ![] Cert.Reference4Ideal.Gen.bcast_S_S32x8x2x6x64 (constant Cert.Reference4Ideal.S_ .f32 0x3E000000#32))))) (broadcastInDim Cert.Reference4Ideal.S32x8x2x6x2x64 ![0, 1, 2, 3, 4, 5] Cert.Reference4Ideal.Gen.bcast_S1x1x2x1x2x1_S32x8x2x6x2x64_0_1_2_3_4_5 (broadcastInDim Cert.Reference4Ideal.S1x1x2x1x2x1 ![2, 4] Cert.Reference4Ideal.Gen.bcast_S2x2_S1x1x2x1x2x1_2_4 (uitofp .f32 (cmpi .eq (addi (iotaInDim Cert.Reference4Ideal.S2x2 32 0) (broadcastInDim Cert.Reference4Ideal.S2x2 ![] Cert.Reference4Ideal.Gen.bcast_S_S2x2 (constantI Cert.Reference4Ideal.S_ 32 0#32))) (iotaInDim Cert.Reference4Ideal.S2x2 32 1)))))) Cert.Reference4Ideal.Gen.shapeCasts_S32x8x2x6x2x64_S32x8x1536) Cert.Reference4Ideal.Gen.shapeCasts_S32x8x1536_S1x256x1536

/-- The reference's result 4: the keys and values to be compressed. -/
def REF3 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .f32 :=
  shapeCast Cert.Reference4Ideal.S1x256x256 (extractStridedSlice Cert.Reference4Ideal.S32x8x256 ![0, 0, 1536] (Y X SH SC W) Cert.Reference4Ideal.Gen.slices_S32x8x2340_S32x8x256_0_0_1536) Cert.Reference4Ideal.Gen.shapeCasts_S32x8x256_S1x256x256

/-- The reference's result 5: the keys and values to be selected. -/
def REF4 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .f32 :=
  shapeCast Cert.Reference4Ideal.S1x256x256 (extractStridedSlice Cert.Reference4Ideal.S32x8x256 ![0, 0, 1792] (Y X SH SC W) Cert.Reference4Ideal.Gen.slices_S32x8x2340_S32x8x256_0_0_1792) Cert.Reference4Ideal.Gen.shapeCasts_S32x8x256_S1x256x256

/-- The reference's result 6: the keys and values of the window. -/
def REF5 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .f32 :=
  shapeCast Cert.Reference4Ideal.S1x256x256 (extractStridedSlice Cert.Reference4Ideal.S32x8x256 ![0, 0, 2048] (Y X SH SC W) Cert.Reference4Ideal.Gen.slices_S32x8x2340_S32x8x256_0_0_2048) Cert.Reference4Ideal.Gen.shapeCasts_S32x8x256_S1x256x256

/-- The reference's result 7: the keys and values to be selected, in the narrow type. -/
def REF6 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .bf16 :=
  shapeCast Cert.Reference4Ideal.S1x256x256 (truncf .bf16 (extractStridedSlice Cert.Reference4Ideal.S32x8x256 ![0, 0, 1792] (Y X SH SC W) Cert.Reference4Ideal.Gen.slices_S32x8x2340_S32x8x256_0_0_1792) Cert.Reference4Ideal.Gen.bitsLt_bf16_f32) Cert.Reference4Ideal.Gen.shapeCasts_S32x8x256_S1x256x256

/-- The reference's result 8: the keys and values of the window, in the narrow type. -/
def REF7 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x256 .bf16 :=
  shapeCast Cert.Reference4Ideal.S1x256x256 (truncf .bf16 (extractStridedSlice Cert.Reference4Ideal.S32x8x256 ![0, 0, 2048] (Y X SH SC W) Cert.Reference4Ideal.Gen.slices_S32x8x2340_S32x8x256_0_0_2048) Cert.Reference4Ideal.Gen.bitsLt_bf16_f32) Cert.Reference4Ideal.Gen.shapeCasts_S32x8x256_S1x256x256

/-- The reference's result 9: the three branch gates, padded to a full row of lanes. -/
def REF8 (X : FVec Ideal Cert.Reference4Ideal.S32x8x1024 .f32) (SH SC : FVec Ideal Cert.Reference4Ideal.S32x1024 .f32) (W : FVec Ideal Cert.Reference4Ideal.S1024x2340 .f32) : FVec Ideal Cert.Reference4Ideal.S1x256x128 .f32 :=
  shapeCast Cert.Reference4Ideal.S1x256x128 (Host.divf (broadcastInDim Cert.Reference4Ideal.S32x8x128 ![] Cert.Reference4Ideal.Gen.bcast_S_S32x8x128 (constant Cert.Reference4Ideal.S_ .f32 0x3F800000#32)) (addf (broadcastInDim Cert.Reference4Ideal.S32x8x128 ![] Cert.Reference4Ideal.Gen.bcast_S_S32x8x128 (constant Cert.Reference4Ideal.S_ .f32 0x3F800000#32)) (Host.exp (Host.negf (pad Cert.Reference4Ideal.S32x8x128 ![0, 0, 0] ![0, 0, 92] ![0, 0, 0] (extractStridedSlice Cert.Reference4Ideal.S32x8x36 ![0, 0, 2304] (Y X SH SC W) Cert.Reference4Ideal.Gen.slices_S32x8x2340_S32x8x36_0_0_2304) (sitofp .f32 (constantI Cert.Reference4Ideal.S_ 32 0#32)) Cert.Reference4Ideal.Gen.pads_S32x8x36_S32x8x128_000_000_0920 Cert.Reference4Ideal.Gen.h_S_))))) Cert.Reference4Ideal.Gen.shapeCasts_S32x8x128_S1x256x128

/-- The grid has one point: every window's block is the first. -/
theorem idx : ∀ t : Fin cfg0.N, win0_0.index t = ![0, 0, 0]
    ∧ win0_1.index t = ![0, 0, 0]
    ∧ win0_2.index t = ![0, 0, 0]
    ∧ win0_3.index t = ![0, 0]
    ∧ win0_4.index t = ![0, 0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0, 0]
    ∧ win0_12.index t = ![0, 0, 0] :=
  (by decide +kernel : ∀ t : Fin grid0.N, _)

/-- The columns of the scaled queries, each head's beside zeros for the other group. -/
def WQ (W : FVec Ideal S1024x2340 .f32) : FVec Ideal S1024x1536 .f32 :=
  shapeCast S1024x1536
    (mulf (broadcastInDim S1024x2x6x2x64 ![0, 1, 2, 3, 4] bcast_S1024x2x6x1x64_S1024x2x6x2x64_0_1_2_3_4
        (broadcastInDim S1024x2x6x1x64 ![0, 1, 2, 4] bcast_S1024x2x6x64_S1024x2x6x1x64_0_1_2_4
          (mulf (shapeCast S1024x2x6x64 (extractStridedSlice S1024x768 ![0, 768] W slices_S1024x2340_S1024x768_0_768)
              shapeCasts_S1024x768_S1024x2x6x64)
            (broadcastInDim S1024x2x6x64 ![] bcast_S_S1024x2x6x64 (constant S_ .f32 0x3E000000#32)))))
      (broadcastInDim S1024x2x6x2x64 ![0, 1, 2, 3, 4] bcast_S1x2x1x2x1_S1024x2x6x2x64_0_1_2_3_4
        (broadcastInDim S1x2x1x2x1 ![1, 3] bcast_S2x2_S1x2x1x2x1_1_3
          (uitofp .f32 (cmpi .eq (addi (iotaInDim S2x2 32 0) (broadcastInDim S2x2 ![] bcast_S_S2x2 (constantI S_ 32 0#32)))
            (iotaInDim S2x2 32 1))))))
    shapeCasts_S1024x2x6x2x64_S1024x1536

/-- The columns of the branch gates, padded to a full row of lanes. -/
def WG (W : FVec Ideal S1024x2340 .f32) : FVec Ideal S1024x128 .f32 :=
  pad S1024x128 ![0, 0] ![0, 92] ![0, 0] (extractStridedSlice S1024x36 ![0, 2304] W slices_S1024x2340_S1024x36_0_2304)
    (sitofp .f32 (constantI S_ 32 0#32)) pads_S1024x36_S1024x128_000_0920 h_S_

/-- Eight groups of columns side by side. -/
def CAT (A0 : FVec Ideal S1024x256 .f32) (A1 : FVec Ideal S1024x256 .f32) (A2 : FVec Ideal S1024x256 .f32) (A3 : FVec Ideal S1024x1536 .f32) (A4 : FVec Ideal S1024x256 .f32) (A5 : FVec Ideal S1024x256 .f32) (A6 : FVec Ideal S1024x256 .f32) (A7 : FVec Ideal S1024x128 .f32) : FVec Ideal S1024x3200 .bf16 :=
  truncf .bf16 (concatenate S1024x3200 1 [⟨S1024x256, A0⟩, ⟨S1024x256, A1⟩, ⟨S1024x256, A2⟩, ⟨S1024x1536, A3⟩, ⟨S1024x256, A4⟩, ⟨S1024x256, A5⟩, ⟨S1024x256, A6⟩, ⟨S1024x128, A7⟩] concatenates_S1024x256_S1024x256_S1024x256_S1024x1536_S1024x256_S1024x256_S1024x256_S1024x128_S1024x3200_d1) bitsLt_bf16_f32

/-- The weight matrix as the kernel reads it. -/
def WCAT (W : FVec Ideal S1024x2340 .f32) : FVec Ideal S1024x3200 .bf16 :=
  CAT (extractStridedSlice S1024x256 ![0, 0] W slices_S1024x2340_S1024x256_0_0) (extractStridedSlice S1024x256 ![0, 256] W slices_S1024x2340_S1024x256_0_256) (extractStridedSlice S1024x256 ![0, 512] W slices_S1024x2340_S1024x256_0_512) (WQ W) (extractStridedSlice S1024x256 ![0, 1536] W slices_S1024x2340_S1024x256_0_1536) (extractStridedSlice S1024x256 ![0, 1792] W slices_S1024x2340_S1024x256_0_1792) (extractStridedSlice S1024x256 ![0, 2048] W slices_S1024x2340_S1024x256_0_2048) (WG W)

open StableHlo in
theorem seg2 (σ : Valuation τ sig (Elt Ideal)) : (show FVec Ideal S1024x3200 .bf16 from after hostOps0_2 σ (Proc.devRef .tc main_v32))
    = CAT (σ (Proc.devRef .tc main_v7)) (σ (Proc.devRef .tc main_v8)) (σ (Proc.devRef .tc main_v9)) (σ (Proc.devRef .tc main_v29)) (σ (Proc.devRef .tc main_v11)) (σ (Proc.devRef .tc main_v12)) (σ (Proc.devRef .tc main_v13)) (σ (Proc.devRef .tc main_v30)) := by
  after_reads_simp
  rfl

open StableHlo in
theorem seg1 (σ : Valuation τ sig (Elt Ideal)) : (show FVec Ideal S1024x128 .f32 from after hostOps0_1 σ (Proc.devRef .tc main_v30))
    = pad S1024x128 ![0, 0] ![0, 92] ![0, 0] (show FVec Ideal S1024x36 .f32 from σ (Proc.devRef .tc main_v14))
    (sitofp .f32 (show IVec S_ 32 from σ (Proc.devRef .tc main_c_0))) pads_S1024x36_S1024x128_000_0920 h_S_ := by
  after_reads_simp
  simp only [TRef.toBuf, TRef.ofBuf, cast_eq]

open StableHlo in
theorem seg0 (σ : Valuation τ sig (Elt Ideal)) : (show FVec Ideal S1024x1536 .f32 from after hostOps0_1 (after hostOps0 σ) (Proc.devRef .tc main_v29)) = WQ (σ (Proc.devRef .tc main_arg3)) := by
  after_reads_simp
  rfl

open StableHlo in
theorem seg0_v0 (σ : Valuation τ sig (Elt Ideal)) : (show FVec Ideal S1024x256 .f32 from after hostOps0_1 (after hostOps0 σ) (Proc.devRef .tc main_v7)) = extractStridedSlice S1024x256 ![0, 0] (σ (Proc.devRef .tc main_arg3) : FVec Ideal S1024x2340 .f32) slices_S1024x2340_S1024x256_0_0 := by
  after_reads_simp

open StableHlo in
theorem seg0_v1 (σ : Valuation τ sig (Elt Ideal)) : (show FVec Ideal S1024x256 .f32 from after hostOps0_1 (after hostOps0 σ) (Proc.devRef .tc main_v8)) = extractStridedSlice S1024x256 ![0, 256] (σ (Proc.devRef .tc main_arg3) : FVec Ideal S1024x2340 .f32) slices_S1024x2340_S1024x256_0_256 := by
  after_reads_simp

open StableHlo in
theorem seg0_v2 (σ : Valuation τ sig (Elt Ideal)) : (show FVec Ideal S1024x256 .f32 from after hostOps0_1 (after hostOps0 σ) (Proc.devRef .tc main_v9)) = extractStridedSlice S1024x256 ![0, 512] (σ (Proc.devRef .tc main_arg3) : FVec Ideal S1024x2340 .f32) slices_S1024x2340_S1024x256_0_512 := by
  after_reads_simp

open StableHlo in
theorem seg0_v4 (σ : Valuation τ sig (Elt Ideal)) : (show FVec Ideal S1024x256 .f32 from after hostOps0_1 (after hostOps0 σ) (Proc.devRef .tc main_v11)) = extractStridedSlice S1024x256 ![0, 1536] (σ (Proc.devRef .tc main_arg3) : FVec Ideal S1024x2340 .f32) slices_S1024x2340_S1024x256_0_1536 := by
  after_reads_simp

open StableHlo in
theorem seg0_v5 (σ : Valuation τ sig (Elt Ideal)) : (show FVec Ideal S1024x256 .f32 from after hostOps0_1 (after hostOps0 σ) (Proc.devRef .tc main_v12)) = extractStridedSlice S1024x256 ![0, 1792] (σ (Proc.devRef .tc main_arg3) : FVec Ideal S1024x2340 .f32) slices_S1024x2340_S1024x256_0_1792 := by
  after_reads_simp

open StableHlo in
theorem seg0_v6 (σ : Valuation τ sig (Elt Ideal)) : (show FVec Ideal S1024x256 .f32 from after hostOps0_1 (after hostOps0 σ) (Proc.devRef .tc main_v13)) = extractStridedSlice S1024x256 ![0, 2048] (σ (Proc.devRef .tc main_arg3) : FVec Ideal S1024x2340 .f32) slices_S1024x2340_S1024x256_0_2048 := by
  after_reads_simp

open StableHlo in
theorem seg0_v23 (σ : Valuation τ sig (Elt Ideal)) : (show FVec Ideal S1024x128 .f32 from after hostOps0_1 (after hostOps0 σ) (Proc.devRef .tc main_v30)) = WG (σ (Proc.devRef .tc main_arg3)) := by
  refine (seg1 _).trans ?_
  after_reads_simp
  rfl

/-- What the host operations leave in the kernel's weight operand. -/
theorem wcat (c : Dev nD) : (V m c main_v32 : FVec Ideal S1024x3200 .bf16) = WCAT (m ((c : Thread nD τ).loc main_arg3)) := by
  show StableHlo.after (hostOps0 ++ (hostOps0_1 ++ (hostOps0_2 ++ []))) (fun b => m (c, b)) main_v32 = _
  rw [List.append_nil, StableHlo.after_append, StableHlo.after_append]
  refine (seg2 _).trans ?_
  unfold WCAT
  exact congr (congr (congr (congr (congr (congr (congr (congrArg CAT (seg0_v0 _)) (seg0_v1 _)) (seg0_v2 _)) (seg0 _)) (seg0_v4 _)) (seg0_v5 _)) (seg0_v6 _)) (seg0_v23 _)

/-- The weight window's block is the whole matrix. -/
theorem iblk3 (c : Dev nD) (t : Fin cfg0.N) : (iblk m c 3 t : FVec Ideal S1024x3200 .bf16) = WCAT (m ((c : Thread nD τ).loc main_arg3)) := by
  rw [← wcat m c]
  funext i
  blk_ext [iblk, idx t]

/-- The samples' rows one after another. -/
def XR (X : FVec Ideal S32x8x1024 .f32) : FVec Ideal S1x256x1024 .f32 :=
  shapeCast S1x256x1024 X shapeCasts_S32x8x1024_S1x256x1024

/-- A modulation row for each row of its sample. -/
def MR (M : FVec Ideal S32x1024 .f32) : FVec Ideal S1x256x1024 .f32 :=
  broadcastInDim S1x256x1024 ![1, 2] bcast_S256x1024_S1x256x1024_1_2
    (shapeCast S256x1024 (broadcastInDim S32x8x1024 ![0, 2] bcast_S32x1024_S32x8x1024_0_2 M) shapeCasts_S32x8x1024_S256x1024)

open StableHlo in
theorem hx (c : Dev nD) : (V m c main_v6 : FVec Ideal S1x256x1024 .f32) = XR (m ((c : Thread nD τ).loc main_arg0)) := by
  show StableHlo.after (hostOps0 ++ (hostOps0_1 ++ (hostOps0_2 ++ []))) (fun b => m (c, b)) main_v6 = _
  rw [List.append_nil, StableHlo.after_append, StableHlo.after_append]
  after_reads_simp
  rfl

open StableHlo in
theorem hsc (c : Dev nD) : (V m c main_v5 : FVec Ideal S1x256x1024 .f32) = MR (m ((c : Thread nD τ).loc main_arg2)) := by
  show StableHlo.after (hostOps0 ++ (hostOps0_1 ++ (hostOps0_2 ++ []))) (fun b => m (c, b)) main_v5 = _
  rw [List.append_nil, StableHlo.after_append, StableHlo.after_append]
  after_reads_simp
  rfl

open StableHlo in
theorem hsh (c : Dev nD) : (V m c main_v2 : FVec Ideal S1x256x1024 .f32) = MR (m ((c : Thread nD τ).loc main_arg1)) := by
  show StableHlo.after (hostOps0 ++ (hostOps0_1 ++ (hostOps0_2 ++ []))) (fun b => m (c, b)) main_v2 = _
  rw [List.append_nil, StableHlo.after_append, StableHlo.after_append]
  after_reads_simp
  rfl

theorem iblk0 (c : Dev nD) (t : Fin cfg0.N) : (iblk m c 0 t : FVec Ideal S1x256x1024 .f32) = XR (m ((c : Thread nD τ).loc main_arg0)) := by
  rw [← hx m c]
  funext i
  blk_ext [iblk, idx t]

theorem iblk1 (c : Dev nD) (t : Fin cfg0.N) : (iblk m c 1 t : FVec Ideal S1x256x1024 .f32) = MR (m ((c : Thread nD τ).loc main_arg2)) := by
  rw [← hsc m c]
  funext i
  blk_ext [iblk, idx t]

theorem iblk2 (c : Dev nD) (t : Fin cfg0.N) : (iblk m c 2 t : FVec Ideal S1x256x1024 .f32) = MR (m ((c : Thread nD τ).loc main_arg1)) := by
  rw [← hsh m c]
  funext i
  blk_ext [iblk, idx t]

/-- Columns of the first gate. -/
theorem wcat_u (W : FVec Ideal S1024x2340 .f32) (k : Fin 1024) (j : Fin 256) (h : (j : ℕ) < 3200) :
    WCAT W (ix2 k ⟨(j : ℕ), h⟩) = W (ix2 k ⟨(j : ℕ), by omega⟩) := by
  pointwise [WCAT, CAT]

/-- Columns of the second gate. -/
theorem wcat_gb (W : FVec Ideal S1024x2340 .f32) (k : Fin 1024) (j : Fin 256) (h : 256 + (j : ℕ) < 3200) :
    WCAT W (ix2 k ⟨256 + (j : ℕ), h⟩) = W (ix2 k ⟨256 + (j : ℕ), by omega⟩) := by
  pointwise [WCAT, CAT]

/-- Columns of the convolution input. -/
theorem wcat_c (W : FVec Ideal S1024x2340 .f32) (k : Fin 1024) (j : Fin 256) (h : 512 + (j : ℕ) < 3200) :
    WCAT W (ix2 k ⟨512 + (j : ℕ), h⟩) = W (ix2 k ⟨512 + (j : ℕ), by omega⟩) := by
  pointwise [WCAT, CAT]
  simp (disch := omega) only [dif_neg, dif_pos]
  all_goals (refine congrArg (fun q => W (ix2 k q)) (Fin.ext ?_); dsimp only; omega)

/-- Columns of the compressed keys and values. -/
theorem wcat_kvc (W : FVec Ideal S1024x2340 .f32) (k : Fin 1024) (j : Fin 256) (h : 2304 + (j : ℕ) < 3200) :
    WCAT W (ix2 k ⟨2304 + (j : ℕ), h⟩) = W (ix2 k ⟨1536 + (j : ℕ), by omega⟩) := by
  pointwise [WCAT, CAT]
  simp (disch := omega) only [dif_neg, dif_pos]
  all_goals (refine congrArg (fun q => W (ix2 k q)) (Fin.ext ?_); dsimp only; omega)

/-- Columns of the selected keys and values. -/
theorem wcat_kvs (W : FVec Ideal S1024x2340 .f32) (k : Fin 1024) (j : Fin 256) (h : 2560 + (j : ℕ) < 3200) :
    WCAT W (ix2 k ⟨2560 + (j : ℕ), h⟩) = W (ix2 k ⟨1792 + (j : ℕ), by omega⟩) := by
  pointwise [WCAT, CAT]
  simp (disch := omega) only [dif_neg, dif_pos]
  all_goals (refine congrArg (fun q => W (ix2 k q)) (Fin.ext ?_); dsimp only; omega)

/-- Columns of the keys and values of the window. -/
theorem wcat_kvw (W : FVec Ideal S1024x2340 .f32) (k : Fin 1024) (j : Fin 256) (h : 2816 + (j : ℕ) < 3200) :
    WCAT W (ix2 k ⟨2816 + (j : ℕ), h⟩) = W (ix2 k ⟨2048 + (j : ℕ), by omega⟩) := by
  pointwise [WCAT, CAT]
  simp (disch := omega) only [dif_neg, dif_pos]
  all_goals (refine congrArg (fun q => W (ix2 k q)) (Fin.ext ?_); dsimp only; omega)

/-- Columns of the queries. -/
theorem wcat_qz (W : FVec Ideal S1024x2340 .f32) (k : Fin 1024) (j : Fin 1536) (h : 768 + (j : ℕ) < 3200) :
    WCAT W (ix2 k ⟨768 + (j : ℕ), h⟩) = WQ W (ix2 k j) := by
  pointwise [WCAT, CAT]
  simp (disch := omega) only [dif_neg, dif_pos]
  all_goals (refine congrArg (fun q => WQ W (ix2 k q)) (Fin.ext ?_); dsimp only; omega)

/-- Columns of the branch gates. -/
theorem wcat_g (W : FVec Ideal S1024x2340 .f32) (k : Fin 1024) (j : Fin 128) (h : 3072 + (j : ℕ) < 3200) :
    WCAT W (ix2 k ⟨3072 + (j : ℕ), h⟩) = WG W (ix2 k j) := by
  pointwise [WCAT, CAT]
  simp (disch := omega) only [dif_neg, dif_pos]
  all_goals (refine congrArg (fun q => WG W (ix2 k q)) (Fin.ext ?_); dsimp only; omega)

/-- A column of a branch gate, or zeros. -/
theorem wg_at (W : FVec Ideal S1024x2340 .f32) (k : Fin 1024) (j : Fin 128) :
    WG W (ix2 k j) = if h : (j : ℕ) < 36 then W (ix2 k ⟨2304 + (j : ℕ), by omega⟩) else 0 := by
  pointwise [WG, Cert.Consts.sitofp_zero]

/-- A column of a query, or zeros. -/
theorem wq_at (W : FVec Ideal S1024x2340 .f32) (k : Fin 1024) (j : Fin 1536) :
    WQ W (ix2 k j) = W (ix2 k ⟨768 + ((j : ℕ) / 768 * 384 + (j : ℕ) / 128 % 6 * 64 + (j : ℕ) % 64), by omega⟩) * Ideal.ofBits .f32 1040187392#32 *
      FloatOps.uitofp (F := Ideal) FTy.f32
        (IntOp.cmpi CmpIPredicate.eq (IntOp.addi (BitVec.ofNat 32 ((j : ℕ) / 768)) 0#32) (BitVec.ofNat 32 ((j : ℕ) / 64 % 2))) := by
  pointwise [WQ]

end Cert.Kernel4Ideal.Val

end
-- ==== Proof.SampleInA.lean ====
module

public import proofs.«01_k».proof.Proof.SampleIn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen

variable (m : (ℓ : Loc nD τ sig) → Buf (Elt Ideal) ℓ)

set_option maxHeartbeats 1600000 in
/-- The array of result 1 after the run. -/
theorem final4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, iblk3, iblk0, iblk1, iblk2]; frame_out
  pointwise [k0_pay5, k0_pay3, XR, MR, wcat_u, wcat_c, REF0, Y]
  blk_point [idx t]

set_option maxHeartbeats 1600000 in
/-- The array of result 2 after the run. -/
theorem final5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, iblk3, iblk0, iblk1, iblk2]; frame_out
  pointwise [k0_pay4, k0_pay3, XR, MR, wcat_gb, REF1, Y]
  blk_point [idx t]

end Cert.Kernel4Ideal.Val

end
-- ==== Proof.SampleInB.lean ====
module

public import proofs.«01_k».proof.Proof.SampleIn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen

variable (m : (ℓ : Loc nD τ sig) → Buf (Elt Ideal) ℓ)

set_option maxHeartbeats 1600000 in
/-- The array of result 4 after the run. -/
theorem final7 (c : Dev nD) : (dats m 0 c).arrAt 7 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, iblk3, iblk0, iblk1, iblk2]; frame_out
  pointwise [k0_pay8, k0_pay15, k0_pay3, XR, MR, wcat_kvc, REF3, Y]
  blk_point [idx t]

set_option maxHeartbeats 1600000 in
/-- The array of result 5 after the run. -/
theorem final8 (c : Dev nD) : (dats m 0 c).arrAt 8 (cfgs 0).N = REF4 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8, iblk3, iblk0, iblk1, iblk2]; frame_out
  pointwise [k0_pay10, k0_pay9, k0_pay15, k0_pay3, XR, MR, wcat_kvs, REF4, Y]
  blk_point [idx t]

set_option maxHeartbeats 1600000 in
/-- The array of result 6 after the run. -/
theorem final9 (c : Dev nD) : (dats m 0 c).arrAt 9 (cfgs 0).N = REF5 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9, iblk3, iblk0, iblk1, iblk2]; frame_out
  pointwise [k0_pay13, k0_pay12, k0_pay15, k0_pay3, XR, MR, wcat_kvw, REF5, Y]
  blk_point [idx t]

end Cert.Kernel4Ideal.Val

end
-- ==== Proof.SampleInC.lean ====
module

public import proofs.«01_k».proof.Proof.SampleIn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen

variable (m : (ℓ : Loc nD τ sig) → Buf (Elt Ideal) ℓ)

set_option maxHeartbeats 1600000 in
/-- The array of result 7 after the run. -/
theorem final10 (c : Dev nD) : (dats m 0 c).arrAt 10 (cfgs 0).N = REF6 (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10, iblk3, iblk0, iblk1, iblk2]; frame_out
  pointwise [k0_pay11, k0_pay9, k0_pay15, k0_pay3, XR, MR, wcat_kvs, REF6, Y]
  blk_point [idx t]

set_option maxHeartbeats 1600000 in
/-- The array of result 8 after the run. -/
theorem final11 (c : Dev nD) : (dats m 0 c).arrAt 11 (cfgs 0).N = REF7 (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11, iblk3, iblk0, iblk1, iblk2]; frame_out
  pointwise [k0_pay1, k0_pay14, k0_pay12, k0_pay15, k0_pay3, XR, MR, wcat_kvw, REF7, Y]
  blk_point [idx t]

end Cert.Kernel4Ideal.Val

end
-- ==== Proof.SampleInD.lean ====
module

public import proofs.«01_k».proof.Proof.SampleIn
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Val

open Cert.Kernel4Ideal Cert.Kernel4Ideal.Gen

variable (m : (ℓ : Loc nD τ sig) → Buf (Elt Ideal) ℓ)

set_option maxHeartbeats 1600000 in
/-- The array of result 3 after the run. -/
theorem final6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6, iblk3, iblk0, iblk1, iblk2]; frame_out
  pointwise [k0_pay7, k0_pay6, k0_pay15, k0_pay3, XR, MR, wcat_qz, wq_at, Cert.Consts.proj_scaled, REF2, Y]
  refine congrArg₂ (· * ·) (congrArg (· * _) ?_) ?_
  · blk_point [idx t]
  · blk_simp [idx t]

set_option maxHeartbeats 1600000 in
/-- The array of result 9 after the run. -/
theorem final12 (c : Dev nD) : (dats m 0 c).arrAt 12 (cfgs 0).N = REF8 (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12, iblk3, iblk0, iblk1, iblk2]; frame_out
  pointwise [k0_pay2, k0_pay15, k0_pay3, XR, MR, wcat_g, wg_at, REF8, Y]
  have e : ((((cfg0.win 12).blk t).view.emb y 2 : Fin 128) : ℕ) = (y 2 : Fin 128) := by blk_simp [idx t]
  have e1 : ((((cfg0.win 12).blk t).view.emb y 1 : Fin 256) : ℕ) = (y 1 : Fin 256) := by blk_simp [idx t]
  have l1 : ((y 1 : Fin 256) : ℕ) < 256 := (y 1 : Fin 256).isLt
  have hA : ((((cfg0.win 12).blk t).view.emb y 1 : Fin 256) : ℕ) / 8 < 32 := by omega
  have hB : ((((cfg0.win 12).blk t).view.emb y 1 : Fin 256) : ℕ) % 8 < 8 := by omega
  refine congrArg (fun q => Ideal.div 1 (1 + Ideal.exp (-q))) ?_
  by_cases h : ((y 2 : Fin 128) : ℕ) < 36
  · have hC : ((((cfg0.win 12).blk t).view.emb y 2 : Fin 128) : ℕ) < 36 := by omega
    simp only [dif_pos h]
    split
    · blk_point [idx t]
    · next hn => exact absurd ⟨hA, hB, hC⟩ hn
  · have hC : ¬ ((((cfg0.win 12).blk t).view.emb y 2 : Fin 128) : ℕ) < 36 := by omega
    simp only [dif_neg h]
    split
    · next hn => exact absurd hn.2.2 hC
    · rw [Cert.Consts.sitofp_zero]
      exact Cert.Consts.sum_mul_zero _ _

end Cert.Kernel4Ideal.Val

end
-- ==== Proof.SampleBitsFrame.lean ====
/- The frame of the samples' last block at bits. -/
module

public import proofs.«01_k».proof.Proof.Gen.Kernel5.Launch
public import proofs.«01_k».proof.Proof.Gen.Kernel5.Skeleton
public import proofs.«01_k».proof.Proof.Gen.Kernel5.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel5.Own

open Cert.Kernel5.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 11).trans (((dats 0 c).arrAt_in 11 rfl _).trans ((hA c 11).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

abbrev r0_0 : Rect S1x256x256 := Rect.unit (s := S1x256x256) ![0, 0, 0] S1x256x256.size inb_S1x256x256_S1x256x256_0_0_0
abbrev r0_1 : Rect S1x8x256 := Rect.unit (s := S1x8x256) ![0, 0, 0] S1x8x256.size inb_S1x8x256_S1x8x256_0_0_0
abbrev r0_2 : Rect S3x256 := Rect.unit (s := S3x256) ![0, 0] S3x256.size inb_S3x256_S3x256_0_0
abbrev r0_3 : Rect S1x256 := Rect.unit (s := S1x256) ![0, 0] S1x256.size inb_S1x256_S1x256_0_0
abbrev r0_4 : Rect S1x256x768 := Rect.unit (s := S1x256x768) ![0, 0, 0] S1x256x768.size inb_S1x256x768_S1x256x768_0_0_0
abbrev r0_5 : Rect S1x768 := Rect.unit (s := S1x768) ![0, 0] S1x768.size inb_S1x768_S1x768_0_0
abbrev r0_6 : Rect S256x1024 := Rect.unit (s := S256x1024) ![0, 0] S256x1024.size inb_S256x1024_S256x1024_0_0
abbrev r0_7 : Rect S768x1024 := Rect.unit (s := S768x1024) ![0, 0] S768x1024.size inb_S768x1024_S768x1024_0_0
abbrev r0_8 : Rect S1x256x1024 := Rect.unit (s := S1x256x1024) ![0, 0, 0] S1x256x1024.size inb_S1x256x1024_S1x256x1024_0_0_0
abbrev r0_9 : Rect S1x1024 := Rect.unit (s := S1x1024) ![0, 0] S1x1024.size inb_S1x1024_S1x1024_0_0
abbrev r0_10 : Rect S1024x2816 := Rect.unit (s := S1024x2816) ![0, 0] S1024x256.size inb_S1024x2816_S1024x256_0_0
abbrev r0_11 : Rect S2816x1024 := Rect.unit (s := S2816x1024) ![0, 0] S256x1024.size inb_S2816x1024_S256x1024_0_0
abbrev r0_12 : Rect S1024x2816 := Rect.unit (s := S1024x2816) ![0, 256] S1024x256.size inb_S1024x2816_S1024x256_0_256
abbrev r0_13 : Rect S2816x1024 := Rect.unit (s := S2816x1024) ![256, 0] S256x1024.size inb_S2816x1024_S256x1024_256_0
abbrev r0_14 : Rect S1024x2816 := Rect.unit (s := S1024x2816) ![0, 512] S1024x256.size inb_S1024x2816_S1024x256_0_512
abbrev r0_15 : Rect S2816x1024 := Rect.unit (s := S2816x1024) ![512, 0] S256x1024.size inb_S2816x1024_S256x1024_512_0
abbrev r0_16 : Rect S1024x2816 := Rect.unit (s := S1024x2816) ![0, 768] S1024x256.size inb_S1024x2816_S1024x256_0_768
abbrev r0_17 : Rect S2816x1024 := Rect.unit (s := S2816x1024) ![768, 0] S256x1024.size inb_S2816x1024_S256x1024_768_0
abbrev r0_18 : Rect S1024x2816 := Rect.unit (s := S1024x2816) ![0, 1024] S1024x256.size inb_S1024x2816_S1024x256_0_1024
abbrev r0_19 : Rect S2816x1024 := Rect.unit (s := S2816x1024) ![1024, 0] S256x1024.size inb_S2816x1024_S256x1024_1024_0
abbrev r0_20 : Rect S1024x2816 := Rect.unit (s := S1024x2816) ![0, 1280] S1024x256.size inb_S1024x2816_S1024x256_0_1280
abbrev r0_21 : Rect S2816x1024 := Rect.unit (s := S2816x1024) ![1280, 0] S256x1024.size inb_S2816x1024_S256x1024_1280_0
abbrev r0_22 : Rect S1024x2816 := Rect.unit (s := S1024x2816) ![0, 1536] S1024x256.size inb_S1024x2816_S1024x256_0_1536
abbrev r0_23 : Rect S2816x1024 := Rect.unit (s := S2816x1024) ![1536, 0] S256x1024.size inb_S2816x1024_S256x1024_1536_0
abbrev r0_24 : Rect S1024x2816 := Rect.unit (s := S1024x2816) ![0, 1792] S1024x256.size inb_S1024x2816_S1024x256_0_1792
abbrev r0_25 : Rect S2816x1024 := Rect.unit (s := S2816x1024) ![1792, 0] S256x1024.size inb_S2816x1024_S256x1024_1792_0
abbrev r0_26 : Rect S1024x2816 := Rect.unit (s := S1024x2816) ![0, 2048] S1024x256.size inb_S1024x2816_S1024x256_0_2048
abbrev r0_27 : Rect S2816x1024 := Rect.unit (s := S2816x1024) ![2048, 0] S256x1024.size inb_S2816x1024_S256x1024_2048_0
abbrev r0_28 : Rect S1024x2816 := Rect.unit (s := S1024x2816) ![0, 2304] S1024x256.size inb_S1024x2816_S1024x256_0_2304
abbrev r0_29 : Rect S2816x1024 := Rect.unit (s := S2816x1024) ![2304, 0] S256x1024.size inb_S2816x1024_S256x1024_2304_0
abbrev r0_30 : Rect S1024x2816 := Rect.unit (s := S1024x2816) ![0, 2560] S1024x256.size inb_S1024x2816_S1024x256_0_2560
abbrev r0_31 : Rect S2816x1024 := Rect.unit (s := S2816x1024) ![2560, 0] S256x1024.size inb_S2816x1024_S256x1024_2560_0

def k0_pay17 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : FVec F S256x1024 .f32 :=
  k0_pay4 (k0_pay2 (View.ld x4 r0_0)) (k0_pay3 (View.ld x2 r0_0) (View.ld x3 r0_1) (View.ld x5 r0_0) (View.ld x6 r0_0) (View.ld x11 r0_2)) (View.ld x12 r0_3) (View.ld x1 r0_4) (View.ld x13 r0_5) (View.ld x14 r0_6) (View.ld x15 r0_7) -- `v77`
def k0_pay18 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : FVec F S256x1024 .f32 :=
  k0_pay6 (k0_pay17 x0 x1 x2 x3 x4 x5 x6 x7 x8 x9 x10 x11 x12 x13 x14 x15 x16 x17 x18 x19 x20 x21 x22) (View.ld x0 r0_8) (View.ld x7 r0_8) (View.ld x16 r0_9) (View.ld x17 r0_9) (View.ld x9 r0_8) -- `v114`
def k0_pay19 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : FVec F S256x1024 .bf16 :=
  k0_pay7 (k0_pay18 x0 x1 x2 x3 x4 x5 x6 x7 x8 x9 x10 x11 x12 x13 x14 x15 x16 x17 x18 x19 x20 x21 x22) (View.ld x8 r0_8) -- `v118`

def out0_23 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : Vec F S1x256x1024 .f32 :=
  View.canon [⟨r0_8, k0_pay1 (k0_pay16 (k0_pay5 (k0_pay17 x0 x1 x2 x3 x4 x5 x6 x7 x8 x9 x10 x11 x12 x13 x14 x15 x16 x17 x18 x19 x20 x21 x22) (View.ld x0 r0_8) (View.ld x7 r0_8) (View.ld x16 r0_9) (View.ld x17 r0_9)) (k0_pay19 x0 x1 x2 x3 x4 x5 x6 x7 x8 x9 x10 x11 x12 x13 x14 x15 x16 x17 x18 x19 x20 x21 x22) (k0_pay14 (k0_pay19 x0 x1 x2 x3 x4 x5 x6 x7 x8 x9 x10 x11 x12 x13 x14 x15 x16 x17 x18 x19 x20 x21 x22) (k0_pay12 (k0_pay19 x0 x1 x2 x3 x4 x5 x6 x7 x8 x9 x10 x11 x12 x13 x14 x15 x16 x17 x18 x19 x20 x21 x22) (k0_pay11 (k0_pay19 x0 x1 x2 x3 x4 x5 x6 x7 x8 x9 x10 x11 x12 x13 x14 x15 x16 x17 x18 x19 x20 x21 x22) (k0_pay8 (k0_pay18 x0 x1 x2 x3 x4 x5 x6 x7 x8 x9 x10 x11 x12 x13 x14 x15 x16 x17 x18 x19 x20 x21 x22) (View.ld x8 r0_8) (View.ld x20 r0_10) (View.ld x21 r0_10) (View.ld x22 r0_11) (View.ld x20 r0_12) (View.ld x21 r0_12) (View.ld x22 r0_13)) (k0_pay9 (k0_pay18 x0 x1 x2 x3 x4 x5 x6 x7 x8 x9 x10 x11 x12 x13 x14 x15 x16 x17 x18 x19 x20 x21 x22) (View.ld x8 r0_8) (View.ld x20 r0_14)) (k0_pay10 (View.ld x21 r0_14)) (View.ld x22 r0_15) (View.ld x20 r0_16) (View.ld x21 r0_16) (View.ld x22 r0_17) (View.ld x20 r0_18) (View.ld x21 r0_18) (View.ld x22 r0_19)) (View.ld x20 r0_20) (View.ld x21 r0_20) (View.ld x22 r0_21) (View.ld x20 r0_22) (View.ld x21 r0_22) (View.ld x22 r0_23)) (k0_pay13 (k0_pay19 x0 x1 x2 x3 x4 x5 x6 x7 x8 x9 x10 x11 x12 x13 x14 x15 x16 x17 x18 x19 x20 x21 x22) (View.ld x20 r0_24) (View.ld x21 r0_24)) (View.ld x22 r0_25) (View.ld x20 r0_26) (View.ld x21 r0_26) (View.ld x22 r0_27) (View.ld x20 r0_28) (View.ld x21 r0_28) (View.ld x22 r0_29)) (k0_pay15 (k0_pay19 x0 x1 x2 x3 x4 x5 x6 x7 x8 x9 x10 x11 x12 x13 x14 x15 x16 x17 x18 x19 x20 x21 x22) (View.ld x20 r0_30)) (View.ld x21 r0_30) (View.ld x22 r0_31) (View.ld x10 r0_8) (View.ld x18 r0_9) (View.ld x19 r0_9))⟩]

theorem cover0_23 (p0 : Vec F S1x256x1024 .f32) (y : S1x256x1024.Idx) :
    ∃ pc ∈ ([⟨r0_8, p0⟩] : List (View.Piece (Elt F) S1x256x1024 .f32)), y ∈ pc.1.set :=
  View.cover_of_tiled [⟨r0_8, p0⟩] S1x256x1024.size (by rfl) y

set_option maxHeartbeats 1000000 in
theorem sound_kernel (c : Dev nD) (E : Set ℕ) (i : grid0.Coords) (arg2 : Memref sig .tc .vmem S1x256x1024 .f32) (harg2 : arg2.IsWhole) (arg3 : Memref sig .tc .vmem S1x256x768 .f32) (harg3 : arg3.IsWhole) (arg4 : Memref sig .tc .vmem S1x256x256 .f32) (harg4 : arg4.IsWhole) (arg5 : Memref sig .tc .vmem S1x8x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole) (arg13 : Memref sig .tc .vmem S3x256 .f32) (harg13 : arg13.IsWhole) (arg14 : Memref sig .tc .vmem S1x256 .f32) (harg14 : arg14.IsWhole) (arg15 : Memref sig .tc .vmem S1x768 .f32) (harg15 : arg15.IsWhole) (arg16 : Memref sig .tc .vmem S256x1024 .bf16) (harg16 : arg16.IsWhole) (arg17 : Memref sig .tc .vmem S768x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (arg25 : Memref sig .tc .vmem S1x256x1024 .f32) (harg25 : arg25.IsWhole)
    (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out0_23 x0 x1 x2 x3 x4 x5 x6 x7 x8 x9 x10 x11 x12 x13 x14 x15 x16 x17 x18 x19 x20 x21 x22)) -∗ K ⟨⟩))
      ⊢ wp frame (wpE (defs₀ (F := F)) Variants.none c none) E (cc0_post_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_post_block_eq_skeleton]; unfold cc0_post_block_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  refine (View.read_writes_eq_canon _ _ _ (cover0_23 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 800000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

end Cert.Kernel5.Own

end
-- ==== Proof.SampleSpec.lean ====
/- The rows of a sample before one of its rows, when the convolution goes on from a state of two rows. -/
module

public import proofs.«01_k».proof.Proof.Spec

@[expose] public section

noncomputable section

namespace Cert.Spec

/-- The row `s - d` of a sample of eight rows, or the state's row that stands before the first. -/
def before (W : Fin 2 → Fin 256 → EReal) (U : Fin 8 → Fin 256 → EReal) (d : Fin 3) (s : Fin 8) (c : Fin 256) : EReal :=
  if h : (d : ℕ) ≤ (s : ℕ) then U ⟨(s : ℕ) - (d : ℕ), by omega⟩ c else W ⟨2 + (s : ℕ) - (d : ℕ), by omega⟩ c

theorem before_row (W : Fin 2 → Fin 256 → EReal) (U : Fin 8 → Fin 256 → EReal) (d : Fin 3) (s : Fin 8) (c : Fin 256) (a : Fin 8)
    (h : (a : ℕ) + (d : ℕ) = (s : ℕ)) : before W U d s c = U a c := by
  unfold before
  refine (dif_pos (by omega)).trans (congrArg (fun x => U x c) (Fin.ext ?_))
  dsimp only
  omega

theorem before_state (W : Fin 2 → Fin 256 → EReal) (U : Fin 8 → Fin 256 → EReal) (d : Fin 3) (s : Fin 8) (c : Fin 256) (a : Fin 2)
    (h : (a : ℕ) + (d : ℕ) = 2 + (s : ℕ)) : before W U d s c = W a c := by
  unfold before
  refine (dif_neg (by omega)).trans (congrArg (fun x => W x c) (Fin.ext ?_))
  dsimp only
  omega

end Cert.Spec

end
-- ==== Proof.SamplePostRef.lean ====
module

public import proofs.«01_k».proof.Proof.Gen.Reference5Ideal.Run
public import proofs.«01_k».proof.Proof.Consts
public import proofs.«01_k».proof.Proof.Spec
public import proofs.«01_k».proof.Proof.SampleSpec

@[expose] public section

set_option maxRecDepth 16384

noncomputable section

open Idealize.ShloMosaic Idealize.ShloMosaic.TcCoe Idealize.SL.Sem

namespace Cert.Reference5Ideal.Row

open Cert.Reference5Ideal Cert.Reference5Ideal.Gen Cert.Reference5Ideal.Value Cert.Spec

variable (V0 : Valuation τ sig (Elt Ideal))

/-! The problem's arrays, as the reference finds them. -/
abbrev aX : FVec Ideal S32x8x1024 .f32 := V0 (Proc.devRef .tc main_arg0)
abbrev aO : FVec Ideal S32x8x768 .f32 := V0 (Proc.devRef .tc main_arg1)
abbrev aU : FVec Ideal S32x8x256 .f32 := V0 (Proc.devRef .tc main_arg2)
abbrev aB : FVec Ideal S32x8x256 .f32 := V0 (Proc.devRef .tc main_arg3)
abbrev aST : FVec Ideal S32x2x256 .f32 := V0 (Proc.devRef .tc main_arg4)
abbrev aG1 : FVec Ideal S32x1024 .f32 := V0 (Proc.devRef .tc main_arg5)
abbrev aSH : FVec Ideal S32x1024 .f32 := V0 (Proc.devRef .tc main_arg6)
abbrev aSC : FVec Ideal S32x1024 .f32 := V0 (Proc.devRef .tc main_arg7)
abbrev aG2 : FVec Ideal S32x1024 .f32 := V0 (Proc.devRef .tc main_arg8)
abbrev aCW : FVec Ideal S3x256 .f32 := V0 (Proc.devRef .tc main_arg9)
abbrev aGC : FVec Ideal S256 .f32 := V0 (Proc.devRef .tc main_arg10)
abbrev aGN : FVec Ideal S768 .f32 := V0 (Proc.devRef .tc main_arg11)
abbrev aWO : FVec Ideal S1024x1024 .f32 := V0 (Proc.devRef .tc main_arg12)
abbrev aL1G : FVec Ideal S1024 .f32 := V0 (Proc.devRef .tc main_arg13)
abbrev aL1B : FVec Ideal S1024 .f32 := V0 (Proc.devRef .tc main_arg14)
abbrev aL2G : FVec Ideal S1024 .f32 := V0 (Proc.devRef .tc main_arg15)
abbrev aL2B : FVec Ideal S1024 .f32 := V0 (Proc.devRef .tc main_arg16)
abbrev aWG : FVec Ideal S1024x2816 .f32 := V0 (Proc.devRef .tc main_arg17)
abbrev aWU : FVec Ideal S1024x2816 .f32 := V0 (Proc.devRef .tc main_arg18)
abbrev aWD : FVec Ideal S2816x1024 .f32 := V0 (Proc.devRef .tc main_arg19)

theorem v62 (b : Fin 32) (s : Fin 8) (z : Fin 1024 → EReal)
    (h : ∀ k, (res_main_v58 V0 : FVec Ideal S32x8x1024 .f32) (ix3 b s k) = z k) :
    (res_main_v62 V0 : FVec Ideal S32x8x1 .f32) (ix3 b s (0 : Fin 1)) = mean z := by
  pointwise [res_main_v62, mean, h]

theorem v64 (b : Fin 32) (s : Fin 8) (z : Fin 1024 → EReal)
    (h : ∀ k, (res_main_v58 V0 : FVec Ideal S32x8x1024 .f32) (ix3 b s k) = z k) (j : Fin 1024) :
    (res_main_v64 V0 : FVec Ideal S32x8x1024 .f32) (ix3 b s j) = cent z j := by
  pointwise [res_main_v64, cent, h, v62 V0 b s z h]

theorem v82 (b : Fin 32) (s : Fin 8) (z : Fin 1024 → EReal)
    (h : ∀ k, (res_main_v58 V0 : FVec Ideal S32x8x1024 .f32) (ix3 b s k) = z k) (j : Fin 1024) :
    (res_main_v82 V0 : FVec Ideal S32x8x1024 .f32) (ix3 b s j)
      = ln z (fun k => aL1G V0 (ix1 k)) (fun k => aL1B V0 (ix1 k)) j := by
  pointwise [res_main_v82, ln, mean, cent, eps, h, v62 V0 b s z h, v64 V0 b s z h]

theorem v90 (b : Fin 32) (s : Fin 8) (x1 : Fin 1024 → EReal)
    (h : ∀ k, (res_main_v82 V0 : FVec Ideal S32x8x1024 .f32) (ix3 b s k) = x1 k) (j : Fin 1024) :
    (res_main_v90 V0 : FVec Ideal S32x8x1024 .f32) (ix3 b s j)
      = modu x1 (fun k => aSC V0 (ix2 b k)) (fun k => aSH V0 (ix2 b k)) j := by
  pointwise [res_main_v90, modu, h]

theorem v91 (b : Fin 32) (s : Fin 8) (h : Fin 1024 → EReal)
    (hh : ∀ k, (res_main_v90 V0 : FVec Ideal S32x8x1024 .f32) (ix3 b s k) = h k) (n : Fin 2816) :
    (res_main_v91 V0 : FVec Ideal S32x8x2816 .f32) (ix3 b s n) = ∑ k, h k * aWG V0 (ix2 k n) := by
  pointwise [res_main_v91, hh]

theorem v101 (b : Fin 32) (s : Fin 8) (x1 h : Fin 1024 → EReal)
    (h1 : ∀ k, (res_main_v82 V0 : FVec Ideal S32x8x1024 .f32) (ix3 b s k) = x1 k)
    (hh : ∀ k, (res_main_v90 V0 : FVec Ideal S32x8x1024 .f32) (ix3 b s k) = h k) (j : Fin 1024) :
    (res_main_v101 V0 : FVec Ideal S32x8x1024 .f32) (ix3 b s j)
      = ffn x1 (fun k => aG2 V0 (ix2 b k)) h (fun k n => aWG V0 (ix2 k n))
          (fun k n => aWU V0 (ix2 k n)) (fun n j => aWD V0 (ix2 n j)) j := by
  pointwise [res_main_v101, ffn, unit, alpha, h1, hh, v91 V0 b s h hh]
  rfl

theorem v3 (b : Fin 32) (s : Fin 8) (d : Fin 3) (q : Fin 10) (hq : (q : ℕ) = (s : ℕ) + (2 - (d : ℕ))) (c : Fin 256) :
    (res_main_v3 V0 : FVec Ideal S32x10x256 .f32) (ix3 b q c)
      = before (fun a c => aST V0 (ix3 b a c)) (fun s c => aU V0 (ix3 b s c)) d s c := by
  have e : (res_main_v3 V0 : FVec Ideal S32x10x256 .f32)
      = concatenate S32x10x256 1 [⟨S32x2x256, aST V0⟩, ⟨S32x8x256, aU V0⟩] concatenates_S32x2x256_S32x8x256_S32x10x256_d1 := rfl
  rw [e]
  generalize aU V0 = U
  generalize aST V0 = W
  pointwise [before]
  by_cases h : (d : ℕ) ≤ (s : ℕ)
  · rw [dif_pos h]
    refine (dif_neg (by omega)).trans ?_
    exact congrArg (fun q => U (ix3 b q c)) (Fin.ext (by dsimp only; omega))
  · rw [dif_neg h]
    refine (dif_pos (by omega)).trans ?_
    exact congrArg (fun q => W (ix3 b q c)) (Fin.ext (by dsimp only; omega))

theorem v24 (b : Fin 32) (s : Fin 8) (c : Fin 256) :
    (res_main_v24 V0 : FVec Ideal S32x8x256 .f32) (ix3 b s c)
      = conv (fun c => aB V0 (ix3 b s c)) (fun c => aCW V0 (ix2 (0 : Fin 3) c)) (fun c => aCW V0 (ix2 (1 : Fin 3) c))
          (fun c => aCW V0 (ix2 (2 : Fin 3) c)) (before (fun a c => aST V0 (ix3 b a c)) (fun s c => aU V0 (ix3 b s c)) 2 s) (before (fun a c => aST V0 (ix3 b a c)) (fun s c => aU V0 (ix3 b s c)) 1 s) (before (fun a c => aST V0 (ix3 b a c)) (fun s c => aU V0 (ix3 b s c)) 0 s) c := by
  pointwise [res_main_v24, conv]
  rw [v3 V0 b s 2 _ (by dsimp only; omega) c, v3 V0 b s 1 _ (by dsimp only; omega) c,
    v3 V0 b s 0 _ (by dsimp only; omega) c]

theorem v2 (b : Fin 32) (s : Fin 8) (c : Fin 768) :
    (res_main_v2 V0 : FVec Ideal S32x8x768 .f32) (ix3 b s (perm c)) = aO V0 (ix3 b s c) := by
  pointwise [res_main_v2]
  refine congrArg (fun q => aO V0 (ix3 b s q)) (Fin.ext ?_)
  exact perm_back c.val c.isLt

theorem v58 (b : Fin 32) (s : Fin 8) (y : Fin 256 → EReal) (o : Fin 768 → EReal)
    (hy : ∀ k, (res_main_v24 V0 : FVec Ideal S32x8x256 .f32) (ix3 b s k) = y k)
    (ho : ∀ k, (res_main_v2 V0 : FVec Ideal S32x8x768 .f32) (ix3 b s k) = o k) (j : Fin 1024) :
    (res_main_v58 V0 : FVec Ideal S32x8x1024 .f32) (ix3 b s j)
      = mix (fun k => aX V0 (ix3 b s k)) (fun k => aG1 V0 (ix2 b k))
          (rms (Ideal.ofBits .f32 0x43800000#32) y (fun k => aGC V0 (ix1 k)))
          (rms (Ideal.ofBits .f32 0x44400000#32) o (fun k => aGN V0 (ix1 k)))
          (fun c j => aWO V0 (ix2 (⟨(c : ℕ), by omega⟩ : Fin 1024) j))
          (fun c j => aWO V0 (ix2 (⟨256 + (c : ℕ), by omega⟩ : Fin 1024) j)) j := by
  pointwise [res_main_v58, mix, rms, alpha, eps, hy, ho]

theorem v126 (q : Fin 256) (b : Fin 32) (s : Fin 8) (hb : (b : ℕ) = (q : ℕ) / 8) (hs : (s : ℕ) = (q : ℕ) % 8) (z : Fin 1024 → EReal)
    (h : ∀ k, (res_main_v101 V0 : FVec Ideal S32x8x1024 .f32) (ix3 b s k) = z k) (j : Fin 1024) :
    (val3 V0 (Proc.devRef .tc main_v126) : FVec Ideal S1x256x1024 .f32) (ix3 (0 : Fin 1) q j)
      = ln z (fun k => aL2G V0 (ix1 k)) (fun k => aL2B V0 (ix1 k)) j := by
  have h105 : (res_main_v105 V0 : FVec Ideal S32x8x1 .f32) (ix3 b s (0 : Fin 1)) = mean z := by
    pointwise [res_main_v105, mean, h]
  have h107 : ∀ j, (res_main_v107 V0 : FVec Ideal S32x8x1024 .f32) (ix3 b s j) = cent z j := fun j => by
    pointwise [res_main_v107, cent, h, h105]
  have hq := q.isLt
  have p1 : (q : ℕ) / 8 < 32 := by omega
  have p2 : (q : ℕ) % 8 < 8 := by omega
  obtain rfl : b = ⟨(q : ℕ) / 8, p1⟩ := Fin.ext hb
  obtain rfl : s = ⟨(q : ℕ) % 8, p2⟩ := Fin.ext hs
  rw [val3_main_v126]
  pointwise [ln, mean, cent, eps, h, h105, h107]

/-- The reference's result at one row. -/
theorem result (q : Fin 256) (b : Fin 32) (s : Fin 8) (hb : (b : ℕ) = (q : ℕ) / 8) (hs : (s : ℕ) = (q : ℕ) % 8) (o : Fin 768 → EReal)
    (ho : ∀ k, (res_main_v2 V0 : FVec Ideal S32x8x768 .f32) (ix3 b s k) = o k) (j : Fin 1024) :
    (val3 V0 (Proc.devRef .tc main_v126) : FVec Ideal S1x256x1024 .f32) (ix3 (0 : Fin 1) q j)
      = block (fun k => aX V0 (ix3 b s k)) (fun k => aG1 V0 (ix2 b k)) (fun k => aSC V0 (ix2 b k))
          (fun k => aSH V0 (ix2 b k)) (fun k => aG2 V0 (ix2 b k))
          (conv (fun c => aB V0 (ix3 b s c)) (fun c => aCW V0 (ix2 (0 : Fin 3) c)) (fun c => aCW V0 (ix2 (1 : Fin 3) c))
            (fun c => aCW V0 (ix2 (2 : Fin 3) c)) (before (fun a c => aST V0 (ix3 b a c)) (fun s c => aU V0 (ix3 b s c)) 2 s)
            (before (fun a c => aST V0 (ix3 b a c)) (fun s c => aU V0 (ix3 b s c)) 1 s) (before (fun a c => aST V0 (ix3 b a c)) (fun s c => aU V0 (ix3 b s c)) 0 s))
          (fun k => aGC V0 (ix1 k)) o (fun k => aGN V0 (ix1 k))
          (fun c j => aWO V0 (ix2 (⟨(c : ℕ), by omega⟩ : Fin 1024) j))
          (fun c j => aWO V0 (ix2 (⟨256 + (c : ℕ), by omega⟩ : Fin 1024) j))
          (fun k => aL1G V0 (ix1 k)) (fun k => aL1B V0 (ix1 k)) (fun k => aL2G V0 (ix1 k)) (fun k => aL2B V0 (ix1 k))
          (fun k n => aWG V0 (ix2 k n)) (fun k n => aWU V0 (ix2 k n)) (fun n j => aWD V0 (ix2 n j)) j := by
  have h58 := v58 V0 b s _ o (v24 V0 b s) ho
  have h82 := v82 V0 b s _ h58
  have h90 := v90 V0 b s _ h82
  have h101 := v101 V0 b s _ _ h82 h90
  exact v126 V0 q b s hb hs _ h101 j

end Cert.Reference5Ideal.Row

end
-- ==== Proof.SampleFrame.lean ====
/- The frame of the samples' last block over the extended reals. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel5Ideal.Own

open Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0, hostOps0_1, hostOps0_2, hostOps0_3, hostOps0_4, hostOps0_5]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5] (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩) main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1440000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).1 11).trans (((dats 0 c).arrAt_in 11 rfl _).trans ((hA c 11).trans (V_main_arg9 m c))),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c)⟩) h

abbrev r0_0 : Rect S1x256x256 := Rect.unit (s := S1x256x256) ![0, 0, 0] S1x256x256.size inb_S1x256x256_S1x256x256_0_0_0
abbrev r0_1 : Rect S1x8x256 := Rect.unit (s := S1x8x256) ![0, 0, 0] S1x8x256.size inb_S1x8x256_S1x8x256_0_0_0
abbrev r0_2 : Rect S3x256 := Rect.unit (s := S3x256) ![0, 0] S3x256.size inb_S3x256_S3x256_0_0
abbrev r0_3 : Rect S1x256 := Rect.unit (s := S1x256) ![0, 0] S1x256.size inb_S1x256_S1x256_0_0
abbrev r0_4 : Rect S1x256x768 := Rect.unit (s := S1x256x768) ![0, 0, 0] S1x256x768.size inb_S1x256x768_S1x256x768_0_0_0
abbrev r0_5 : Rect S1x768 := Rect.unit (s := S1x768) ![0, 0] S1x768.size inb_S1x768_S1x768_0_0
abbrev r0_6 : Rect S256x1024 := Rect.unit (s := S256x1024) ![0, 0] S256x1024.size inb_S256x1024_S256x1024_0_0
abbrev r0_7 : Rect S768x1024 := Rect.unit (s := S768x1024) ![0, 0] S768x1024.size inb_S768x1024_S768x1024_0_0
abbrev r0_8 : Rect S1x256x1024 := Rect.unit (s := S1x256x1024) ![0, 0, 0] S1x256x1024.size inb_S1x256x1024_S1x256x1024_0_0_0
abbrev r0_9 : Rect S1x1024 := Rect.unit (s := S1x1024) ![0, 0] S1x1024.size inb_S1x1024_S1x1024_0_0
abbrev r0_10 : Rect S1024x2816 := Rect.unit (s := S1024x2816) ![0, 0] S1024x256.size inb_S1024x2816_S1024x256_0_0
abbrev r0_11 : Rect S2816x1024 := Rect.unit (s := S2816x1024) ![0, 0] S256x1024.size inb_S2816x1024_S256x1024_0_0
abbrev r0_12 : Rect S1024x2816 := Rect.unit (s := S1024x2816) ![0, 256] S1024x256.size inb_S1024x2816_S1024x256_0_256
abbrev r0_13 : Rect S2816x1024 := Rect.unit (s := S2816x1024) ![256, 0] S256x1024.size inb_S2816x1024_S256x1024_256_0
abbrev r0_14 : Rect S1024x2816 := Rect.unit (s := S1024x2816) ![0, 512] S1024x256.size inb_S1024x2816_S1024x256_0_512
abbrev r0_15 : Rect S2816x1024 := Rect.unit (s := S2816x1024) ![512, 0] S256x1024.size inb_S2816x1024_S256x1024_512_0
abbrev r0_16 : Rect S1024x2816 := Rect.unit (s := S1024x2816) ![0, 768] S1024x256.size inb_S1024x2816_S1024x256_0_768
abbrev r0_17 : Rect S2816x1024 := Rect.unit (s := S2816x1024) ![768, 0] S256x1024.size inb_S2816x1024_S256x1024_768_0
abbrev r0_18 : Rect S1024x2816 := Rect.unit (s := S1024x2816) ![0, 1024] S1024x256.size inb_S1024x2816_S1024x256_0_1024
abbrev r0_19 : Rect S2816x1024 := Rect.unit (s := S2816x1024) ![1024, 0] S256x1024.size inb_S2816x1024_S256x1024_1024_0
abbrev r0_20 : Rect S1024x2816 := Rect.unit (s := S1024x2816) ![0, 1280] S1024x256.size inb_S1024x2816_S1024x256_0_1280
abbrev r0_21 : Rect S2816x1024 := Rect.unit (s := S2816x1024) ![1280, 0] S256x1024.size inb_S2816x1024_S256x1024_1280_0
abbrev r0_22 : Rect S1024x2816 := Rect.unit (s := S1024x2816) ![0, 1536] S1024x256.size inb_S1024x2816_S1024x256_0_1536
abbrev r0_23 : Rect S2816x1024 := Rect.unit (s := S2816x1024) ![1536, 0] S256x1024.size inb_S2816x1024_S256x1024_1536_0
abbrev r0_24 : Rect S1024x2816 := Rect.unit (s := S1024x2816) ![0, 1792] S1024x256.size inb_S1024x2816_S1024x256_0_1792
abbrev r0_25 : Rect S2816x1024 := Rect.unit (s := S2816x1024) ![1792, 0] S256x1024.size inb_S2816x1024_S256x1024_1792_0
abbrev r0_26 : Rect S1024x2816 := Rect.unit (s := S1024x2816) ![0, 2048] S1024x256.size inb_S1024x2816_S1024x256_0_2048
abbrev r0_27 : Rect S2816x1024 := Rect.unit (s := S2816x1024) ![2048, 0] S256x1024.size inb_S2816x1024_S256x1024_2048_0
abbrev r0_28 : Rect S1024x2816 := Rect.unit (s := S1024x2816) ![0, 2304] S1024x256.size inb_S1024x2816_S1024x256_0_2304
abbrev r0_29 : Rect S2816x1024 := Rect.unit (s := S2816x1024) ![2304, 0] S256x1024.size inb_S2816x1024_S256x1024_2304_0
abbrev r0_30 : Rect S1024x2816 := Rect.unit (s := S1024x2816) ![0, 2560] S1024x256.size inb_S1024x2816_S1024x256_0_2560
abbrev r0_31 : Rect S2816x1024 := Rect.unit (s := S2816x1024) ![2560, 0] S256x1024.size inb_S2816x1024_S256x1024_2560_0

def k0_pay17 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : FVec F S256x1024 .f32 :=
  k0_pay4 (k0_pay2 (View.ld x4 r0_0)) (k0_pay3 (View.ld x2 r0_0) (View.ld x3 r0_1) (View.ld x5 r0_0) (View.ld x6 r0_0) (View.ld x11 r0_2)) (View.ld x12 r0_3) (View.ld x1 r0_4) (View.ld x13 r0_5) (View.ld x14 r0_6) (View.ld x15 r0_7) -- `v77`
def k0_pay18 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : FVec F S256x1024 .f32 :=
  k0_pay6 (k0_pay17 x0 x1 x2 x3 x4 x5 x6 x7 x8 x9 x10 x11 x12 x13 x14 x15 x16 x17 x18 x19 x20 x21 x22) (View.ld x0 r0_8) (View.ld x7 r0_8) (View.ld x16 r0_9) (View.ld x17 r0_9) (View.ld x9 r0_8) -- `v114`
def k0_pay19 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : FVec F S256x1024 .bf16 :=
  k0_pay7 (k0_pay18 x0 x1 x2 x3 x4 x5 x6 x7 x8 x9 x10 x11 x12 x13 x14 x15 x16 x17 x18 x19 x20 x21 x22) (View.ld x8 r0_8) -- `v118`

def out0_23 (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) : Vec F S1x256x1024 .f32 :=
  View.canon [⟨r0_8, k0_pay1 (k0_pay16 (k0_pay5 (k0_pay17 x0 x1 x2 x3 x4 x5 x6 x7 x8 x9 x10 x11 x12 x13 x14 x15 x16 x17 x18 x19 x20 x21 x22) (View.ld x0 r0_8) (View.ld x7 r0_8) (View.ld x16 r0_9) (View.ld x17 r0_9)) (k0_pay19 x0 x1 x2 x3 x4 x5 x6 x7 x8 x9 x10 x11 x12 x13 x14 x15 x16 x17 x18 x19 x20 x21 x22) (k0_pay14 (k0_pay19 x0 x1 x2 x3 x4 x5 x6 x7 x8 x9 x10 x11 x12 x13 x14 x15 x16 x17 x18 x19 x20 x21 x22) (k0_pay12 (k0_pay19 x0 x1 x2 x3 x4 x5 x6 x7 x8 x9 x10 x11 x12 x13 x14 x15 x16 x17 x18 x19 x20 x21 x22) (k0_pay11 (k0_pay19 x0 x1 x2 x3 x4 x5 x6 x7 x8 x9 x10 x11 x12 x13 x14 x15 x16 x17 x18 x19 x20 x21 x22) (k0_pay8 (k0_pay18 x0 x1 x2 x3 x4 x5 x6 x7 x8 x9 x10 x11 x12 x13 x14 x15 x16 x17 x18 x19 x20 x21 x22) (View.ld x8 r0_8) (View.ld x20 r0_10) (View.ld x21 r0_10) (View.ld x22 r0_11) (View.ld x20 r0_12) (View.ld x21 r0_12) (View.ld x22 r0_13)) (k0_pay9 (k0_pay18 x0 x1 x2 x3 x4 x5 x6 x7 x8 x9 x10 x11 x12 x13 x14 x15 x16 x17 x18 x19 x20 x21 x22) (View.ld x8 r0_8) (View.ld x20 r0_14)) (k0_pay10 (View.ld x21 r0_14)) (View.ld x22 r0_15) (View.ld x20 r0_16) (View.ld x21 r0_16) (View.ld x22 r0_17) (View.ld x20 r0_18) (View.ld x21 r0_18) (View.ld x22 r0_19)) (View.ld x20 r0_20) (View.ld x21 r0_20) (View.ld x22 r0_21) (View.ld x20 r0_22) (View.ld x21 r0_22) (View.ld x22 r0_23)) (k0_pay13 (k0_pay19 x0 x1 x2 x3 x4 x5 x6 x7 x8 x9 x10 x11 x12 x13 x14 x15 x16 x17 x18 x19 x20 x21 x22) (View.ld x20 r0_24) (View.ld x21 r0_24)) (View.ld x22 r0_25) (View.ld x20 r0_26) (View.ld x21 r0_26) (View.ld x22 r0_27) (View.ld x20 r0_28) (View.ld x21 r0_28) (View.ld x22 r0_29)) (k0_pay15 (k0_pay19 x0 x1 x2 x3 x4 x5 x6 x7 x8 x9 x10 x11 x12 x13 x14 x15 x16 x17 x18 x19 x20 x21 x22) (View.ld x20 r0_30)) (View.ld x21 r0_30) (View.ld x22 r0_31) (View.ld x10 r0_8) (View.ld x18 r0_9) (View.ld x19 r0_9))⟩]

theorem cover0_23 (p0 : Vec F S1x256x1024 .f32) (y : S1x256x1024.Idx) :
    ∃ pc ∈ ([⟨r0_8, p0⟩] : List (View.Piece (Elt F) S1x256x1024 .f32)), y ∈ pc.1.set :=
  View.cover_of_tiled [⟨r0_8, p0⟩] S1x256x1024.size (by rfl) y

set_option maxHeartbeats 1000000 in
theorem sound_kernel (c : Dev nD) (E : Set ℕ) (i : grid0.Coords) (arg2 : Memref sig .tc .vmem S1x256x1024 .f32) (harg2 : arg2.IsWhole) (arg3 : Memref sig .tc .vmem S1x256x768 .f32) (harg3 : arg3.IsWhole) (arg4 : Memref sig .tc .vmem S1x256x256 .f32) (harg4 : arg4.IsWhole) (arg5 : Memref sig .tc .vmem S1x8x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x256 .f32) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1x256x1024 .f32) (harg11 : arg11.IsWhole) (arg12 : Memref sig .tc .vmem S1x256x1024 .f32) (harg12 : arg12.IsWhole) (arg13 : Memref sig .tc .vmem S3x256 .f32) (harg13 : arg13.IsWhole) (arg14 : Memref sig .tc .vmem S1x256 .f32) (harg14 : arg14.IsWhole) (arg15 : Memref sig .tc .vmem S1x768 .f32) (harg15 : arg15.IsWhole) (arg16 : Memref sig .tc .vmem S256x1024 .bf16) (harg16 : arg16.IsWhole) (arg17 : Memref sig .tc .vmem S768x1024 .bf16) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x2816 .bf16) (harg22 : arg22.IsWhole) (arg23 : Memref sig .tc .vmem S1024x2816 .bf16) (harg23 : arg23.IsWhole) (arg24 : Memref sig .tc .vmem S2816x1024 .bf16) (harg24 : arg24.IsWhole) (arg25 : Memref sig .tc .vmem S1x256x1024 .f32) (harg25 : arg25.IsWhole)
    (x0 : Vec F S1x256x1024 .f32) (x1 : Vec F S1x256x768 .f32) (x2 : Vec F S1x256x256 .f32) (x3 : Vec F S1x8x256 .f32) (x4 : Vec F S1x256x256 .f32) (x5 : Vec F S1x256x256 .f32) (x6 : Vec F S1x256x256 .f32) (x7 : Vec F S1x256x1024 .f32) (x8 : Vec F S1x256x1024 .f32) (x9 : Vec F S1x256x1024 .f32) (x10 : Vec F S1x256x1024 .f32) (x11 : Vec F S3x256 .f32) (x12 : Vec F S1x256 .f32) (x13 : Vec F S1x768 .f32) (x14 : Vec F S256x1024 .bf16) (x15 : Vec F S768x1024 .bf16) (x16 : Vec F S1x1024 .f32) (x17 : Vec F S1x1024 .f32) (x18 : Vec F S1x1024 .f32) (x19 : Vec F S1x1024 .f32) (x20 : Vec F S1024x2816 .bf16) (x21 : Vec F S1024x2816 .bf16) (x22 : Vec F S2816x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ (∃ d, owns (c : Thread nD τ) arg25 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare (out0_23 x0 x1 x2 x3 x4 x5 x6 x7 x8 x9 x10 x11 x12 x13 x14 x15 x16 x17 x18 x19 x20 x21 x22)) -∗ K ⟨⟩))
      ⊢ wp frame (wpE (defs₀ (F := F)) Variants.none c none) E (cc0_post_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_post_block_eq_skeleton]; unfold cc0_post_block_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  refine (View.read_writes_eq_canon _ _ _ (cover0_23 _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 800000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  θ_run_and (unchanged m ρ) ((θ_run defs _ _).mono (fun _ h => h.2) (run_main_quiescent m ρ))

theorem post23 (r : PUnit × MemSt nD τ sig (Elt F)) (h : Pipeline.FramePost cfgs (dats m) 0 (V m) r) (c : Dev nD) :
    r.2.mem ((c : Thread nD τ).loc main_v50) = (dats m 0 c).arrAt 23 cfg0.N :=
  (h c).1 23

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 11).trans (((dats m 0 c).arrAt_in 11 rfl _).trans ((A_eq m c 11).trans (V_main_arg9 m c)))

theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

theorem run_blocks : θ_run defs (onTc (τ := τ) (main (F := F))) ⟨m, fun _ => 0, ρ⟩ fun r => ∀ c : Dev nD,
      r.2.mem ((c : Thread nD τ).loc main_v50) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c⟩)
    (run_main m ρ)

end Cert.Kernel5Ideal.Own

end
-- ==== Proof.SamplePostKer.lean ====
module

public import proofs.«01_k».proof.Proof.SampleFrame
public import proofs.«01_k».proof.Proof.Consts
public import Idealize.ShloMosaic.Lib.Pipeline.ValueKit
public import proofs.«01_k».proof.Proof.Spec
public import proofs.«01_k».proof.Proof.SampleSpec

@[expose] public section

set_option maxRecDepth 16384

noncomputable section

open Idealize.ShloMosaic Idealize.ShloMosaic.TcCoe Idealize.SL.Sem

namespace Cert.Kernel5Ideal.Row

open Cert.Kernel5Ideal Cert.Kernel5Ideal.Gen Cert.Kernel5Ideal.Own Cert.Spec

/-! The values of the kernel's body at one row, over any blocks. -/

/-- Whether the row's place in its sample is at least one. -/
theorem pos1 : ∀ r : Fin 256, IntOp.cmpi CmpIPredicate.sge (IntOp.remsi .vector (BitVec.ofNat 32 (r : ℕ)) 8#32) 1#32
    = if 1 ≤ (r : ℕ) % 8 then 1#1 else 0#1 := by decide +kernel

/-- Whether the row's place in its sample is at least two. -/
theorem pos2 : ∀ r : Fin 256, IntOp.cmpi CmpIPredicate.sge (IntOp.remsi .vector (BitVec.ofNat 32 (r : ℕ)) 8#32) 2#32
    = if 2 ≤ (r : ℕ) % 8 then 1#1 else 0#1 := by decide +kernel

/-- The convolution's sum at one row: the rows before it, or the state's rows. -/
theorem p3 (v0 : FVec Ideal S1x256x256 .f32) (v2 : FVec Ideal S1x8x256 .f32) (v11 v19 : FVec Ideal S1x256x256 .f32)
    (v24 : FVec Ideal S3x256 .f32) (W : Fin 2 → Fin 256 → EReal) (U : Fin 8 → Fin 256 → EReal) (r : Fin 256) (s : Fin 8)
    (hs : (s : ℕ) = (r : ℕ) % 8)
    (h0 : ∀ (a : Fin 256) (s : Fin 8) c, (a : ℕ) / 8 = (r : ℕ) / 8 → (s : ℕ) = (a : ℕ) % 8 → v0 (ix3 (0 : Fin 1) a c) = U s c)
    (h1 : ∀ (a : Fin 2) c, (a : ℕ) = (r : ℕ) % 8 + 1 → v11 (ix3 (0 : Fin 1) r c) = W a c)
    (h2 : ∀ (a : Fin 2) c, (a : ℕ) = (r : ℕ) % 8 → v19 (ix3 (0 : Fin 1) r c) = W a c) (c : Fin 256) :
    k0_pay3 v0 v2 v11 v19 v24 (ix2 r c) = v24 (ix2 (0 : Fin 3) c) * before W U 2 s c + v24 (ix2 (1 : Fin 3) c) * before W U 1 s c
      + v24 (ix2 (2 : Fin 3) c) * before W U 0 s c := by
  have hr := r.isLt
  pointwise [k0_pay3]
  rw [pos1 r, pos2 r]
  refine congrArg₂ (· + ·) (congrArg₂ (· + ·) (congrArg (v24 (ix2 (0 : Fin 3) c) * ·) ?_) (congrArg (v24 (ix2 (1 : Fin 3) c) * ·) ?_))
    (congrArg (v24 (ix2 (2 : Fin 3) c) * ·) ?_)
  · by_cases h : 2 ≤ (s : ℕ)
    · rw [if_pos (by omega)]
      refine Eq.trans ?_ (before_row W U 2 s c ⟨(s : ℕ) - 2, by omega⟩ (Nat.sub_add_cancel h)).symm
      change (if (1#1 : BitVec 1) = 1 then _ else _) = _
      refine (if_pos rfl).trans ((dif_neg (by omega)).trans ?_)
      exact h0 _ _ _ (by dsimp only; omega) (by dsimp only; omega)
    · rw [if_neg (by omega)]
      refine Eq.trans ?_ (before_state W U 2 s c ⟨(s : ℕ), by omega⟩ (Nat.add_comm _ _)).symm
      change (if (0#1 : BitVec 1) = 1 then _ else _) = _
      refine (if_neg (by decide)).trans ?_
      exact h2 _ _ (by dsimp only; omega)
  · by_cases h : 1 ≤ (s : ℕ)
    · rw [if_pos (by omega)]
      refine Eq.trans ?_ (before_row W U 1 s c ⟨(s : ℕ) - 1, by omega⟩ (Nat.sub_add_cancel h)).symm
      change (if (1#1 : BitVec 1) = 1 then _ else _) = _
      refine (if_pos rfl).trans ((dif_neg (by omega)).trans ?_)
      exact h0 _ _ _ (by dsimp only; omega) (by dsimp only; omega)
    · rw [if_neg (by omega)]
      have hz : (s : ℕ) = 0 := by omega
      refine Eq.trans ?_ (before_state W U 1 s c 1 (by rw [hz]; rfl)).symm
      change (if (0#1 : BitVec 1) = 1 then _ else _) = _
      refine (if_neg (by decide)).trans ?_
      exact h1 _ _ (by rw [← hs, hz]; rfl)
  · exact (h0 r s c rfl hs).trans (before_row W U 0 s c s rfl).symm

theorem p4 (v26 v37 : FVec Ideal S256x256 .f32) (v49 : FVec Ideal S1x256 .f32) (v53 : FVec Ideal S1x256x768 .f32)
    (v65 : FVec Ideal S1x768 .f32) (v70 : FVec Ideal S256x1024 .bf16) (v74 : FVec Ideal S768x1024 .bf16) (r : Fin 256)
    (y : Fin 256 → EReal) (hy : ∀ k, v26 (ix2 r k) * v37 (ix2 r k) = y k) (j : Fin 1024) :
    k0_pay4 v26 v37 v49 v53 v65 v70 v74 (ix2 r j)
      = (∑ c, rms (Ideal.ofBits .f32 0x43800000#32) y (fun k => v49 (ix2 (0 : Fin 1) k)) c * v70 (ix2 c j))
        + ∑ c, rms (Ideal.ofBits .f32 0x44400000#32) (fun k => v53 (ix3 (0 : Fin 1) r k)) (fun k => v65 (ix2 (0 : Fin 1) k)) c * v74 (ix2 c j) := by
  have hk : (Named.named (F := Ideal) (φ := .f32) κ "inv_dim" 0x3AAAAAAB#32 : EReal) = (((1 : ℝ) / 768 : ℝ) : EReal) :=
    IdealRules.named_const.ideal_named_scalar _ _ _ _ rfl
  pointwise [k0_pay4, rms, eps, hy]
  rw [hk, Cert.Consts.width, Ideal.div_coe (by norm_num : (768 : ℝ) ≠ 0)]

theorem p5 (v77 : FVec Ideal S256x1024 .f32) (v78 v82 : FVec Ideal S1x256x1024 .f32) (v86 v88 : FVec Ideal S1x1024 .f32)
    (r : Fin 256) (z : Fin 1024 → EReal)
    (hz : ∀ k, alpha * v78 (ix3 (0 : Fin 1) r k) + v82 (ix3 (0 : Fin 1) r k) * v77 (ix2 r k) = z k) (j : Fin 1024) :
    k0_pay5 v77 v78 v82 v86 v88 (ix2 r j) = ln z (fun k => v86 (ix2 (0 : Fin 1) k)) (fun k => v88 (ix2 (0 : Fin 1) k)) j := by
  unfold alpha at hz
  pointwise [k0_pay5, ln, cent, mean, eps, hz]

theorem p6 (v77 : FVec Ideal S256x1024 .f32) (v78 v82 : FVec Ideal S1x256x1024 .f32) (v86 v88 : FVec Ideal S1x1024 .f32)
    (v110 v115 : FVec Ideal S1x256x1024 .f32) (r : Fin 256) (x1 : Fin 1024 → EReal)
    (h : ∀ k, k0_pay5 v77 v78 v82 v86 v88 (ix2 r k) = x1 k) (j : Fin 1024) :
    k0_pay7 (k0_pay6 v77 v78 v82 v86 v88 v110) v115 (ix2 r j)
      = modu x1 (fun k => v110 (ix3 (0 : Fin 1) r k)) (fun k => v115 (ix3 (0 : Fin 1) r k)) j := by
  pointwise [k0_pay7, k0_pay6, modu, h]

theorem p8 (v114 : FVec Ideal S256x1024 .f32) (v115 : FVec Ideal S1x256x1024 .f32) (g0 u0 g1 u1 : FVec Ideal S1024x256 .bf16)
    (d0 d1 : FVec Ideal S256x1024 .bf16) (r : Fin 256) (h : Fin 1024 → EReal)
    (hh : ∀ k, k0_pay7 v114 v115 (ix2 r k) = h k) (j : Fin 1024) :
    k0_pay8 v114 v115 g0 u0 d0 g1 u1 d1 (ix2 r j)
      = tile h (fun k n => g0 (ix2 k n)) (fun k n => u0 (ix2 k n)) (fun n j => d0 (ix2 n j)) j
        + tile h (fun k n => g1 (ix2 k n)) (fun k n => u1 (ix2 k n)) (fun n j => d1 (ix2 n j)) j := by
  pointwise [k0_pay8, tile, unit, hh]

theorem p9 (v114 : FVec Ideal S256x1024 .f32) (v115 : FVec Ideal S1x256x1024 .f32) (g0 : FVec Ideal S1024x256 .bf16) (r : Fin 256)
    (h : Fin 1024 → EReal) (hh : ∀ k, k0_pay7 v114 v115 (ix2 r k) = h k) (n : Fin 256) :
    k0_pay9 v114 v115 g0 (ix2 r n) = act h (fun k => g0 (ix2 k n)) := by
  pointwise [k0_pay9, act, hh]

theorem p11 (v118 : FVec Ideal S256x1024 .bf16) (v145 : FVec Ideal S256x1024 .f32) (v150 : FVec Ideal S256x256 .f32)
    (g0 u0 g1 u1 g2 u2 : FVec Ideal S1024x256 .bf16) (d0 d1 d2 : FVec Ideal S256x1024 .bf16) (r : Fin 256) (h : Fin 1024 → EReal)
    (hh : ∀ k, v118 (ix2 r k) = h k) (h4 : ∀ n, v150 (ix2 r n) = act h (fun k => g0 (ix2 k n))) (j : Fin 1024) :
    k0_pay11 v118 v145 v150 (k0_pay10 u0) d0 g1 u1 d1 g2 u2 d2 (ix2 r j)
      = v145 (ix2 r j) + tile h (fun k n => g0 (ix2 k n)) (fun k n => u0 (ix2 k n)) (fun n j => d0 (ix2 n j)) j
        + tile h (fun k n => g1 (ix2 k n)) (fun k n => u1 (ix2 k n)) (fun n j => d1 (ix2 n j)) j
        + tile h (fun k n => g2 (ix2 k n)) (fun k n => u2 (ix2 k n)) (fun n j => d2 (ix2 n j)) j := by
  pointwise [k0_pay11, k0_pay10, tile, unit, act, hh, h4]

theorem p12 (v118 : FVec Ideal S256x1024 .bf16) (v187 : FVec Ideal S256x1024 .f32) (g0 u0 g1 u1 : FVec Ideal S1024x256 .bf16)
    (d0 d1 : FVec Ideal S256x1024 .bf16) (r : Fin 256) (h : Fin 1024 → EReal) (hh : ∀ k, v118 (ix2 r k) = h k) (j : Fin 1024) :
    k0_pay12 v118 v187 g0 u0 d0 g1 u1 d1 (ix2 r j)
      = v187 (ix2 r j) + tile h (fun k n => g0 (ix2 k n)) (fun k n => u0 (ix2 k n)) (fun n j => d0 (ix2 n j)) j
        + tile h (fun k n => g1 (ix2 k n)) (fun k n => u1 (ix2 k n)) (fun n j => d1 (ix2 n j)) j := by
  pointwise [k0_pay12, tile, unit, hh]

theorem p14 (v118 : FVec Ideal S256x1024 .bf16) (v215 : FVec Ideal S256x1024 .f32)
    (g0 u0 g1 u1 g2 u2 : FVec Ideal S1024x256 .bf16) (d0 d1 d2 : FVec Ideal S256x1024 .bf16) (r : Fin 256) (h : Fin 1024 → EReal)
    (hh : ∀ k, v118 (ix2 r k) = h k) (j : Fin 1024) :
    k0_pay14 v118 v215 (k0_pay13 v118 g0 u0) d0 g1 u1 d1 g2 u2 d2 (ix2 r j)
      = v215 (ix2 r j) + tile h (fun k n => g0 (ix2 k n)) (fun k n => u0 (ix2 k n)) (fun n j => d0 (ix2 n j)) j
        + tile h (fun k n => g1 (ix2 k n)) (fun k n => u1 (ix2 k n)) (fun n j => d1 (ix2 n j)) j
        + tile h (fun k n => g2 (ix2 k n)) (fun k n => u2 (ix2 k n)) (fun n j => d2 (ix2 n j)) j := by
  pointwise [k0_pay14, k0_pay13, tile, unit, hh]

theorem p16 (v109 : FVec Ideal S256x1024 .f32) (v118 : FVec Ideal S256x1024 .bf16) (v257 : FVec Ideal S256x1024 .f32)
    (g0 u0 : FVec Ideal S1024x256 .bf16) (d0 : FVec Ideal S256x1024 .bf16) (v274 : FVec Ideal S1x256x1024 .f32)
    (v278 v280 : FVec Ideal S1x1024 .f32) (r : Fin 256) (h z : Fin 1024 → EReal) (hh : ∀ k, v118 (ix2 r k) = h k)
    (hz : ∀ j, alpha * v109 (ix2 r j) + v274 (ix3 (0 : Fin 1) r j) * (v257 (ix2 r j)
        + tile h (fun k n => g0 (ix2 k n)) (fun k n => u0 (ix2 k n)) (fun n j => d0 (ix2 n j)) j) = z j) (j : Fin 1024) :
    k0_pay1 (k0_pay16 v109 v118 v257 (k0_pay15 v118 g0) u0 d0 v274 v278 v280) (ix3 (0 : Fin 1) r j)
      = ln z (fun k => v278 (ix2 (0 : Fin 1) k)) (fun k => v280 (ix2 (0 : Fin 1) k)) j := by
  unfold alpha tile unit at hz
  pointwise [k0_pay1, k0_pay16, k0_pay15, ln, cent, mean, eps, hh, hz]

theorem ld0 (x : Vec Ideal S1x256x256 .f32) : View.ld x r0_0 = x := by
  exact View.ld_unit_lit _ x (by decide)

theorem ld1 (x : Vec Ideal S1x8x256 .f32) : View.ld x r0_1 = x := by
  exact View.ld_unit_lit _ x (by decide)

theorem ld2 (x : Vec Ideal S3x256 .f32) : View.ld x r0_2 = x := by
  exact View.ld_unit_lit _ x (by decide)

theorem ld3 (x : Vec Ideal S1x256 .f32) : View.ld x r0_3 = x := by
  exact View.ld_unit_lit _ x (by decide)

theorem ld4 (x : Vec Ideal S1x256x768 .f32) : View.ld x r0_4 = x := by
  exact View.ld_unit_lit _ x (by decide)

theorem ld5 (x : Vec Ideal S1x768 .f32) : View.ld x r0_5 = x := by
  exact View.ld_unit_lit _ x (by decide)

theorem ld6 (x : Vec Ideal S256x1024 .bf16) : View.ld x r0_6 = x := by
  exact View.ld_unit_lit _ x (by decide)

theorem ld7 (x : Vec Ideal S768x1024 .bf16) : View.ld x r0_7 = x := by
  exact View.ld_unit_lit _ x (by decide)

theorem ld8 (x : Vec Ideal S1x256x1024 .f32) : View.ld x r0_8 = x := by
  exact View.ld_unit_lit _ x (by decide)

theorem ld9 (x : Vec Ideal S1x1024 .f32) : View.ld x r0_9 = x := by
  exact View.ld_unit_lit _ x (by decide)

theorem ldw0 (x : Vec Ideal S1024x2816 .bf16) (k : Fin 1024) (n : Fin 256) :
    (View.ld x r0_10 : FVec Ideal S1024x256 .bf16) (ix2 k n) = x (ix2 k (⟨0 * 256 + (n : ℕ), by omega⟩ : Fin 2816)) := by
  pointwise []

theorem ldd0 (x : Vec Ideal S2816x1024 .bf16) (n : Fin 256) (k : Fin 1024) :
    (View.ld x r0_11 : FVec Ideal S256x1024 .bf16) (ix2 n k) = x (ix2 (⟨0 * 256 + (n : ℕ), by omega⟩ : Fin 2816) k) := by
  pointwise []

theorem ldw1 (x : Vec Ideal S1024x2816 .bf16) (k : Fin 1024) (n : Fin 256) :
    (View.ld x r0_12 : FVec Ideal S1024x256 .bf16) (ix2 k n) = x (ix2 k (⟨1 * 256 + (n : ℕ), by omega⟩ : Fin 2816)) := by
  pointwise []

theorem ldd1 (x : Vec Ideal S2816x1024 .bf16) (n : Fin 256) (k : Fin 1024) :
    (View.ld x r0_13 : FVec Ideal S256x1024 .bf16) (ix2 n k) = x (ix2 (⟨1 * 256 + (n : ℕ), by omega⟩ : Fin 2816) k) := by
  pointwise []

theorem ldw2 (x : Vec Ideal S1024x2816 .bf16) (k : Fin 1024) (n : Fin 256) :
    (View.ld x r0_14 : FVec Ideal S1024x256 .bf16) (ix2 k n) = x (ix2 k (⟨2 * 256 + (n : ℕ), by omega⟩ : Fin 2816)) := by
  pointwise []

theorem ldd2 (x : Vec Ideal S2816x1024 .bf16) (n : Fin 256) (k : Fin 1024) :
    (View.ld x r0_15 : FVec Ideal S256x1024 .bf16) (ix2 n k) = x (ix2 (⟨2 * 256 + (n : ℕ), by omega⟩ : Fin 2816) k) := by
  pointwise []

theorem ldw3 (x : Vec Ideal S1024x2816 .bf16) (k : Fin 1024) (n : Fin 256) :
    (View.ld x r0_16 : FVec Ideal S1024x256 .bf16) (ix2 k n) = x (ix2 k (⟨3 * 256 + (n : ℕ), by omega⟩ : Fin 2816)) := by
  pointwise []

theorem ldd3 (x : Vec Ideal S2816x1024 .bf16) (n : Fin 256) (k : Fin 1024) :
    (View.ld x r0_17 : FVec Ideal S256x1024 .bf16) (ix2 n k) = x (ix2 (⟨3 * 256 + (n : ℕ), by omega⟩ : Fin 2816) k) := by
  pointwise []

theorem ldw4 (x : Vec Ideal S1024x2816 .bf16) (k : Fin 1024) (n : Fin 256) :
    (View.ld x r0_18 : FVec Ideal S1024x256 .bf16) (ix2 k n) = x (ix2 k (⟨4 * 256 + (n : ℕ), by omega⟩ : Fin 2816)) := by
  pointwise []

theorem ldd4 (x : Vec Ideal S2816x1024 .bf16) (n : Fin 256) (k : Fin 1024) :
    (View.ld x r0_19 : FVec Ideal S256x1024 .bf16) (ix2 n k) = x (ix2 (⟨4 * 256 + (n : ℕ), by omega⟩ : Fin 2816) k) := by
  pointwise []

theorem ldw5 (x : Vec Ideal S1024x2816 .bf16) (k : Fin 1024) (n : Fin 256) :
    (View.ld x r0_20 : FVec Ideal S1024x256 .bf16) (ix2 k n) = x (ix2 k (⟨5 * 256 + (n : ℕ), by omega⟩ : Fin 2816)) := by
  pointwise []

theorem ldd5 (x : Vec Ideal S2816x1024 .bf16) (n : Fin 256) (k : Fin 1024) :
    (View.ld x r0_21 : FVec Ideal S256x1024 .bf16) (ix2 n k) = x (ix2 (⟨5 * 256 + (n : ℕ), by omega⟩ : Fin 2816) k) := by
  pointwise []

theorem ldw6 (x : Vec Ideal S1024x2816 .bf16) (k : Fin 1024) (n : Fin 256) :
    (View.ld x r0_22 : FVec Ideal S1024x256 .bf16) (ix2 k n) = x (ix2 k (⟨6 * 256 + (n : ℕ), by omega⟩ : Fin 2816)) := by
  pointwise []

theorem ldd6 (x : Vec Ideal S2816x1024 .bf16) (n : Fin 256) (k : Fin 1024) :
    (View.ld x r0_23 : FVec Ideal S256x1024 .bf16) (ix2 n k) = x (ix2 (⟨6 * 256 + (n : ℕ), by omega⟩ : Fin 2816) k) := by
  pointwise []

theorem ldw7 (x : Vec Ideal S1024x2816 .bf16) (k : Fin 1024) (n : Fin 256) :
    (View.ld x r0_24 : FVec Ideal S1024x256 .bf16) (ix2 k n) = x (ix2 k (⟨7 * 256 + (n : ℕ), by omega⟩ : Fin 2816)) := by
  pointwise []

theorem ldd7 (x : Vec Ideal S2816x1024 .bf16) (n : Fin 256) (k : Fin 1024) :
    (View.ld x r0_25 : FVec Ideal S256x1024 .bf16) (ix2 n k) = x (ix2 (⟨7 * 256 + (n : ℕ), by omega⟩ : Fin 2816) k) := by
  pointwise []

theorem ldw8 (x : Vec Ideal S1024x2816 .bf16) (k : Fin 1024) (n : Fin 256) :
    (View.ld x r0_26 : FVec Ideal S1024x256 .bf16) (ix2 k n) = x (ix2 k (⟨8 * 256 + (n : ℕ), by omega⟩ : Fin 2816)) := by
  pointwise []

theorem ldd8 (x : Vec Ideal S2816x1024 .bf16) (n : Fin 256) (k : Fin 1024) :
    (View.ld x r0_27 : FVec Ideal S256x1024 .bf16) (ix2 n k) = x (ix2 (⟨8 * 256 + (n : ℕ), by omega⟩ : Fin 2816) k) := by
  pointwise []

theorem ldw9 (x : Vec Ideal S1024x2816 .bf16) (k : Fin 1024) (n : Fin 256) :
    (View.ld x r0_28 : FVec Ideal S1024x256 .bf16) (ix2 k n) = x (ix2 k (⟨9 * 256 + (n : ℕ), by omega⟩ : Fin 2816)) := by
  pointwise []

theorem ldd9 (x : Vec Ideal S2816x1024 .bf16) (n : Fin 256) (k : Fin 1024) :
    (View.ld x r0_29 : FVec Ideal S256x1024 .bf16) (ix2 n k) = x (ix2 (⟨9 * 256 + (n : ℕ), by omega⟩ : Fin 2816) k) := by
  pointwise []

theorem ldw10 (x : Vec Ideal S1024x2816 .bf16) (k : Fin 1024) (n : Fin 256) :
    (View.ld x r0_30 : FVec Ideal S1024x256 .bf16) (ix2 k n) = x (ix2 k (⟨10 * 256 + (n : ℕ), by omega⟩ : Fin 2816)) := by
  pointwise []

theorem ldd10 (x : Vec Ideal S2816x1024 .bf16) (n : Fin 256) (k : Fin 1024) :
    (View.ld x r0_31 : FVec Ideal S256x1024 .bf16) (ix2 n k) = x (ix2 (⟨10 * 256 + (n : ℕ), by omega⟩ : Fin 2816) k) := by
  pointwise []

theorem tile_congr (h : Fin 1024 → EReal) (j : Fin 1024) {a a' b b' : Fin 1024 → Fin 256 → EReal} {d d' : Fin 256 → Fin 1024 → EReal}
    (ha : ∀ k n, a k n = a' k n) (hb : ∀ k n, b k n = b' k n) (hd : ∀ n j, d n j = d' n j) :
    tile h a b d j = tile h a' b' d' j := by
  rw [show a = a' from funext fun k => funext (ha k), show b = b' from funext fun k => funext (hb k),
    show d = d' from funext fun k => funext (hd k)]

set_option maxHeartbeats 1600000 in
/-- The kernel's result at one row, over any blocks: the formula of the layer's last block. -/
theorem row (x0 : Vec Ideal S1x256x1024 .f32) (x1 : Vec Ideal S1x256x768 .f32) (x2 : Vec Ideal S1x256x256 .f32) (x3 : Vec Ideal S1x8x256 .f32) (x4 : Vec Ideal S1x256x256 .f32) (x5 : Vec Ideal S1x256x256 .f32) (x6 : Vec Ideal S1x256x256 .f32) (x7 : Vec Ideal S1x256x1024 .f32) (x8 : Vec Ideal S1x256x1024 .f32) (x9 : Vec Ideal S1x256x1024 .f32) (x10 : Vec Ideal S1x256x1024 .f32) (x11 : Vec Ideal S3x256 .f32) (x12 : Vec Ideal S1x256 .f32) (x13 : Vec Ideal S1x768 .f32) (x14 : Vec Ideal S256x1024 .bf16) (x15 : Vec Ideal S768x1024 .bf16) (x16 : Vec Ideal S1x1024 .f32) (x17 : Vec Ideal S1x1024 .f32) (x18 : Vec Ideal S1x1024 .f32) (x19 : Vec Ideal S1x1024 .f32) (x20 : Vec Ideal S1024x2816 .bf16) (x21 : Vec Ideal S1024x2816 .bf16) (x22 : Vec Ideal S2816x1024 .bf16)
    (W : Fin 2 → Fin 256 → EReal) (U : Fin 8 → Fin 256 → EReal) (r : Fin 256) (s : Fin 8) (hs : (s : ℕ) = (r : ℕ) % 8)
    (h2 : ∀ (a : Fin 256) (s : Fin 8) c, (a : ℕ) / 8 = (r : ℕ) / 8 → (s : ℕ) = (a : ℕ) % 8 → x2 (ix3 (0 : Fin 1) a c) = U s c)
    (h5 : ∀ (a : Fin 2) c, (a : ℕ) = (r : ℕ) % 8 + 1 → x5 (ix3 (0 : Fin 1) r c) = W a c)
    (h6 : ∀ (a : Fin 2) c, (a : ℕ) = (r : ℕ) % 8 → x6 (ix3 (0 : Fin 1) r c) = W a c) (j : Fin 1024) :
    out0_23 (F := Ideal) x0 x1 x2 x3 x4 x5 x6 x7 x8 x9 x10 x11 x12 x13 x14 x15 x16 x17 x18 x19 x20 x21 x22 (ix3 (0 : Fin 1) r j)
      = block (fun k => x0 (ix3 (0 : Fin 1) r k)) (fun k => x7 (ix3 (0 : Fin 1) r k)) (fun k => x9 (ix3 (0 : Fin 1) r k)) (fun k => x8 (ix3 (0 : Fin 1) r k)) (fun k => x10 (ix3 (0 : Fin 1) r k)) (conv (fun k => x4 (ix3 (0 : Fin 1) r k)) (fun c => x11 (ix2 (0 : Fin 3) c)) (fun c => x11 (ix2 (1 : Fin 3) c)) (fun c => x11 (ix2 (2 : Fin 3) c)) (before W U 2 s) (before W U 1 s) (before W U 0 s)) (fun k => x12 (ix2 (0 : Fin 1) k)) (fun k => x1 (ix3 (0 : Fin 1) r k)) (fun k => x13 (ix2 (0 : Fin 1) k))
          (fun c j => x14 (ix2 c j)) (fun c j => x15 (ix2 c j)) (fun k => x16 (ix2 (0 : Fin 1) k)) (fun k => x17 (ix2 (0 : Fin 1) k)) (fun k => x18 (ix2 (0 : Fin 1) k)) (fun k => x19 (ix2 (0 : Fin 1) k)) (fun k n => x20 (ix2 k n)) (fun k n => x21 (ix2 k n)) (fun n j => x22 (ix2 n j)) j := by
  have H17 : ∀ k, alpha * x0 (ix3 (0 : Fin 1) r k) + x7 (ix3 (0 : Fin 1) r k) * (k0_pay17 (F := Ideal) x0 x1 x2 x3 x4 x5 x6 x7 x8 x9 x10 x11 x12 x13 x14 x15 x16 x17 x18 x19 x20 x21 x22) (ix2 r k) = mix (fun k => x0 (ix3 (0 : Fin 1) r k)) (fun k => x7 (ix3 (0 : Fin 1) r k)) (rms (Ideal.ofBits .f32 0x43800000#32) (conv (fun k => x4 (ix3 (0 : Fin 1) r k)) (fun c => x11 (ix2 (0 : Fin 3) c)) (fun c => x11 (ix2 (1 : Fin 3) c)) (fun c => x11 (ix2 (2 : Fin 3) c)) (before W U 2 s) (before W U 1 s) (before W U 0 s)) (fun k => x12 (ix2 (0 : Fin 1) k))) (rms (Ideal.ofBits .f32 0x44400000#32) (fun k => x1 (ix3 (0 : Fin 1) r k)) (fun k => x13 (ix2 (0 : Fin 1) k))) (fun c j => x14 (ix2 c j)) (fun c j => x15 (ix2 c j)) k := fun k => by
    unfold k0_pay17
    simp only [ld0, ld1, ld2, ld3, ld4, ld5, ld6, ld7]
    rw [p4 _ _ x12 x1 x13 x14 x15 r (conv (fun k => x4 (ix3 (0 : Fin 1) r k)) (fun c => x11 (ix2 (0 : Fin 3) c)) (fun c => x11 (ix2 (1 : Fin 3) c)) (fun c => x11 (ix2 (2 : Fin 3) c)) (before W U 2 s) (before W U 1 s) (before W U 0 s)) (fun k => by
      rw [p3 x2 x3 x5 x6 x11 W U r s hs h2 h5 h6 k]
      pointwise [k0_pay2, conv]) k]
    rfl
  unfold block
  generalize hz : mix (fun k => x0 (ix3 (0 : Fin 1) r k)) (fun k => x7 (ix3 (0 : Fin 1) r k)) (rms (Ideal.ofBits .f32 0x43800000#32) (conv (fun k => x4 (ix3 (0 : Fin 1) r k)) (fun c => x11 (ix2 (0 : Fin 3) c)) (fun c => x11 (ix2 (1 : Fin 3) c)) (fun c => x11 (ix2 (2 : Fin 3) c)) (before W U 2 s) (before W U 1 s) (before W U 0 s)) (fun k => x12 (ix2 (0 : Fin 1) k))) (rms (Ideal.ofBits .f32 0x44400000#32) (fun k => x1 (ix3 (0 : Fin 1) r k)) (fun k => x13 (ix2 (0 : Fin 1) k))) (fun c j => x14 (ix2 c j)) (fun c j => x15 (ix2 c j)) = z at H17 ⊢
  have H5 : ∀ k, (k0_pay5 (k0_pay17 (F := Ideal) x0 x1 x2 x3 x4 x5 x6 x7 x8 x9 x10 x11 x12 x13 x14 x15 x16 x17 x18 x19 x20 x21 x22) (View.ld x0 r0_8) (View.ld x7 r0_8) (View.ld x16 r0_9) (View.ld x17 r0_9)) (ix2 r k) = ln z (fun k => x16 (ix2 (0 : Fin 1) k)) (fun k => x17 (ix2 (0 : Fin 1) k)) k := fun k => by
    simp only [ld8, ld9]
    exact p5 _ x0 x7 x16 x17 r z H17 k
  generalize hx1 : ln z (fun k => x16 (ix2 (0 : Fin 1) k)) (fun k => x17 (ix2 (0 : Fin 1) k)) = x1v at H5 ⊢
  have H7 : ∀ k, k0_pay7 (k0_pay18 (F := Ideal) x0 x1 x2 x3 x4 x5 x6 x7 x8 x9 x10 x11 x12 x13 x14 x15 x16 x17 x18 x19 x20 x21 x22) (View.ld x8 r0_8) (ix2 r k) = modu x1v (fun k => x9 (ix3 (0 : Fin 1) r k)) (fun k => x8 (ix3 (0 : Fin 1) r k)) k := fun k => by
    unfold k0_pay18
    rw [p6 _ _ _ _ _ _ _ r x1v H5 k]
    rw [ld8 x9, ld8 x8]
  generalize hh : modu x1v (fun k => x9 (ix3 (0 : Fin 1) r k)) (fun k => x8 (ix3 (0 : Fin 1) r k)) = h at H7 ⊢
  have H19 : ∀ k, (k0_pay19 (F := Ideal) x0 x1 x2 x3 x4 x5 x6 x7 x8 x9 x10 x11 x12 x13 x14 x15 x16 x17 x18 x19 x20 x21 x22) (ix2 r k) = h k := fun k => by
    unfold k0_pay19
    exact H7 k
  have H14 : ∀ j, (k0_pay14 (k0_pay19 (F := Ideal) x0 x1 x2 x3 x4 x5 x6 x7 x8 x9 x10 x11 x12 x13 x14 x15 x16 x17 x18 x19 x20 x21 x22) (k0_pay12 (k0_pay19 (F := Ideal) x0 x1 x2 x3 x4 x5 x6 x7 x8 x9 x10 x11 x12 x13 x14 x15 x16 x17 x18 x19 x20 x21 x22) (k0_pay11 (k0_pay19 (F := Ideal) x0 x1 x2 x3 x4 x5 x6 x7 x8 x9 x10 x11 x12 x13 x14 x15 x16 x17 x18 x19 x20 x21 x22) (k0_pay8 (k0_pay18 (F := Ideal) x0 x1 x2 x3 x4 x5 x6 x7 x8 x9 x10 x11 x12 x13 x14 x15 x16 x17 x18 x19 x20 x21 x22) (View.ld x8 r0_8) (View.ld x20 r0_10) (View.ld x21 r0_10) (View.ld x22 r0_11) (View.ld x20 r0_12) (View.ld x21 r0_12) (View.ld x22 r0_13)) (k0_pay9 (k0_pay18 (F := Ideal) x0 x1 x2 x3 x4 x5 x6 x7 x8 x9 x10 x11 x12 x13 x14 x15 x16 x17 x18 x19 x20 x21 x22) (View.ld x8 r0_8) (View.ld x20 r0_14)) (k0_pay10 (View.ld x21 r0_14)) (View.ld x22 r0_15) (View.ld x20 r0_16) (View.ld x21 r0_16) (View.ld x22 r0_17) (View.ld x20 r0_18) (View.ld x21 r0_18) (View.ld x22 r0_19)) (View.ld x20 r0_20) (View.ld x21 r0_20) (View.ld x22 r0_21) (View.ld x20 r0_22) (View.ld x21 r0_22) (View.ld x22 r0_23)) (k0_pay13 (k0_pay19 (F := Ideal) x0 x1 x2 x3 x4 x5 x6 x7 x8 x9 x10 x11 x12 x13 x14 x15 x16 x17 x18 x19 x20 x21 x22) (View.ld x20 r0_24) (View.ld x21 r0_24)) (View.ld x22 r0_25) (View.ld x20 r0_26) (View.ld x21 r0_26) (View.ld x22 r0_27) (View.ld x20 r0_28) (View.ld x21 r0_28) (View.ld x22 r0_29)) (ix2 r j) = (tile h (fun k n => x20 (ix2 k (⟨0 * 256 + (n : ℕ), by omega⟩ : Fin 2816))) (fun k n => x21 (ix2 k (⟨0 * 256 + (n : ℕ), by omega⟩ : Fin 2816))) (fun n j => x22 (ix2 (⟨0 * 256 + (n : ℕ), by omega⟩ : Fin 2816) j)) j) + (tile h (fun k n => x20 (ix2 k (⟨1 * 256 + (n : ℕ), by omega⟩ : Fin 2816))) (fun k n => x21 (ix2 k (⟨1 * 256 + (n : ℕ), by omega⟩ : Fin 2816))) (fun n j => x22 (ix2 (⟨1 * 256 + (n : ℕ), by omega⟩ : Fin 2816) j)) j) + (tile h (fun k n => x20 (ix2 k (⟨2 * 256 + (n : ℕ), by omega⟩ : Fin 2816))) (fun k n => x21 (ix2 k (⟨2 * 256 + (n : ℕ), by omega⟩ : Fin 2816))) (fun n j => x22 (ix2 (⟨2 * 256 + (n : ℕ), by omega⟩ : Fin 2816) j)) j) + (tile h (fun k n => x20 (ix2 k (⟨3 * 256 + (n : ℕ), by omega⟩ : Fin 2816))) (fun k n => x21 (ix2 k (⟨3 * 256 + (n : ℕ), by omega⟩ : Fin 2816))) (fun n j => x22 (ix2 (⟨3 * 256 + (n : ℕ), by omega⟩ : Fin 2816) j)) j) + (tile h (fun k n => x20 (ix2 k (⟨4 * 256 + (n : ℕ), by omega⟩ : Fin 2816))) (fun k n => x21 (ix2 k (⟨4 * 256 + (n : ℕ), by omega⟩ : Fin 2816))) (fun n j => x22 (ix2 (⟨4 * 256 + (n : ℕ), by omega⟩ : Fin 2816) j)) j) + (tile h (fun k n => x20 (ix2 k (⟨5 * 256 + (n : ℕ), by omega⟩ : Fin 2816))) (fun k n => x21 (ix2 k (⟨5 * 256 + (n : ℕ), by omega⟩ : Fin 2816))) (fun n j => x22 (ix2 (⟨5 * 256 + (n : ℕ), by omega⟩ : Fin 2816) j)) j) + (tile h (fun k n => x20 (ix2 k (⟨6 * 256 + (n : ℕ), by omega⟩ : Fin 2816))) (fun k n => x21 (ix2 k (⟨6 * 256 + (n : ℕ), by omega⟩ : Fin 2816))) (fun n j => x22 (ix2 (⟨6 * 256 + (n : ℕ), by omega⟩ : Fin 2816) j)) j) + (tile h (fun k n => x20 (ix2 k (⟨7 * 256 + (n : ℕ), by omega⟩ : Fin 2816))) (fun k n => x21 (ix2 k (⟨7 * 256 + (n : ℕ), by omega⟩ : Fin 2816))) (fun n j => x22 (ix2 (⟨7 * 256 + (n : ℕ), by omega⟩ : Fin 2816) j)) j) + (tile h (fun k n => x20 (ix2 k (⟨8 * 256 + (n : ℕ), by omega⟩ : Fin 2816))) (fun k n => x21 (ix2 k (⟨8 * 256 + (n : ℕ), by omega⟩ : Fin 2816))) (fun n j => x22 (ix2 (⟨8 * 256 + (n : ℕ), by omega⟩ : Fin 2816) j)) j) + (tile h (fun k n => x20 (ix2 k (⟨9 * 256 + (n : ℕ), by omega⟩ : Fin 2816))) (fun k n => x21 (ix2 k (⟨9 * 256 + (n : ℕ), by omega⟩ : Fin 2816))) (fun n j => x22 (ix2 (⟨9 * 256 + (n : ℕ), by omega⟩ : Fin 2816) j)) j) := fun j => by
    rw [p14 _ _ _ _ _ _ _ _ _ _ _ r h H19 j, p12 _ _ _ _ _ _ _ _ r h H19 j,
      p11 _ _ _ _ _ _ _ _ _ _ _ _ r h H19 (fun n => p9 _ _ _ r h H7 n) j, p8 _ _ _ _ _ _ _ _ r h H7 j]
    exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) ((tile_congr h j (fun k n => ldw0 x20 k n) (fun k n => ldw0 x21 k n) (fun n j => ldd0 x22 n j)))
      (tile_congr h j (fun k n => ldw1 x20 k n) (fun k n => ldw1 x21 k n) (fun n j => ldd1 x22 n j)))
      (tile_congr h j (fun k n => ldw2 x20 k n) (fun k n => ldw2 x21 k n) (fun n j => ldd2 x22 n j)))
      (tile_congr h j (fun k n => ldw3 x20 k n) (fun k n => ldw3 x21 k n) (fun n j => ldd3 x22 n j)))
      (tile_congr h j (fun k n => ldw4 x20 k n) (fun k n => ldw4 x21 k n) (fun n j => ldd4 x22 n j)))
      (tile_congr h j (fun k n => ldw5 x20 k n) (fun k n => ldw5 x21 k n) (fun n j => ldd5 x22 n j)))
      (tile_congr h j (fun k n => ldw6 x20 k n) (fun k n => ldw6 x21 k n) (fun n j => ldd6 x22 n j)))
      (tile_congr h j (fun k n => ldw7 x20 k n) (fun k n => ldw7 x21 k n) (fun n j => ldd7 x22 n j)))
      (tile_congr h j (fun k n => ldw8 x20 k n) (fun k n => ldw8 x21 k n) (fun n j => ldd8 x22 n j)))
      (tile_congr h j (fun k n => ldw9 x20 k n) (fun k n => ldw9 x21 k n) (fun n j => ldd9 x22 n j))
  have HF : ∀ j, alpha * (k0_pay5 (k0_pay17 (F := Ideal) x0 x1 x2 x3 x4 x5 x6 x7 x8 x9 x10 x11 x12 x13 x14 x15 x16 x17 x18 x19 x20 x21 x22) (View.ld x0 r0_8) (View.ld x7 r0_8) (View.ld x16 r0_9) (View.ld x17 r0_9)) (ix2 r j) + (View.ld x10 r0_8 : FVec Ideal S1x256x1024 .f32) (ix3 (0 : Fin 1) r j) * ((k0_pay14 (k0_pay19 (F := Ideal) x0 x1 x2 x3 x4 x5 x6 x7 x8 x9 x10 x11 x12 x13 x14 x15 x16 x17 x18 x19 x20 x21 x22) (k0_pay12 (k0_pay19 (F := Ideal) x0 x1 x2 x3 x4 x5 x6 x7 x8 x9 x10 x11 x12 x13 x14 x15 x16 x17 x18 x19 x20 x21 x22) (k0_pay11 (k0_pay19 (F := Ideal) x0 x1 x2 x3 x4 x5 x6 x7 x8 x9 x10 x11 x12 x13 x14 x15 x16 x17 x18 x19 x20 x21 x22) (k0_pay8 (k0_pay18 (F := Ideal) x0 x1 x2 x3 x4 x5 x6 x7 x8 x9 x10 x11 x12 x13 x14 x15 x16 x17 x18 x19 x20 x21 x22) (View.ld x8 r0_8) (View.ld x20 r0_10) (View.ld x21 r0_10) (View.ld x22 r0_11) (View.ld x20 r0_12) (View.ld x21 r0_12) (View.ld x22 r0_13)) (k0_pay9 (k0_pay18 (F := Ideal) x0 x1 x2 x3 x4 x5 x6 x7 x8 x9 x10 x11 x12 x13 x14 x15 x16 x17 x18 x19 x20 x21 x22) (View.ld x8 r0_8) (View.ld x20 r0_14)) (k0_pay10 (View.ld x21 r0_14)) (View.ld x22 r0_15) (View.ld x20 r0_16) (View.ld x21 r0_16) (View.ld x22 r0_17) (View.ld x20 r0_18) (View.ld x21 r0_18) (View.ld x22 r0_19)) (View.ld x20 r0_20) (View.ld x21 r0_20) (View.ld x22 r0_21) (View.ld x20 r0_22) (View.ld x21 r0_22) (View.ld x22 r0_23)) (k0_pay13 (k0_pay19 (F := Ideal) x0 x1 x2 x3 x4 x5 x6 x7 x8 x9 x10 x11 x12 x13 x14 x15 x16 x17 x18 x19 x20 x21 x22) (View.ld x20 r0_24) (View.ld x21 r0_24)) (View.ld x22 r0_25) (View.ld x20 r0_26) (View.ld x21 r0_26) (View.ld x22 r0_27) (View.ld x20 r0_28) (View.ld x21 r0_28) (View.ld x22 r0_29)) (ix2 r j)
      + tile h (fun k n => (View.ld x20 r0_30 : FVec Ideal S1024x256 .bf16) (ix2 k n)) (fun k n => (View.ld x21 r0_30 : FVec Ideal S1024x256 .bf16) (ix2 k n)) (fun n j => (View.ld x22 r0_31 : FVec Ideal S256x1024 .bf16) (ix2 n j)) j)
      = ffn x1v (fun k => x10 (ix3 (0 : Fin 1) r k)) h (fun k n => x20 (ix2 k n)) (fun k n => x21 (ix2 k n)) (fun n j => x22 (ix2 n j)) j := fun j => by
    rw [H5, H14, ld8]
    refine (congrArg (fun q => alpha * x1v j + x10 (ix3 (0 : Fin 1) r j) * q)
      (congrArg₂ (· + ·) rfl (tile_congr h j (fun k n => ldw10 x20 k n) (fun k n => ldw10 x21 k n) (fun n j => ldd10 x22 n j)))).trans ?_
    exact ffn_tiles x1v (fun k => x10 (ix3 (0 : Fin 1) r k)) h (fun k n => x20 (ix2 k n)) (fun k n => x21 (ix2 k n)) (fun n j => x22 (ix2 n j)) j
      (fun q => if hq : q < 11 then (tile h (fun k n => x20 (ix2 k (⟨q * 256 + (n : ℕ), by omega⟩ : Fin 2816))) (fun k n => x21 (ix2 k (⟨q * 256 + (n : ℕ), by omega⟩ : Fin 2816))) (fun n j => x22 (ix2 (⟨q * 256 + (n : ℕ), by omega⟩ : Fin 2816) j)) j) else 0)
      (fun q => dif_pos q.isLt)
  unfold out0_23
  rw [View.canon_cons_unit_lit _ _ _ (by decide)]
  rw [p16 _ _ _ _ _ _ _ _ _ r h _ H19 HF j]
  rw [ld9 x18, ld9 x19]

end Cert.Kernel5Ideal.Row

end
-- ==== Proof.SamplePost.lean ====
module

public import proofs.«01_k».proof.Proof.SamplePostRef
public import proofs.«01_k».proof.Proof.SamplePostKer
public import Idealize.ShloMosaic.Lib.Pipeline.ValueKit
public import Idealize.ShloMosaic.Lib.Pointwise
public import Idealize.ShloMosaic.Lib.Claim
public import Idealize.ShloMosaic.Lib.StableHlo.RunRead
public import proofs.«01_k».proof.Proof.Consts
public import proofs.«01_k».proof.Proof.Spec

@[expose] public section

set_option maxRecDepth 16384

noncomputable section

open Idealize.ShloMosaic Idealize.ShloMosaic.TcCoe Idealize.SL.Sem
open Idealize.ShloMosaic.Pipeline (Dat)

namespace Cert.Kernel5Ideal.Val

open Cert.Kernel5Ideal Cert.Kernel5Ideal.Gen Cert.Kernel5Ideal.Own Cert.Kernel5Ideal.Row Cert.Spec

variable (m : (ℓ : Loc nD τ sig) → Buf (Elt Ideal) ℓ)

/-- The host operations before the call, one after another. -/
abbrev host (σ : Valuation τ sig (Elt Ideal)) : Valuation τ sig (Elt Ideal) :=
  StableHlo.after hostOps0_5 (StableHlo.after hostOps0_4 (StableHlo.after hostOps0_3 (StableHlo.after hostOps0_2 (StableHlo.after hostOps0_1 (StableHlo.after hostOps0 σ)))))

theorem V_host (c : Dev nD) (b : Ref sig .tc) : V m c b = host (fun b => m (c, b)) b := by
  show StableHlo.after (hostOps0 ++ (hostOps0_1 ++ (hostOps0_2 ++ (hostOps0_3 ++ (hostOps0_4 ++ (hostOps0_5 ++ [])))))) (fun b => m (c, b)) b = _
  rw [List.append_nil, StableHlo.after_append, StableHlo.after_append, StableHlo.after_append, StableHlo.after_append, StableHlo.after_append]

open StableHlo in
theorem hv2 (σ : Valuation τ sig (Elt Ideal)) (k : Fin 768) :
    (show FVec Ideal S1x768 .f32 from host σ (Proc.devRef .tc main_v2)) (ix2 (0 : Fin 1) k) = (show FVec Ideal S768 .f32 from σ (Proc.devRef .tc main_arg11)) (ix1 (perm k)) := by
  after_reads_simp
  pointwise []
  rfl

open StableHlo in
theorem hv10 (σ : Valuation τ sig (Elt Ideal)) (k : Fin 768) (j : Fin 1024) :
    (show FVec Ideal S768x1024 .bf16 from host σ (Proc.devRef .tc main_v10)) (ix2 k j) = (show FVec Ideal S1024x1024 .f32 from σ (Proc.devRef .tc main_arg12)) (ix2 (⟨256 + (perm k : ℕ), by omega⟩ : Fin 1024) j) := by
  after_reads_simp
  pointwise []
  rfl

open StableHlo in
theorem hv8 (σ : Valuation τ sig (Elt Ideal)) (k : Fin 256) (j : Fin 1024) :
    (show FVec Ideal S256x1024 .bf16 from host σ (Proc.devRef .tc main_v8)) (ix2 k j) = (show FVec Ideal S1024x1024 .f32 from σ (Proc.devRef .tc main_arg12)) (ix2 (⟨(k : ℕ), by omega⟩ : Fin 1024) j) := by
  after_reads_simp
  pointwise []

open StableHlo in
theorem hv6 (σ : Valuation τ sig (Elt Ideal)) (k : Fin 256) :
    (show FVec Ideal S1x256 .f32 from host σ (Proc.devRef .tc main_v6)) (ix2 (0 : Fin 1) k) = (show FVec Ideal S256 .f32 from σ (Proc.devRef .tc main_arg10)) (ix1 k) := by
  after_reads_simp
  pointwise []

open StableHlo in
theorem hv11 (σ : Valuation τ sig (Elt Ideal)) (k : Fin 1024) :
    (show FVec Ideal S1x1024 .f32 from host σ (Proc.devRef .tc main_v11)) (ix2 (0 : Fin 1) k) = (show FVec Ideal S1024 .f32 from σ (Proc.devRef .tc main_arg13)) (ix1 k) := by
  after_reads_simp
  pointwise []

open StableHlo in
theorem hv12 (σ : Valuation τ sig (Elt Ideal)) (k : Fin 1024) :
    (show FVec Ideal S1x1024 .f32 from host σ (Proc.devRef .tc main_v12)) (ix2 (0 : Fin 1) k) = (show FVec Ideal S1024 .f32 from σ (Proc.devRef .tc main_arg14)) (ix1 k) := by
  after_reads_simp
  pointwise []

open StableHlo in
theorem hv13 (σ : Valuation τ sig (Elt Ideal)) (k : Fin 1024) :
    (show FVec Ideal S1x1024 .f32 from host σ (Proc.devRef .tc main_v13)) (ix2 (0 : Fin 1) k) = (show FVec Ideal S1024 .f32 from σ (Proc.devRef .tc main_arg15)) (ix1 k) := by
  after_reads_simp
  pointwise []

open StableHlo in
theorem hv14 (σ : Valuation τ sig (Elt Ideal)) (k : Fin 1024) :
    (show FVec Ideal S1x1024 .f32 from host σ (Proc.devRef .tc main_v14)) (ix2 (0 : Fin 1) k) = (show FVec Ideal S1024 .f32 from σ (Proc.devRef .tc main_arg16)) (ix1 k) := by
  after_reads_simp
  pointwise []

open StableHlo in
theorem hv15 (σ : Valuation τ sig (Elt Ideal)) (k : Fin 1024) (n : Fin 2816) :
    (show FVec Ideal S1024x2816 .bf16 from host σ (Proc.devRef .tc main_v15)) (ix2 k n) = (show FVec Ideal S1024x2816 .f32 from σ (Proc.devRef .tc main_arg17)) (ix2 k n) := by
  after_reads_simp
  pointwise []

open StableHlo in
theorem hv16 (σ : Valuation τ sig (Elt Ideal)) (k : Fin 1024) (n : Fin 2816) :
    (show FVec Ideal S1024x2816 .bf16 from host σ (Proc.devRef .tc main_v16)) (ix2 k n) = (show FVec Ideal S1024x2816 .f32 from σ (Proc.devRef .tc main_arg18)) (ix2 k n) := by
  after_reads_simp
  pointwise []

open StableHlo in
theorem hv17 (σ : Valuation τ sig (Elt Ideal)) (k : Fin 1024) (n : Fin 2816) :
    (show FVec Ideal S2816x1024 .bf16 from host σ (Proc.devRef .tc main_v17)) (ix2 n k) = (show FVec Ideal S2816x1024 .f32 from σ (Proc.devRef .tc main_arg19)) (ix2 n k) := by
  after_reads_simp
  pointwise []

open StableHlo in
theorem hv20 (σ : Valuation τ sig (Elt Ideal)) (b : Fin 32) (s : Fin 8) (r : Fin 256) (hb : (b : ℕ) = (r : ℕ) / 8) (hs : (s : ℕ) = (r : ℕ) % 8) (k : Fin 1024) :
    (show FVec Ideal S1x256x1024 .f32 from host σ (Proc.devRef .tc main_v20)) (ix3 (0 : Fin 1) r k) = (show FVec Ideal S32x1024 .f32 from σ (Proc.devRef .tc main_arg5)) (ix2 b k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv23 (σ : Valuation τ sig (Elt Ideal)) (b : Fin 32) (s : Fin 8) (r : Fin 256) (hb : (b : ℕ) = (r : ℕ) / 8) (hs : (s : ℕ) = (r : ℕ) % 8) (k : Fin 1024) :
    (show FVec Ideal S1x256x1024 .f32 from host σ (Proc.devRef .tc main_v23)) (ix3 (0 : Fin 1) r k) = (show FVec Ideal S32x1024 .f32 from σ (Proc.devRef .tc main_arg6)) (ix2 b k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv26 (σ : Valuation τ sig (Elt Ideal)) (b : Fin 32) (s : Fin 8) (r : Fin 256) (hb : (b : ℕ) = (r : ℕ) / 8) (hs : (s : ℕ) = (r : ℕ) % 8) (k : Fin 1024) :
    (show FVec Ideal S1x256x1024 .f32 from host σ (Proc.devRef .tc main_v26)) (ix3 (0 : Fin 1) r k) = (show FVec Ideal S32x1024 .f32 from σ (Proc.devRef .tc main_arg7)) (ix2 b k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv29 (σ : Valuation τ sig (Elt Ideal)) (b : Fin 32) (s : Fin 8) (r : Fin 256) (hb : (b : ℕ) = (r : ℕ) / 8) (hs : (s : ℕ) = (r : ℕ) % 8) (k : Fin 1024) :
    (show FVec Ideal S1x256x1024 .f32 from host σ (Proc.devRef .tc main_v29)) (ix3 (0 : Fin 1) r k) = (show FVec Ideal S32x1024 .f32 from σ (Proc.devRef .tc main_arg8)) (ix2 b k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv46 (σ : Valuation τ sig (Elt Ideal)) (b : Fin 32) (s : Fin 8) (r : Fin 256) (hb : (b : ℕ) = (r : ℕ) / 8) (hs : (s : ℕ) = (r : ℕ) % 8) (k : Fin 1024) :
    (show FVec Ideal S1x256x1024 .f32 from host σ (Proc.devRef .tc main_v46)) (ix3 (0 : Fin 1) r k) = (show FVec Ideal S32x8x1024 .f32 from σ (Proc.devRef .tc main_arg0)) (ix3 b s k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv47 (σ : Valuation τ sig (Elt Ideal)) (b : Fin 32) (s : Fin 8) (r : Fin 256) (hb : (b : ℕ) = (r : ℕ) / 8) (hs : (s : ℕ) = (r : ℕ) % 8) (k : Fin 768) :
    (show FVec Ideal S1x256x768 .f32 from host σ (Proc.devRef .tc main_v47)) (ix3 (0 : Fin 1) r k) = (show FVec Ideal S32x8x768 .f32 from σ (Proc.devRef .tc main_arg1)) (ix3 b s k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv48 (σ : Valuation τ sig (Elt Ideal)) (b : Fin 32) (s : Fin 8) (r : Fin 256) (hb : (b : ℕ) = (r : ℕ) / 8) (hs : (s : ℕ) = (r : ℕ) % 8) (k : Fin 256) :
    (show FVec Ideal S1x256x256 .f32 from host σ (Proc.devRef .tc main_v48)) (ix3 (0 : Fin 1) r k) = (show FVec Ideal S32x8x256 .f32 from σ (Proc.devRef .tc main_arg2)) (ix3 b s k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv49 (σ : Valuation τ sig (Elt Ideal)) (b : Fin 32) (s : Fin 8) (r : Fin 256) (hb : (b : ℕ) = (r : ℕ) / 8) (hs : (s : ℕ) = (r : ℕ) % 8) (k : Fin 256) :
    (show FVec Ideal S1x256x256 .f32 from host σ (Proc.devRef .tc main_v49)) (ix3 (0 : Fin 1) r k) = (show FVec Ideal S32x8x256 .f32 from σ (Proc.devRef .tc main_arg3)) (ix3 b s k) := by
  after_reads_simp
  obtain rfl : b = ⟨(r : ℕ) / 8, Nat.div_lt_of_lt_mul r.isLt⟩ := Fin.ext hb
  obtain rfl : s = ⟨(r : ℕ) % 8, Nat.mod_lt _ (by decide)⟩ := Fin.ext hs
  pointwise []

open StableHlo in
theorem hv36 (σ : Valuation τ sig (Elt Ideal)) (b : Fin 32) (s : Fin 8) (r : Fin 256) (hb : (b : ℕ) = (r : ℕ) / 8) (hs : (s : ℕ) = (r : ℕ) % 8) (k : Fin 256) (a : Fin 2) (ha : (a : ℕ) = (r : ℕ) % 8 + 1) :
    (show FVec Ideal S1x256x256 .f32 from host σ (Proc.devRef .tc main_v36)) (ix3 (0 : Fin 1) r k) = (show FVec Ideal S32x2x256 .f32 from σ (Proc.devRef .tc main_arg4)) (ix3 b a k) := by
  obtain rfl : b = ⟨(r : ℕ) / 8, Nat.div_lt_of_lt_mul r.isLt⟩ := Fin.ext hb
  obtain rfl : s = ⟨(r : ℕ) % 8, Nat.mod_lt _ (by decide)⟩ := Fin.ext hs
  after_reads_simp
  simp only [TRef.toBuf, TRef.ofBuf, cast_eq, id]
  pointwise []
  obtain rfl : a = 1 := Fin.ext (by omega)
  have h : (r : ℕ) % 8 = 0 := by omega
  have hc : IntOp.cmpi CmpIPredicate.eq (BitVec.ofNat 32 ((r : ℕ) % 8)) 0#32 = 1#1 := by rw [h]; rfl
  exact (congrArg (fun q => Scalar.select q _ _) hc).trans (if_pos rfl)

open StableHlo in
theorem hv45 (σ : Valuation τ sig (Elt Ideal)) (b : Fin 32) (s : Fin 8) (r : Fin 256) (hb : (b : ℕ) = (r : ℕ) / 8) (hs : (s : ℕ) = (r : ℕ) % 8) (k : Fin 256) (a : Fin 2) (ha : (a : ℕ) = (r : ℕ) % 8) :
    (show FVec Ideal S1x256x256 .f32 from host σ (Proc.devRef .tc main_v45)) (ix3 (0 : Fin 1) r k) = (show FVec Ideal S32x2x256 .f32 from σ (Proc.devRef .tc main_arg4)) (ix3 b a k) := by
  obtain rfl : b = ⟨(r : ℕ) / 8, Nat.div_lt_of_lt_mul r.isLt⟩ := Fin.ext hb
  obtain rfl : s = ⟨(r : ℕ) % 8, Nat.mod_lt _ (by decide)⟩ := Fin.ext hs
  after_reads_simp
  simp only [TRef.toBuf, TRef.ofBuf, cast_eq, id]
  pointwise []
  obtain h | h : (r : ℕ) % 8 = 0 ∨ (r : ℕ) % 8 = 1 := by omega
  · obtain rfl : a = 0 := Fin.ext (by omega)
    have hc : IntOp.cmpi CmpIPredicate.eq (BitVec.ofNat 32 ((r : ℕ) % 8)) 0#32 = 1#1 := by rw [h]; rfl
    exact (congrArg (fun q => Scalar.select q _ _) hc).trans (if_pos rfl)
  · obtain rfl : a = 1 := Fin.ext (by omega)
    have hc : IntOp.cmpi CmpIPredicate.eq (BitVec.ofNat 32 ((r : ℕ) % 8)) 0#32 = 0#1 := by rw [h]; rfl
    have hd : IntOp.cmpi CmpIPredicate.eq (BitVec.ofNat 32 ((r : ℕ) % 8)) 1#32 = 1#1 := by rw [h]; rfl
    refine ((congrArg (fun q => Scalar.select q _ _) hc).trans (if_neg (by decide))).trans ?_
    exact (congrArg (fun q => Scalar.select q _ _) hd).trans (if_pos rfl)

/-- Every window's block index. -/
theorem idx : ∀ t : Fin cfg0.N, win0_0.index t = ![0, 0, 0]
    ∧ win0_1.index t = ![0, 0, 0]
    ∧ win0_2.index t = ![0, 0, 0]
    ∧ win0_3.index t = ![0, 0, 0]
    ∧ win0_4.index t = ![0, 0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0]
    ∧ win0_20.index t = ![0, 0]
    ∧ win0_21.index t = ![0, 0]
    ∧ win0_22.index t = ![0, 0]
    ∧ win0_23.index t = ![0, 0, 0] :=
  (by decide +kernel : ∀ t : Fin grid0.N, _)

theorem b0 (c : Dev nD) (t : Fin cfg0.N) (r : Fin 256) (k : Fin 1024) :
    (iblk m c 0 t : FVec Ideal S1x256x1024 .f32) (ix3 (0 : Fin 1) r k) = (V m c main_v46 : FVec Ideal _ .f32) (ix3 (0 : Fin 1) r k) := by
  blk_point [iblk, idx t]

theorem b1 (c : Dev nD) (t : Fin cfg0.N) (r : Fin 256) (k : Fin 768) :
    (iblk m c 1 t : FVec Ideal S1x256x768 .f32) (ix3 (0 : Fin 1) r k) = (V m c main_v47 : FVec Ideal _ .f32) (ix3 (0 : Fin 1) r k) := by
  blk_point [iblk, idx t]

theorem b2 (c : Dev nD) (t : Fin cfg0.N) (r : Fin 256) (k : Fin 256) :
    (iblk m c 2 t : FVec Ideal S1x256x256 .f32) (ix3 (0 : Fin 1) r k) = (V m c main_v48 : FVec Ideal _ .f32) (ix3 (0 : Fin 1) r k) := by
  blk_point [iblk, idx t]

theorem b4 (c : Dev nD) (t : Fin cfg0.N) (r : Fin 256) (k : Fin 256) :
    (iblk m c 4 t : FVec Ideal S1x256x256 .f32) (ix3 (0 : Fin 1) r k) = (V m c main_v49 : FVec Ideal _ .f32) (ix3 (0 : Fin 1) r k) := by
  blk_point [iblk, idx t]

theorem b5 (c : Dev nD) (t : Fin cfg0.N) (r : Fin 256) (k : Fin 256) :
    (iblk m c 5 t : FVec Ideal S1x256x256 .f32) (ix3 (0 : Fin 1) r k) = (V m c main_v36 : FVec Ideal _ .f32) (ix3 (0 : Fin 1) r k) := by
  blk_point [iblk, idx t]

theorem b6 (c : Dev nD) (t : Fin cfg0.N) (r : Fin 256) (k : Fin 256) :
    (iblk m c 6 t : FVec Ideal S1x256x256 .f32) (ix3 (0 : Fin 1) r k) = (V m c main_v45 : FVec Ideal _ .f32) (ix3 (0 : Fin 1) r k) := by
  blk_point [iblk, idx t]

theorem b7 (c : Dev nD) (t : Fin cfg0.N) (r : Fin 256) (k : Fin 1024) :
    (iblk m c 7 t : FVec Ideal S1x256x1024 .f32) (ix3 (0 : Fin 1) r k) = (V m c main_v20 : FVec Ideal _ .f32) (ix3 (0 : Fin 1) r k) := by
  blk_point [iblk, idx t]

theorem b8 (c : Dev nD) (t : Fin cfg0.N) (r : Fin 256) (k : Fin 1024) :
    (iblk m c 8 t : FVec Ideal S1x256x1024 .f32) (ix3 (0 : Fin 1) r k) = (V m c main_v23 : FVec Ideal _ .f32) (ix3 (0 : Fin 1) r k) := by
  blk_point [iblk, idx t]

theorem b9 (c : Dev nD) (t : Fin cfg0.N) (r : Fin 256) (k : Fin 1024) :
    (iblk m c 9 t : FVec Ideal S1x256x1024 .f32) (ix3 (0 : Fin 1) r k) = (V m c main_v26 : FVec Ideal _ .f32) (ix3 (0 : Fin 1) r k) := by
  blk_point [iblk, idx t]

theorem b10 (c : Dev nD) (t : Fin cfg0.N) (r : Fin 256) (k : Fin 1024) :
    (iblk m c 10 t : FVec Ideal S1x256x1024 .f32) (ix3 (0 : Fin 1) r k) = (V m c main_v29 : FVec Ideal _ .f32) (ix3 (0 : Fin 1) r k) := by
  blk_point [iblk, idx t]

theorem b11 (c : Dev nD) (t : Fin cfg0.N) (a : Fin 3) (k : Fin 256) :
    (iblk m c 11 t : FVec Ideal S3x256 .f32) (ix2 a k) = (V m c main_arg9 : FVec Ideal _ .f32) (ix2 a k) := by
  blk_point [iblk, idx t]

theorem b12 (c : Dev nD) (t : Fin cfg0.N) (a : Fin 1) (k : Fin 256) :
    (iblk m c 12 t : FVec Ideal S1x256 .f32) (ix2 a k) = (V m c main_v6 : FVec Ideal _ .f32) (ix2 a k) := by
  blk_point [iblk, idx t]

theorem b13 (c : Dev nD) (t : Fin cfg0.N) (a : Fin 1) (k : Fin 768) :
    (iblk m c 13 t : FVec Ideal S1x768 .f32) (ix2 a k) = (V m c main_v2 : FVec Ideal _ .f32) (ix2 a k) := by
  blk_point [iblk, idx t]

theorem b14 (c : Dev nD) (t : Fin cfg0.N) (a : Fin 256) (k : Fin 1024) :
    (iblk m c 14 t : FVec Ideal S256x1024 .bf16) (ix2 a k) = (V m c main_v8 : FVec Ideal _ .bf16) (ix2 a k) := by
  blk_point [iblk, idx t]

theorem b15 (c : Dev nD) (t : Fin cfg0.N) (a : Fin 768) (k : Fin 1024) :
    (iblk m c 15 t : FVec Ideal S768x1024 .bf16) (ix2 a k) = (V m c main_v10 : FVec Ideal _ .bf16) (ix2 a k) := by
  blk_point [iblk, idx t]

theorem b16 (c : Dev nD) (t : Fin cfg0.N) (a : Fin 1) (k : Fin 1024) :
    (iblk m c 16 t : FVec Ideal S1x1024 .f32) (ix2 a k) = (V m c main_v11 : FVec Ideal _ .f32) (ix2 a k) := by
  blk_point [iblk, idx t]

theorem b17 (c : Dev nD) (t : Fin cfg0.N) (a : Fin 1) (k : Fin 1024) :
    (iblk m c 17 t : FVec Ideal S1x1024 .f32) (ix2 a k) = (V m c main_v12 : FVec Ideal _ .f32) (ix2 a k) := by
  blk_point [iblk, idx t]

theorem b18 (c : Dev nD) (t : Fin cfg0.N) (a : Fin 1) (k : Fin 1024) :
    (iblk m c 18 t : FVec Ideal S1x1024 .f32) (ix2 a k) = (V m c main_v13 : FVec Ideal _ .f32) (ix2 a k) := by
  blk_point [iblk, idx t]

theorem b19 (c : Dev nD) (t : Fin cfg0.N) (a : Fin 1) (k : Fin 1024) :
    (iblk m c 19 t : FVec Ideal S1x1024 .f32) (ix2 a k) = (V m c main_v14 : FVec Ideal _ .f32) (ix2 a k) := by
  blk_point [iblk, idx t]

theorem b20 (c : Dev nD) (t : Fin cfg0.N) (a : Fin 1024) (k : Fin 2816) :
    (iblk m c 20 t : FVec Ideal S1024x2816 .bf16) (ix2 a k) = (V m c main_v15 : FVec Ideal _ .bf16) (ix2 a k) := by
  blk_point [iblk, idx t]

theorem b21 (c : Dev nD) (t : Fin cfg0.N) (a : Fin 1024) (k : Fin 2816) :
    (iblk m c 21 t : FVec Ideal S1024x2816 .bf16) (ix2 a k) = (V m c main_v16 : FVec Ideal _ .bf16) (ix2 a k) := by
  blk_point [iblk, idx t]

theorem b22 (c : Dev nD) (t : Fin cfg0.N) (a : Fin 2816) (k : Fin 1024) :
    (iblk m c 22 t : FVec Ideal S2816x1024 .bf16) (ix2 a k) = (V m c main_v17 : FVec Ideal _ .bf16) (ix2 a k) := by
  blk_point [iblk, idx t]

theorem block_congr {x x1 : Fin 1024 → EReal} {g1 g11 : Fin 1024 → EReal} {sc sc1 : Fin 1024 → EReal} {sh sh1 : Fin 1024 → EReal} {g2 g21 : Fin 1024 → EReal} {cv cv1 : Fin 256 → EReal} {gc gc1 : Fin 256 → EReal} {o o1 : Fin 768 → EReal} {gn gn1 : Fin 768 → EReal} {wy wy1 : Fin 256 → Fin 1024 → EReal} {wo wo1 : Fin 768 → Fin 1024 → EReal} {l1g l1g1 : Fin 1024 → EReal} {l1b l1b1 : Fin 1024 → EReal} {l2g l2g1 : Fin 1024 → EReal} {l2b l2b1 : Fin 1024 → EReal} {wg wg1 : Fin 1024 → Fin 2816 → EReal} {wu wu1 : Fin 1024 → Fin 2816 → EReal} {wd wd1 : Fin 2816 → Fin 1024 → EReal}
    (hx : x = x1) (hg1 : g1 = g11) (hsc : sc = sc1) (hsh : sh = sh1) (hg2 : g2 = g21) (hcv : cv = cv1) (hgc : gc = gc1) (ho : o = o1) (hgn : gn = gn1) (hwy : wy = wy1) (hwo : wo = wo1) (hl1g : l1g = l1g1) (hl1b : l1b = l1b1) (hl2g : l2g = l2g1) (hl2b : l2b = l2b1) (hwg : wg = wg1) (hwu : wu = wu1) (hwd : wd = wd1) (j : Fin 1024) :
    block x g1 sc sh g2 cv gc o gn wy wo l1g l1b l2g l2b wg wu wd j = block x1 g11 sc1 sh1 g21 cv1 gc1 o1 gn1 wy1 wo1 l1g1 l1b1 l2g1 l2b1 wg1 wu1 wd1 j := by
  subst hx hg1 hsc hsh hg2 hcv hgc ho hgn hwy hwo hl1g hl1b hl2g hl2b hwg hwu hwd
  rfl

theorem conv_congr {a a1 b b1 c c1 d d1 : Fin 256 → EReal} (p q r : Fin 256 → EReal) (ha : a = a1) (hb : b = b1) (hc : c = c1)
    (hd : d = d1) : conv a b c d p q r = conv a1 b1 c1 d1 p q r := by
  subst ha hb hc hd
  rfl

open Cert.Reference5Ideal.Row in
/-- The two memories hold the same arguments. -/
structure Same (V0 : Valuation Cert.Reference5Ideal.τ Cert.Reference5Ideal.sig (Elt Ideal)) (c : Dev nD) : Prop where
  h0 : aX V0 = (m ((c : Thread nD τ).loc main_arg0) : FVec Ideal S32x8x1024 .f32)
  h1 : aO V0 = (m ((c : Thread nD τ).loc main_arg1) : FVec Ideal S32x8x768 .f32)
  h2 : aU V0 = (m ((c : Thread nD τ).loc main_arg2) : FVec Ideal S32x8x256 .f32)
  h3 : aB V0 = (m ((c : Thread nD τ).loc main_arg3) : FVec Ideal S32x8x256 .f32)
  h4 : aST V0 = (m ((c : Thread nD τ).loc main_arg4) : FVec Ideal S32x2x256 .f32)
  h5 : aG1 V0 = (m ((c : Thread nD τ).loc main_arg5) : FVec Ideal S32x1024 .f32)
  h6 : aSH V0 = (m ((c : Thread nD τ).loc main_arg6) : FVec Ideal S32x1024 .f32)
  h7 : aSC V0 = (m ((c : Thread nD τ).loc main_arg7) : FVec Ideal S32x1024 .f32)
  h8 : aG2 V0 = (m ((c : Thread nD τ).loc main_arg8) : FVec Ideal S32x1024 .f32)
  h9 : aCW V0 = (m ((c : Thread nD τ).loc main_arg9) : FVec Ideal S3x256 .f32)
  h10 : aGC V0 = (m ((c : Thread nD τ).loc main_arg10) : FVec Ideal S256 .f32)
  h11 : aGN V0 = (m ((c : Thread nD τ).loc main_arg11) : FVec Ideal S768 .f32)
  h12 : aWO V0 = (m ((c : Thread nD τ).loc main_arg12) : FVec Ideal S1024x1024 .f32)
  h13 : aL1G V0 = (m ((c : Thread nD τ).loc main_arg13) : FVec Ideal S1024 .f32)
  h14 : aL1B V0 = (m ((c : Thread nD τ).loc main_arg14) : FVec Ideal S1024 .f32)
  h15 : aL2G V0 = (m ((c : Thread nD τ).loc main_arg15) : FVec Ideal S1024 .f32)
  h16 : aL2B V0 = (m ((c : Thread nD τ).loc main_arg16) : FVec Ideal S1024 .f32)
  h17 : aWG V0 = (m ((c : Thread nD τ).loc main_arg17) : FVec Ideal S1024x2816 .f32)
  h18 : aWU V0 = (m ((c : Thread nD τ).loc main_arg18) : FVec Ideal S1024x2816 .f32)
  h19 : aWD V0 = (m ((c : Thread nD τ).loc main_arg19) : FVec Ideal S2816x1024 .f32)

open Cert.Reference5Ideal.Row in
set_option maxHeartbeats 1600000 in
/-- One element of the block is the reference's element at the same place. -/
theorem value (V0 : Valuation Cert.Reference5Ideal.τ Cert.Reference5Ideal.sig (Elt Ideal)) (c : Dev nD) (H : Same m V0 c)
    (t : Fin cfg0.N) (r : Fin 256) (j : Fin 1024) :
    out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 (0 : Fin 1) r j)
      = (Cert.Reference5Ideal.Value.val3 V0 (Proc.devRef .tc Cert.Reference5Ideal.main_v126) : FVec Ideal S1x256x1024 .f32) (ix3 (0 : Fin 1) r j) := by
  obtain ⟨b, hb⟩ : ∃ b : Fin 32, (b : ℕ) = (r : ℕ) / 8 := ⟨⟨(r : ℕ) / 8, by omega⟩, rfl⟩
  obtain ⟨s, hs⟩ : ∃ s : Fin 8, (s : ℕ) = (r : ℕ) % 8 := ⟨⟨(r : ℕ) % 8, by omega⟩, rfl⟩
  have e9 : (V m c main_arg9 : FVec Ideal S3x256 .f32) = aCW V0 := (V_main_arg9 m c).trans H.h9.symm
  refine (row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    (fun a c => aST V0 (ix3 b a c)) (fun s c => aU V0 (ix3 b s c)) r s hs
    (fun a s' k ha hs' => (b2 m c t a k).trans ((congrFun (V_host m c main_v48) _).trans ((hv48 _ b s' a (by omega) hs' k).trans (congrFun H.h2.symm _))))
    (fun a k ha => (b5 m c t r k).trans ((congrFun (V_host m c main_v36) _).trans ((hv36 _ b s r hb hs k a ha).trans (congrFun H.h4.symm _))))
    (fun a k ha => (b6 m c t r k).trans ((congrFun (V_host m c main_v45) _).trans ((hv45 _ b s r hb hs k a ha).trans (congrFun H.h4.symm _)))) j).trans ?_
  refine Eq.trans ?_ ((congrFun (block_perm _ _ _ _ _ _ _ _ _ _ _ _ _ _ _ _ _ _) j).trans (result V0 r b s hb hs _ (fun _ => rfl) j).symm)
  refine block_congr ?_ ?_ ?_ ?_ ?_ ?_ ?_ ?_ ?_ ?_ ?_ ?_ ?_ ?_ ?_ ?_ ?_ ?_ j
  · funext k; exact (b0 m c t r k).trans ((congrFun (V_host m c main_v46) _).trans ((hv46 _ b s r hb hs k).trans (congrFun H.h0.symm _)))
  · funext k; exact (b7 m c t r k).trans ((congrFun (V_host m c main_v20) _).trans ((hv20 _ b s r hb hs k).trans (congrFun H.h5.symm _)))
  · funext k; exact (b9 m c t r k).trans ((congrFun (V_host m c main_v26) _).trans ((hv26 _ b s r hb hs k).trans (congrFun H.h7.symm _)))
  · funext k; exact (b8 m c t r k).trans ((congrFun (V_host m c main_v23) _).trans ((hv23 _ b s r hb hs k).trans (congrFun H.h6.symm _)))
  · funext k; exact (b10 m c t r k).trans ((congrFun (V_host m c main_v29) _).trans ((hv29 _ b s r hb hs k).trans (congrFun H.h8.symm _)))
  · refine conv_congr _ _ _ ?_ ?_ ?_ ?_
    · funext k; exact (b4 m c t r k).trans ((congrFun (V_host m c main_v49) _).trans ((hv49 _ b s r hb hs k).trans (congrFun H.h3.symm _)))
    · funext k; exact (b11 m c t (0 : Fin 3) k).trans (congrFun e9 _)
    · funext k; exact (b11 m c t (1 : Fin 3) k).trans (congrFun e9 _)
    · funext k; exact (b11 m c t (2 : Fin 3) k).trans (congrFun e9 _)
  · funext k; exact (b12 m c t 0 k).trans ((congrFun (V_host m c main_v6) _).trans ((hv6 _ k).trans (congrFun H.h10.symm _)))
  · funext k; exact (b1 m c t r k).trans ((congrFun (V_host m c main_v47) _).trans ((hv47 _ b s r hb hs k).trans ((congrFun H.h1.symm _).trans (v2 V0 b s k).symm)))
  · funext k; exact (b13 m c t 0 k).trans ((congrFun (V_host m c main_v2) _).trans ((hv2 _ k).trans (congrFun H.h11.symm _)))
  · funext k j; exact (b14 m c t k j).trans ((congrFun (V_host m c main_v8) _).trans ((hv8 _ k j).trans (congrFun H.h12.symm _)))
  · funext k j; exact (b15 m c t k j).trans ((congrFun (V_host m c main_v10) _).trans ((hv10 _ k j).trans (congrFun H.h12.symm _)))
  · funext k; exact (b16 m c t 0 k).trans ((congrFun (V_host m c main_v11) _).trans ((hv11 _ k).trans (congrFun H.h13.symm _)))
  · funext k; exact (b17 m c t 0 k).trans ((congrFun (V_host m c main_v12) _).trans ((hv12 _ k).trans (congrFun H.h14.symm _)))
  · funext k; exact (b18 m c t 0 k).trans ((congrFun (V_host m c main_v13) _).trans ((hv13 _ k).trans (congrFun H.h15.symm _)))
  · funext k; exact (b19 m c t 0 k).trans ((congrFun (V_host m c main_v14) _).trans ((hv14 _ k).trans (congrFun H.h16.symm _)))
  · funext k n; exact (b20 m c t k n).trans ((congrFun (V_host m c main_v15) _).trans ((hv15 _ k n).trans (congrFun H.h17.symm _)))
  · funext k n; exact (b21 m c t k n).trans ((congrFun (V_host m c main_v16) _).trans ((hv16 _ k n).trans (congrFun H.h18.symm _)))
  · funext n k; exact (b22 m c t n k).trans ((congrFun (V_host m c main_v17) _).trans ((hv17 _ k n).trans (congrFun H.h19.symm _)))

/-- The output array, from its block's elements. -/
theorem covers23 (c : Dev nD) (T : FVec Ideal S1x256x1024 .f32)
    (hT : ∀ (t : Fin cfg0.N) (r : Fin 256) (j : Fin 1024),
      out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix3 (0 : Fin 1) r j) = T (ix3 (0 : Fin 1) r j)) :
    ((dats m 0 c).arrAt 23 (cfgs 0).N : FVec Ideal S1x256x1024 .f32) = T := by
  refine (dats m 0 c).arrAt_eq_of_covers 23 _ (by decide +kernel) fun t _ y => ?_
  blk_simp [idx t]
  rw [after0_23]
  obtain ⟨z, r, j, rfl⟩ : ∃ (z : Fin 1) (r : Fin 256) (j : Fin 1024), y = ix3 z r j := ⟨y 0, y 1, y 2, eq_ix3 y⟩
  obtain rfl : z = 0 := Fin.ext (by omega)
  refine (hT t r j).trans (congrArg T ?_)
  blk_ext [idx t]

/-- The kernel's result is the reference's. -/
theorem final23 (V0 : Valuation Cert.Reference5Ideal.τ Cert.Reference5Ideal.sig (Elt Ideal)) (c : Dev nD) (H : Same m V0 c) :
    ((dats m 0 c).arrAt 23 (cfgs 0).N : FVec Ideal S1x256x1024 .f32)
      = (Cert.Reference5Ideal.Value.val3 V0 (Proc.devRef .tc Cert.Reference5Ideal.main_v126) : FVec Ideal S1x256x1024 .f32) :=
  covers23 m c _ (value m V0 c H)

end Cert.Kernel5Ideal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Modul
public import proofs.«01_k».proof.Proof.Compr
public import proofs.«01_k».proof.Proof.AttnFrame
public import proofs.«01_k».proof.Proof.AttnBitsFrame
public import proofs.«01_k».proof.Proof.InProjA
public import proofs.«01_k».proof.Proof.InProjB
public import proofs.«01_k».proof.Proof.InProjC
public import proofs.«01_k».proof.Proof.InProjD
public import proofs.«01_k».proof.Proof.Post
public import proofs.«01_k».proof.Proof.SampleInA
public import proofs.«01_k».proof.Proof.SampleInB
public import proofs.«01_k».proof.Proof.SampleInC
public import proofs.«01_k».proof.Proof.SampleInD
public import proofs.«01_k».proof.Proof.SampleBitsFrame
public import proofs.«01_k».proof.Proof.SamplePost
public import Idealize.ShloMosaic.Adequacy
public import Idealize.ShloMosaic.Init

@[expose] public section

noncomputable section

namespace Cert.Proof

open Idealize.ShloMosaic Idealize.SL.Sem Cert.Kernel

theorem attn_bits : Cert.quiescent_Kernel (hKernel := Cert.Kernel.Gen.facts) :=
  fun m ρ _ => Cert.Kernel.Attn.frame (F := Bits) m ρ

theorem attn_ideal : Cert.quiescent_KernelIdeal (hKernelIdeal := Cert.KernelIdeal.Gen.facts) :=
  fun m ρ _ => Cert.KernelIdeal.Attn.frame (F := Ideal) m ρ

set_option maxHeartbeats 4000000 in
theorem ref2 : Cert.quiescent_Reference2Ideal (hReference2Ideal := Cert.Reference2Ideal.Gen.facts) := by
  intro m g _
  refine (θ_run Cert.Reference2Ideal.defs _ _).mono (fun r h => ⟨fun c => (h c).2.2.2.2.2.2.2.2.2, ?_⟩) (Cert.Reference2Ideal.Value.run m g)
  exact sem_eq_zero_of_no_sems (sig := Cert.Reference2Ideal.sig) rfl _

set_option maxHeartbeats 4000000 in
theorem ref3 : Cert.quiescent_Reference3Ideal (hReference3Ideal := Cert.Reference3Ideal.Gen.facts) := by
  intro m g _
  refine (θ_run Cert.Reference3Ideal.defs _ _).mono (fun r h => ⟨fun c => (h c).2, ?_⟩) (Cert.Reference3Ideal.Value.run m g)
  exact sem_eq_zero_of_no_sems (sig := Cert.Reference3Ideal.sig) rfl _

set_option maxHeartbeats 4000000 in
theorem in_proj : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    · exact (Cert.Kernel2Ideal.Val.final4 m c).symm
    · exact (Cert.Kernel2Ideal.Val.final5 m c).symm
    · exact (Cert.Kernel2Ideal.Val.final6 m c).symm
    · exact (Cert.Kernel2Ideal.Val.final7 m c).symm
    · exact (Cert.Kernel2Ideal.Val.final8 m c).symm
    · exact (Cert.Kernel2Ideal.Val.final9 m c).symm
    · exact (Cert.Kernel2Ideal.Val.final10 m c).symm
    · exact (Cert.Kernel2Ideal.Val.final11 m c).symm
    · exact (Cert.Kernel2Ideal.Val.final12 m c).symm

/-- Memories that agree on the arguments give the same rows. -/
theorem same {m : (ℓ : Loc Cert.Kernel3Ideal.nD Cert.Kernel3Ideal.τ Cert.Kernel3Ideal.sig) → Buf (Elt Ideal) ℓ}
    {m' : (ℓ : Loc Cert.Reference3Ideal.nD Cert.Reference3Ideal.τ Cert.Reference3Ideal.sig) → Buf (Elt Ideal) ℓ}
    (h : ∀ c : Dev Cert.Kernel3Ideal.nD, m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18))
    (c : Dev Cert.Kernel3Ideal.nD) : Cert.Kernel3Ideal.Val.Same m (StableHlo.launchContents m' c) c := by
  obtain ⟨h0, h1, h2, h3, h4, h5, h6, h7, h8, h9, h10, h11, h12, h13, h14, h15, h16, h17, h18⟩ := h c
  exact ⟨h0, h1, h2, h3, h4, h5, h6, h7, h8, h9, h10, h11, h12, h13, h14, h15, h16, h17, h18⟩

set_option maxHeartbeats 4000000 in
theorem post : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · have hs := fun c => same hagree c
    clear hagree
    run_from Cert.Reference3Ideal.Value.run m' g'
    exact (Cert.Reference3Ideal.Value.val3_main_v121 (StableHlo.launchContents m' c)).symm.trans
      (Cert.Kernel3Ideal.Val.final23 m (StableHlo.launchContents m' c) c (hs c)).symm

set_option maxHeartbeats 4000000 in
theorem ref4 : Cert.quiescent_Reference4Ideal (hReference4Ideal := Cert.Reference4Ideal.Gen.facts) := by
  intro m g _
  refine (θ_run Cert.Reference4Ideal.defs _ _).mono (fun r h => ⟨fun c => (h c).2.2.2.2.2.2.2.2.2, ?_⟩) (Cert.Reference4Ideal.Value.run m g)
  exact sem_eq_zero_of_no_sems (sig := Cert.Reference4Ideal.sig) rfl _

set_option maxHeartbeats 4000000 in
theorem sample_in : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact (Cert.Kernel4Ideal.Val.final4 m c).symm
    · exact (Cert.Kernel4Ideal.Val.final5 m c).symm
    · exact (Cert.Kernel4Ideal.Val.final6 m c).symm
    · exact (Cert.Kernel4Ideal.Val.final7 m c).symm
    · exact (Cert.Kernel4Ideal.Val.final8 m c).symm
    · exact (Cert.Kernel4Ideal.Val.final9 m c).symm
    · exact (Cert.Kernel4Ideal.Val.final10 m c).symm
    · exact (Cert.Kernel4Ideal.Val.final11 m c).symm
    · exact (Cert.Kernel4Ideal.Val.final12 m c).symm

set_option maxHeartbeats 4000000 in
theorem ref5 : Cert.quiescent_Reference5Ideal (hReference5Ideal := Cert.Reference5Ideal.Gen.facts) := by
  intro m g _
  refine (θ_run Cert.Reference5Ideal.defs _ _).mono (fun r h => ⟨fun c => (h c).2, ?_⟩) (Cert.Reference5Ideal.Value.run m g)
  exact sem_eq_zero_of_no_sems (sig := Cert.Reference5Ideal.sig) rfl _

/-- Memories that agree on the arguments give the same rows of the samples. -/
theorem same5 {m : (ℓ : Loc Cert.Kernel5Ideal.nD Cert.Kernel5Ideal.τ Cert.Kernel5Ideal.sig) → Buf (Elt Ideal) ℓ}
    {m' : (ℓ : Loc Cert.Reference5Ideal.nD Cert.Reference5Ideal.τ Cert.Reference5Ideal.sig) → Buf (Elt Ideal) ℓ}
    (h : ∀ c : Dev Cert.Kernel5Ideal.nD, m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19))
    (c : Dev Cert.Kernel5Ideal.nD) : Cert.Kernel5Ideal.Val.Same m (StableHlo.launchContents m' c) c := by
  obtain ⟨h0, h1, h2, h3, h4, h5, h6, h7, h8, h9, h10, h11, h12, h13, h14, h15, h16, h17, h18, h19⟩ := h c
  exact ⟨h0, h1, h2, h3, h4, h5, h6, h7, h8, h9, h10, h11, h12, h13, h14, h15, h16, h17, h18, h19⟩

set_option maxHeartbeats 4000000 in
theorem sample_post : Cert.algebraic_Kernel5Ideal_Reference5Ideal (hKernel5Ideal := Cert.Kernel5Ideal.Gen.facts)
    (hReference5Ideal := Cert.Reference5Ideal.Gen.facts) := by
  pair_intro
  · run_from Cert.Kernel5Ideal.Own.run_blocks m g
  · have hs := fun c => same5 hagree c
    clear hagree
    run_from Cert.Reference5Ideal.Value.run m' g'
    exact (Cert.Reference5Ideal.Value.val3_main_v126 (StableHlo.launchContents m' c)).symm.trans
      (Cert.Kernel5Ideal.Val.final23 m (StableHlo.launchContents m' c) c (hs c)).symm

set_option maxHeartbeats 4000000 in
theorem ref6 : Cert.quiescent_Reference6Ideal (hReference6Ideal := Cert.Reference6Ideal.Gen.facts) := by
  intro m g _
  refine (θ_run Cert.Reference6Ideal.defs _ _).mono (fun r h => ⟨fun c => (h c).2, ?_⟩) (Cert.Reference6Ideal.Value.run m g)
  exact sem_eq_zero_of_no_sems (sig := Cert.Reference6Ideal.sig) rfl _

set_option maxHeartbeats 4000000 in
theorem modul : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · have h3 := fun c => (hagree c).2.2.2
    run_from Cert.Reference6Ideal.Value.run m' g'
    rw [h3 c]
    exact (Cert.Kernel6Ideal.Val.final3 m c).symm

set_option maxHeartbeats 4000000 in
theorem ref7 : Cert.quiescent_Reference7Ideal (hReference7Ideal := Cert.Reference7Ideal.Gen.facts) := by
  intro m g _
  refine (θ_run Cert.Reference7Ideal.defs _ _).mono (fun r h => ⟨fun c => (h c).2, ?_⟩) (Cert.Reference7Ideal.Value.run m g)
  exact sem_eq_zero_of_no_sems (sig := Cert.Reference7Ideal.sig) rfl _

/-- Memories that agree on the arguments give the same compressed rows. -/
theorem same7 {m : (ℓ : Loc Cert.Kernel7Ideal.nD Cert.Kernel7Ideal.τ Cert.Kernel7Ideal.sig) → Buf (Elt Ideal) ℓ}
    {m' : (ℓ : Loc Cert.Reference7Ideal.nD Cert.Reference7Ideal.τ Cert.Reference7Ideal.sig) → Buf (Elt Ideal) ℓ} (c : Dev Cert.Kernel7Ideal.nD)
    (h : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) :
    Cert.Reference7Ideal.Value.res_main_v33 m' c = (Cert.Kernel7Ideal.Gen.dats m 0 c).arrAt 6 (Cert.Kernel7Ideal.cfgs 0).N := by
  obtain ⟨h0, h1, h2, h3, h4⟩ := h
  refine Eq.trans ?_ (Cert.Kernel7Ideal.Val.final6 m c).symm
  unfold Cert.Reference7Ideal.Value.res_main_v33
  rw [h0, h1, h2, h3, h4]
  rfl

set_option maxHeartbeats 4000000 in
theorem compr : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · have hs := fun c => same7 c (hagree c)
    clear hagree
    run_from Cert.Reference7Ideal.Value.run m' g'
    exact hs c

theorem claim : Cert.Claim :=
  ⟨Cert.Kernel.Gen.facts, Cert.KernelIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, attn_bits, attn_ideal, fun m ρ _ => Cert.Kernel2.Gen.frame m ρ, fun m ρ _ => Cert.Kernel2Ideal.Gen.frame m ρ, ref2,
    fun m ρ _ => Cert.Kernel3.Gen.frame m ρ, fun m ρ _ => Cert.Kernel3Ideal.Gen.frame m ρ, ref3,
    fun m ρ _ => Cert.Kernel4.Gen.frame m ρ, fun m ρ _ => Cert.Kernel4Ideal.Gen.frame m ρ, ref4,
    fun m ρ _ => Cert.Kernel5.Own.frame m ρ, fun m ρ _ => Cert.Kernel5Ideal.Own.frame m ρ, ref5,
    fun m ρ _ => Cert.Kernel6.Gen.frame m ρ, fun m ρ _ => Cert.Kernel6Ideal.Gen.frame m ρ, ref6,
    fun m ρ _ => Cert.Kernel7.Gen.frame m ρ, fun m ρ _ => Cert.Kernel7Ideal.Gen.frame m ρ, ref7, trivial, trivial, in_proj,
    IdealRules.named_const.statement Cert.Kernel3Ideal.κ "inv_dim" .f32 0x3AAAAAAB#32 ((1 / 768 : ℝ) : EReal) rfl, post,
    trivial, sample_in,
    IdealRules.named_const.statement Cert.Kernel5Ideal.κ "inv_dim" .f32 0x3AAAAAAB#32 ((1 / 768 : ℝ) : EReal) rfl, sample_post,
    trivial, modul, trivial, compr⟩

end Cert.Proof

end
